-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Moe [hPre_tokens_of_the_sequence : Cert.Pre_tokens_of_the_sequence.Facts] (m : (ℓ : Loc Cert.Moe.nD Cert.Moe.τ Cert.Moe.sig) → Buf (Elt Bits) ℓ) : Prop :=
  ∀ c : Dev Cert.Moe.nD,
    (Cert.Pre_tokens_of_the_sequence.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_tokens_of_the_sequence : Cert.Pre_tokens_of_the_sequence.Facts] (m : (ℓ : Loc Cert.MoeIdeal.nD Cert.MoeIdeal.τ Cert.MoeIdeal.sig) → Buf (Elt Ideal) ℓ) : Prop :=
  ∀ c : Dev Cert.MoeIdeal.nD,
    (Cert.Pre_tokens_of_the_sequence.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tokens_of_the_sequence [hPre_tokens_of_the_sequence : Cert.Pre_tokens_of_the_sequence.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tokens_of_the_sequence.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Moe [hMoe : Cert.Moe.Facts] [hPre_tokens_of_the_sequence : Cert.Pre_tokens_of_the_sequence.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_tokens_of_the_sequence : Cert.Pre_tokens_of_the_sequence.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_tokens_of_the_sequence [hMoeRefIdeal : Cert.MoeRefIdeal.Facts] [hPre_tokens_of_the_sequence : Cert.Pre_tokens_of_the_sequence.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tokens_of_the_sequence m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)
      ∧ m' ((c.tc : Thread Cert.MixerRefIdeal.nD Cert.MixerRefIdeal.τ).loc Cert.MixerRefIdeal.main_arg15) = m ((c.tc : Thread Cert.MixerIdeal.nD Cert.MixerIdeal.τ).loc Cert.MixerIdeal.main_arg15)
      ∧ m' ((c.tc : Thread Cert.MixerRefIdeal.nD Cert.MixerRefIdeal.τ).loc Cert.MixerRefIdeal.main_arg16) = m ((c.tc : Thread Cert.MixerIdeal.nD Cert.MixerIdeal.τ).loc Cert.MixerIdeal.main_arg16)) →
    ∃ (v0 : (c : Dev Cert.MixerIdeal.nD) → Buf (Elt Ideal) ((c.tc : Thread Cert.MixerIdeal.nD Cert.MixerIdeal.τ).loc Cert.MixerIdeal.main_v20_0)) (v1 : (c : Dev Cert.MixerIdeal.nD) → Buf (Elt Ideal) ((c.tc : Thread Cert.MixerIdeal.nD Cert.MixerIdeal.τ).loc Cert.MixerIdeal.main_v20_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v20_0) = v0 c
          ∧ r.2.mem ((c.tc : Thread Cert.MixerIdeal.nD Cert.MixerIdeal.τ).loc Cert.MixerIdeal.main_v20_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
          ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v257) = v0 c
          ∧ r.2.mem ((c.tc : Thread Cert.MixerRefIdeal.nD Cert.MixerRefIdeal.τ).loc Cert.MixerRefIdeal.main_v259) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15)
          ∧ r.2.mem ((c.tc : Thread Cert.MixerRefIdeal.nD Cert.MixerRefIdeal.τ).loc Cert.MixerRefIdeal.main_arg16) = m' ((c.tc : Thread Cert.MixerRefIdeal.nD Cert.MixerRefIdeal.τ).loc Cert.MixerRefIdeal.main_arg16))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v24) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Moe_MoeIdeal : Prop :=
  True

def algebraic_MoeIdeal_MoeRefIdeal [hMoeIdeal : Cert.MoeIdeal.Facts] [hMoeRefIdeal : Cert.MoeRefIdeal.Facts] [hPre_tokens_of_the_sequence : Cert.Pre_tokens_of_the_sequence.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v7)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v7) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v19) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def Claim : Prop :=
  ∃ (hMixer : Cert.Mixer.Facts) (hMixerIdeal : Cert.MixerIdeal.Facts) (hMixerRefIdeal : Cert.MixerRefIdeal.Facts) (hNorm : Cert.Norm.Facts) (hNormIdeal : Cert.NormIdeal.Facts) (hNormRefIdeal : Cert.NormRefIdeal.Facts) (hMoe : Cert.Moe.Facts) (hMoeIdeal : Cert.MoeIdeal.Facts) (hMoeRefIdeal : Cert.MoeRefIdeal.Facts) (hPre_tokens_of_the_sequence : Cert.Pre_tokens_of_the_sequence.Facts),
    quiescent_Mixer (hMixer := hMixer)
    ∧ quiescent_MixerIdeal (hMixerIdeal := hMixerIdeal)
    ∧ quiescent_MixerRefIdeal (hMixerRefIdeal := hMixerRefIdeal)
    ∧ quiescent_Norm (hNorm := hNorm)
    ∧ quiescent_NormIdeal (hNormIdeal := hNormIdeal)
    ∧ quiescent_NormRefIdeal (hNormRefIdeal := hNormRefIdeal)
    ∧ quiescent_Moe (hMoe := hMoe) (hPre_tokens_of_the_sequence := hPre_tokens_of_the_sequence)
    ∧ quiescent_MoeIdeal (hMoeIdeal := hMoeIdeal) (hPre_tokens_of_the_sequence := hPre_tokens_of_the_sequence)
    ∧ quiescent_MoeRefIdeal (hMoeRefIdeal := hMoeRefIdeal)
    ∧ quiescent_MoeRefIdeal_pre_tokens_of_the_sequence (hMoeRefIdeal := hMoeRefIdeal) (hPre_tokens_of_the_sequence := hPre_tokens_of_the_sequence)
    ∧ preserves_Mixer_MixerIdeal
    ∧ algebraic_MixerIdeal_MixerRefIdeal (hMixerIdeal := hMixerIdeal) (hMixerRefIdeal := hMixerRefIdeal)
    ∧ preserves_Norm_NormIdeal
    ∧ algebraic_NormIdeal_NormRefIdeal (hNormIdeal := hNormIdeal) (hNormRefIdeal := hNormRefIdeal)
    ∧ preserves_Moe_MoeIdeal
    ∧ algebraic_MoeIdeal_MoeRefIdeal (hMoeIdeal := hMoeIdeal) (hMoeRefIdeal := hMoeRefIdeal) (hPre_tokens_of_the_sequence := hPre_tokens_of_the_sequence)
-- ==== Pre_tokens_of_the_sequence.lean ====
abbrev S8x4096x1024 : Shape := ⟨3, ![8, 4096, 1024]⟩
abbrev S8x16x512 : Shape := ⟨3, ![8, 16, 512]⟩
abbrev S16x1024x2048 : Shape := ⟨3, ![16, 1024, 2048]⟩
abbrev S16x2048x1024 : Shape := ⟨3, ![16, 2048, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S8x16x512x1 : Shape := ⟨4, ![8, 16, 512, 1]⟩
abbrev S8x16x1x512 : Shape := ⟨4, ![8, 16, 1, 512]⟩
abbrev S8x16x512x512 : Shape := ⟨4, ![8, 16, 512, 512]⟩
abbrev S1x1x512x512 : Shape := ⟨4, ![1, 1, 512, 512]⟩

class Facts : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S8x16x512 : S_.BroadcastsInDim S8x16x512 (![] : Fin 0 → Fin S8x16x512.rank)
  reducesTo_S8x16x512_S_d0_1_2 : S8x16x512.ReducesTo [0, 1, 2] S_
  h_S_ : 0 < S_.numel
  bcast_S8x16x512_S8x16x512x1_0_1_2 : S8x16x512.BroadcastsInDim S8x16x512x1 (![0, 1, 2] : Fin 3 → Fin S8x16x512x1.rank)
  bcast_S8x16x512_S8x16x1x512_0_1_3 : S8x16x512.BroadcastsInDim S8x16x1x512 (![0, 1, 3] : Fin 3 → Fin S8x16x1x512.rank)
  bcast_S8x16x512x1_S8x16x512x512_0_1_2_3 : S8x16x512x1.BroadcastsInDim S8x16x512x512 (![0, 1, 2, 3] : Fin 4 → Fin S8x16x512x512.rank)
  bcast_S8x16x1x512_S8x16x512x512_0_1_2_3 : S8x16x1x512.BroadcastsInDim S8x16x512x512 (![0, 1, 2, 3] : Fin 4 → Fin S8x16x512x512.rank)
  bcast_S512x512_S1x1x512x512_2_3 : S512x512.BroadcastsInDim S1x1x512x512 (![2, 3] : Fin 2 → Fin S1x1x512x512.rank)
  bcast_S1x1x512x512_S8x16x512x512_0_1_2_3 : S1x1x512x512.BroadcastsInDim S8x16x512x512 (![0, 1, 2, 3] : Fin 4 → Fin S8x16x512x512.rank)
  reducesTo_S8x16x512x512_S_d0_1_2_3 : S8x16x512x512.ReducesTo [0, 1, 2, 3] S_

variable [Facts]

def fn_part1 {F : FTy → Type} [FloatOps F] (main_v12 : IVec S_ 1) (main_v17 : IVec S8x16x512x512 1) (main_v20 : IVec S8x16x512x512 1) : IVec S_ 1 :=
  let main_v21 : IVec S8x16x512x512 1 := ori main_v17 main_v20
  let main_c_2 : IVec S_ 1 := constantI S_ 1 1#1
  let main_v22 : IVec S_ 1 := (fun x v => Host.reduce IntOp.andi x v reducesTo_S8x16x512x512_S_d0_1_2_3 h_S_) main_v21 main_c_2
  let main_v23 : IVec S_ 1 := andi main_v12 main_v22
  main_v23

def fn {F : FTy → Type} [FloatOps F] (main_arg0 : FVec F S8x4096x1024 .f32) (main_arg1 : IVec S8x16x512 32) (main_arg2 : FVec F S8x16x512 .f32) (main_arg3 : FVec F S16x1024x2048 .f32) (main_arg4 : FVec F S16x1024x2048 .f32) (main_arg5 : FVec F S16x2048x1024 .f32) : IVec S_ 1 :=
  let main_v0 : IVec S512 32 := iotaInDim S512 32 0
  let main_v1 : IVec S512x1 32 := broadcastInDim S512x1 ![0] bcast_S512_S512x1_0 main_v0
  let main_v2 : IVec S512 32 := iotaInDim S512 32 0
  let main_v3 : IVec S1x512 32 := broadcastInDim S1x512 ![1] bcast_S512_S1x512_1 main_v2
  let main_v4 : IVec S512x512 32 := broadcastInDim S512x512 ![0, 1] bcast_S512x1_S512x512_0_1 main_v1
  let main_v5 : IVec S512x512 32 := broadcastInDim S512x512 ![0, 1] bcast_S1x512_S512x512_0_1 main_v3
  let main_v6 : IVec S512x512 1 := cmpi .ne main_v4 main_v5
  let main_c : IVec S_ 32 := constantI S_ 32 0#32
  let main_v7 : IVec S8x16x512 32 := broadcastInDim S8x16x512 ![] bcast_S_S8x16x512 main_c
  let main_v8 : IVec S8x16x512 1 := cmpi .sge main_arg1 main_v7
  let main_c_0 : IVec S_ 32 := constantI S_ 32 4096#32
  let main_v9 : IVec S8x16x512 32 := broadcastInDim S8x16x512 ![] bcast_S_S8x16x512 main_c_0
  let main_v10 : IVec S8x16x512 1 := cmpi .slt main_arg1 main_v9
  let main_v11 : IVec S8x16x512 1 := andi main_v8 main_v10
  let main_c_1 : IVec S_ 1 := constantI S_ 1 1#1
  let main_v12 : IVec S_ 1 := (fun x v => Host.reduce IntOp.andi x v reducesTo_S8x16x512_S_d0_1_2 h_S_) main_v11 main_c_1
  let main_v13 : IVec S8x16x512x1 32 := broadcastInDim S8x16x512x1 ![0, 1, 2] bcast_S8x16x512_S8x16x512x1_0_1_2 main_arg1
  let main_v14 : IVec S8x16x1x512 32 := broadcastInDim S8x16x1x512 ![0, 1, 3] bcast_S8x16x512_S8x16x1x512_0_1_3 main_arg1
  let main_v15 : IVec S8x16x512x512 32 := broadcastInDim S8x16x512x512 ![0, 1, 2, 3] bcast_S8x16x512x1_S8x16x512x512_0_1_2_3 main_v13
  let main_v16 : IVec S8x16x512x512 32 := broadcastInDim S8x16x512x512 ![0, 1, 2, 3] bcast_S8x16x1x512_S8x16x512x512_0_1_2_3 main_v14
  let main_v17 : IVec S8x16x512x512 1 := cmpi .ne main_v15 main_v16
  let main_v18 : IVec S512x512 1 := noti main_v6
  let main_v19 : IVec S1x1x512x512 1 := broadcastInDim S1x1x512x512 ![2, 3] bcast_S512x512_S1x1x512x512_2_3 main_v18
  let main_v20 : IVec S8x16x512x512 1 := broadcastInDim S8x16x512x512 ![0, 1, 2, 3] bcast_S1x1x512x512_S8x16x512x512_0_1_2_3 main_v19
  fn_part1 (F := F) main_v12 main_v17 main_v20
-- ==== Mixer.lean ====
abbrev S8x4096x1024 : Shape := ⟨3, ![8, 4096, 1024]⟩
abbrev S1024 : Shape := ⟨1, ![1024]⟩
abbrev S1024x4608 : Shape := ⟨2, ![1024, 4608]⟩
abbrev S4608 : Shape := ⟨1, ![4608]⟩
abbrev S4x128x128 : Shape := ⟨3, ![4, 128, 128]⟩
abbrev S512 : Shape := ⟨1, ![512]⟩
abbrev S8x128x128 : Shape := ⟨3, ![8, 128, 128]⟩
abbrev S8x128 : Shape := ⟨2, ![8, 128]⟩
abbrev S512x1024 : Shape := ⟨2, ![512, 1024]⟩
abbrev S1024x1024 : Shape := ⟨2, ![1024, 1024]⟩
abbrev S1024x16 : Shape := ⟨2, ![1024, 16]⟩
abbrev S32768x1024 : Shape := ⟨2, ![32768, 1024]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x4608 : Shape := ⟨2, ![1, 4608]⟩
abbrev S1x512 : Shape := ⟨2, ![1, 512]⟩
abbrev S16x1024 : Shape := ⟨2, ![16, 1024]⟩
abbrev S16x32768 : Shape := ⟨2, ![16, 32768]⟩
abbrev S8x1024 : Shape := ⟨2, ![8, 1024]⟩
abbrev S16x512 : Shape := ⟨2, ![16, 512]⟩
abbrev S512x4608 : Shape := ⟨2, ![512, 4608]⟩
abbrev S528x512 : Shape := ⟨2, ![528, 512]⟩
abbrev S512x512 : Shape := ⟨2, ![512, 512]⟩
abbrev S512x1 : Shape := ⟨2, ![512, 1]⟩
abbrev S8 : Shape := ⟨1, ![8]⟩
abbrev S8x1 : Shape := ⟨2, ![8, 1]⟩
abbrev S1024x512 : Shape := ⟨2, ![1024, 512]⟩
abbrev S8x512 : Shape := ⟨2, ![8, 512]⟩
abbrev S128x1 : Shape := ⟨2, ![128, 1]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩

abbrev nBuf : Space → Nat
  | .hbm => 39
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x4608, .f32⟩
  | .hbm, ⟨4, _⟩ => ⟨S4608, .f32⟩
  | .hbm, ⟨5, _⟩ => ⟨S4x128x128, .f32⟩
  | .hbm, ⟨6, _⟩ => ⟨S512, .f32⟩
  | .hbm, ⟨7, _⟩ => ⟨S1024, .f32⟩
  | .hbm, ⟨8, _⟩ => ⟨S1024, .f32⟩
  | .hbm, ⟨9, _⟩ => ⟨S8x128x128, .f32⟩
  | .hbm, ⟨10, _⟩ => ⟨S8x128, .f32⟩
  | .hbm, ⟨11, _⟩ => ⟨S512x1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024, .f32⟩
  | .hbm, ⟨16, _⟩ => ⟨S1024x16, .f32⟩
  | .hbm, ⟨17, _⟩ => ⟨S32768x1024, .f32⟩
  | .hbm, ⟨18, _⟩ => ⟨S128x8, .f32⟩
  | .hbm, ⟨19, _⟩ => ⟨S128x8x128, .f32⟩
  | .hbm, ⟨20, _⟩ => ⟨S128x1024, .f32⟩
  | .hbm, ⟨21, _⟩ => ⟨S1x1024, .f32⟩
  | .hbm, ⟨22, _⟩ => ⟨S1x1024, .f32⟩
  | .hbm, ⟨23, _⟩ => ⟨S1024x4608, .bf16⟩
  | .hbm, ⟨24, _⟩ => ⟨S1x4608, .f32⟩
  | .hbm, ⟨25, _⟩ => ⟨S4x128x128, .bf16⟩
  | .hbm, ⟨26, _⟩ => ⟨S1x512, .f32⟩
  | .hbm, ⟨27, _⟩ => ⟨S1x1024, .f32⟩
  | .hbm, ⟨28, _⟩ => ⟨S1x1024, .f32⟩
  | .hbm, ⟨29, _⟩ => ⟨S8x128x128, .bf16⟩
  | .hbm, ⟨30, _⟩ => ⟨S512x1024, .bf16⟩
  | .hbm, ⟨31, _⟩ => ⟨S1024x1024, .bf16⟩
  | .hbm, ⟨32, _⟩ => ⟨S1024x1024, .bf16⟩
  | .hbm, ⟨33, _⟩ => ⟨S1x1024, .f32⟩
  | .hbm, ⟨34, _⟩ => ⟨S1x1024, .f32⟩
  | .hbm, ⟨35, _⟩ => ⟨S16x1024, .f32⟩
  | .hbm, ⟨36, _⟩ => ⟨S16x1024, .bf16⟩
  | .hbm, ⟨37, _⟩ => ⟨S32768x1024, .f32⟩
  | .hbm, ⟨38, _⟩ => ⟨S16x32768, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S1024x4608, .bf16⟩
  | .local _ .vmem, ⟨9, _⟩ => ⟨S1x4608, .f32⟩
  | .local _ .vmem, ⟨10, _⟩ => ⟨S4x128x128, .bf16⟩
  | .local _ .vmem, ⟨11, _⟩ => ⟨S1x512, .f32⟩
  | .local _ .vmem, ⟨12, _⟩ => ⟨S1x1024, .f32⟩
  | .local _ .vmem, ⟨13, _⟩ => ⟨S1x1024, .f32⟩
  | .local _ .vmem, ⟨14, _⟩ => ⟨S8x128x128, .bf16⟩
  | .local _ .vmem, ⟨15, _⟩ => ⟨S128x1024, .f32⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S16x1024, .bf16⟩
  | .local _ .vmem, ⟨22, _⟩ => ⟨S512x1024, .f32⟩
  | .local _ .vmem, ⟨23, _⟩ => ⟨S512x1024, .f32⟩
  | .local _ .vmem, ⟨24, _⟩ => ⟨S16x512, .f32⟩
  | .local _ .vmem, ⟨25, _⟩ => ⟨S16x512, .f32⟩
  | .local _ .vmem, ⟨26, _⟩ => ⟨S512x4608, .f32⟩
  | .local _ .vmem, ⟨27, _⟩ => ⟨S528x512, .f32⟩
  | .local _ .vmem, ⟨28, _⟩ => ⟨S512x512, .bf16⟩
  | .local _ .vmem, ⟨29, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MixerRefIdeal.lean ====
abbrev S8x4096x1024 : Shape := ⟨3, ![8, 4096, 1024]⟩
abbrev S1024 : Shape := ⟨1, ![1024]⟩
abbrev S1024x4608 : Shape := ⟨2, ![1024, 4608]⟩
abbrev S4608 : Shape := ⟨1, ![4608]⟩
abbrev S4x128x128 : Shape := ⟨3, ![4, 128, 128]⟩
abbrev S512 : Shape := ⟨1, ![512]⟩
abbrev S8x128x128 : Shape := ⟨3, ![8, 128, 128]⟩
abbrev S8x128 : Shape := ⟨2, ![8, 128]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4608 : Shape := ⟨3, ![8, 4096, 4608]⟩
abbrev S1x1x4608 : Shape := ⟨3, ![1, 1, 4608]⟩
abbrev S8x4096x512 : Shape := ⟨3, ![8, 4096, 512]⟩
abbrev S4096 : Shape := ⟨1, ![4096]⟩
abbrev S8x4096x128 : Shape := ⟨3, ![8, 4096, 128]⟩
abbrev S1x4096 : Shape := ⟨2, ![1, 4096]⟩
abbrev S4096x1 : Shape := ⟨2, ![4096, 1]⟩
abbrev S4096x4096 : Shape := ⟨2, ![4096, 4096]⟩
abbrev S1x4096x1 : Shape := ⟨3, ![1, 4096, 1]⟩
abbrev S8x128x4096 : Shape := ⟨3, ![8, 128, 4096]⟩
abbrev S8x4096x4x128 : Shape := ⟨4, ![8, 4096, 4, 128]⟩
abbrev S4x128x8x4096 : Shape := ⟨4, ![4, 128, 8, 4096]⟩
abbrev S1x1x512 : Shape := ⟨3, ![1, 1, 512]⟩
abbrev S8x32x128x8x128 : Shape := ⟨5, ![8, 32, 128, 8, 128]⟩
abbrev S8x8x32x128x128 : Shape := ⟨5, ![8, 8, 32, 128, 128]⟩
abbrev S128x8 : Shape := ⟨2, ![128, 8]⟩
abbrev S1x1x128x8x1 : Shape := ⟨5, ![1, 1, 128, 8, 1]⟩
abbrev S8x4096x16 : Shape := ⟨3, ![8, 4096, 16]⟩
abbrev S32768x1024 : Shape := ⟨2, ![32768, 1024]⟩
abbrev S32768x16 : Shape := ⟨2, ![32768, 16]⟩
abbrev S16x32768 : Shape := ⟨2, ![16, 32768]⟩

abbrev nBuf : Space → Nat
  | .hbm => 321
  | .vmem => 0
  | .smem => 0
  | _ => 0

abbrev hbmTy0_0 (i : Nat) : BufTy := match i % 128 with
  | 0 => ⟨S8x4096x1024, .f32⟩
  | 1 => ⟨S1024, .f32⟩
  | 2 => ⟨S1024, .f32⟩
  | 3 => ⟨S1024x4608, .f32⟩
  | 4 => ⟨S4608, .f32⟩
  | 5 => ⟨S4x128x128, .f32⟩
  | 6 => ⟨S512, .f32⟩
  | 7 => ⟨S1024, .f32⟩
  | 8 => ⟨S1024, .f32⟩
  | 9 => ⟨S8x128x128, .f32⟩
  | 10 => ⟨S8x128, .f32⟩
  | 11 => ⟨S512x1024, .f32⟩
  | 12 => ⟨S1024x1024, .f32⟩
  | 13 => ⟨S1024x1024, .f32⟩
  | 14 => ⟨S1024, .f32⟩
  | 15 => ⟨S1024, .f32⟩
  | 16 => ⟨S1024x16, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S8x4096x1024, .f32⟩
  | 24 => ⟨S8x4096x1024, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S1x1x1024, .f32⟩
  | 42 => ⟨S8x4096x1024, .f32⟩
  | 43 => ⟨S8x4096x1024, .f32⟩
  | 44 => ⟨S8x4096x4608, .f32⟩
  | 45 => ⟨S1x1x4608, .f32⟩
  | 46 => ⟨S8x4096x4608, .f32⟩
  | 47 => ⟨S8x4096x4608, .f32⟩
  | 48 => ⟨S8x4096x512, .f32⟩
  | 49 => ⟨S8x4096x1024, .f32⟩
  | 50 => ⟨S8x4096x1024, .f32⟩
  | 51 => ⟨S8x4096x1024, .f32⟩
  | 52 => ⟨S8x4096x1024, .f32⟩
  | 53 => ⟨S4096, .i32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S8x4096x128, .f32⟩
  | 67 => ⟨S1x4096, .i32⟩
  | 68 => ⟨S4096x1, .i32⟩
  | 69 => ⟨S4096x4096, .i32⟩
  | 70 => ⟨S4096x4096, .i32⟩
  | 71 => ⟨S4096x4096, .i1⟩
  | 72 => ⟨S1x4096, .i32⟩
  | 73 => ⟨S4096x1, .i32⟩
  | 74 => ⟨S4096x4096, .i32⟩
  | 75 => ⟨S4096x4096, .i32⟩
  | 76 => ⟨S4096x4096, .i1⟩
  | 77 => ⟨S4096x4096, .i1⟩
  | 78 => ⟨S4096x4096, .f32⟩
  | 79 => ⟨S4096, .i32⟩
  | 80 => ⟨S4096, .f32⟩
  | 81 => ⟨S1x4096x1, .f32⟩
  | 82 => ⟨S8x128x4096, .f32⟩
  | 83 => ⟨S8x4096x128, .f32⟩
  | 84 => ⟨S8x4096x128, .f32⟩
  | 85 => ⟨S8x4096x128, .f32⟩
  | 86 => ⟨S8x4096x128, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S8x4096x128, .f32⟩
  | 100 => ⟨S1x4096, .i32⟩
  | 101 => ⟨S4096x1, .i32⟩
  | 102 => ⟨S4096x4096, .i32⟩
  | 103 => ⟨S4096x4096, .i32⟩
  | 104 => ⟨S4096x4096, .i1⟩
  | 105 => ⟨S1x4096, .i32⟩
  | 106 => ⟨S4096x1, .i32⟩
  | 107 => ⟨S4096x4096, .i32⟩
  | 108 => ⟨S4096x4096, .i32⟩
  | 109 => ⟨S4096x4096, .i1⟩
  | 110 => ⟨S4096x4096, .i1⟩
  | 111 => ⟨S4096x4096, .f32⟩
  | 112 => ⟨S4096, .i32⟩
  | 113 => ⟨S4096, .f32⟩
  | 114 => ⟨S1x4096x1, .f32⟩
  | 115 => ⟨S8x128x4096, .f32⟩
  | 116 => ⟨S8x4096x128, .f32⟩
  | 117 => ⟨S8x4096x128, .f32⟩
  | 118 => ⟨S8x4096x128, .f32⟩
  | 119 => ⟨S8x4096x128, .f32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S_, .i32⟩
  | 127 => ⟨S4096, .i32⟩
  | _ => ⟨S8x4096x1024, .f32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S8x4096x128, .f32⟩
  | 5 => ⟨S1x4096, .i32⟩
  | 6 => ⟨S4096x1, .i32⟩
  | 7 => ⟨S4096x4096, .i32⟩
  | 8 => ⟨S4096x4096, .i32⟩
  | 9 => ⟨S4096x4096, .i1⟩
  | 10 => ⟨S1x4096, .i32⟩
  | 11 => ⟨S4096x1, .i32⟩
  | 12 => ⟨S4096x4096, .i32⟩
  | 13 => ⟨S4096x4096, .i32⟩
  | 14 => ⟨S4096x4096, .i1⟩
  | 15 => ⟨S4096x4096, .i1⟩
  | 16 => ⟨S4096x4096, .f32⟩
  | 17 => ⟨S4096, .i32⟩
  | 18 => ⟨S4096, .f32⟩
  | 19 => ⟨S1x4096x1, .f32⟩
  | 20 => ⟨S8x128x4096, .f32⟩
  | 21 => ⟨S8x4096x128, .f32⟩
  | 22 => ⟨S8x4096x128, .f32⟩
  | 23 => ⟨S8x4096x128, .f32⟩
  | 24 => ⟨S8x4096x128, .f32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S8x4096x128, .f32⟩
  | 38 => ⟨S1x4096, .i32⟩
  | 39 => ⟨S4096x1, .i32⟩
  | 40 => ⟨S4096x4096, .i32⟩
  | 41 => ⟨S4096x4096, .i32⟩
  | 42 => ⟨S4096x4096, .i1⟩
  | 43 => ⟨S1x4096, .i32⟩
  | 44 => ⟨S4096x1, .i32⟩
  | 45 => ⟨S4096x4096, .i32⟩
  | 46 => ⟨S4096x4096, .i32⟩
  | 47 => ⟨S4096x4096, .i1⟩
  | 48 => ⟨S4096x4096, .i1⟩
  | 49 => ⟨S4096x4096, .f32⟩
  | 50 => ⟨S4096, .i32⟩
  | 51 => ⟨S4096, .f32⟩
  | 52 => ⟨S1x4096x1, .f32⟩
  | 53 => ⟨S8x128x4096, .f32⟩
  | 54 => ⟨S8x4096x128, .f32⟩
  | 55 => ⟨S8x4096x128, .f32⟩
  | 56 => ⟨S8x4096x128, .f32⟩
  | 57 => ⟨S8x4096x128, .f32⟩
  | 58 => ⟨S8x4096x512, .f32⟩
  | 59 => ⟨S8x4096x4x128, .f32⟩
  | 60 => ⟨S4x128x8x4096, .f32⟩
  | 61 => ⟨S8x4096x4x128, .f32⟩
  | 62 => ⟨S8x4096x512, .f32⟩
  | 63 => ⟨S1x1x512, .f32⟩
  | 64 => ⟨S8x4096x512, .f32⟩
  | 65 => ⟨S8x4096x512, .f32⟩
  | 66 => ⟨S8x4096x1024, .f32⟩
  | 67 => ⟨S8x4096x1024, .f32⟩
  | 68 => ⟨S_, .f32⟩
  | 69 => ⟨S8x4096x1024, .f32⟩
  | 70 => ⟨S8x4096x1024, .f32⟩
  | 71 => ⟨S8x4096x1024, .f32⟩
  | 72 => ⟨S_, .f32⟩
  | 73 => ⟨S8x4096x1024, .f32⟩
  | 74 => ⟨S8x4096x1024, .f32⟩
  | 75 => ⟨S8x4096x1024, .f32⟩
  | 76 => ⟨S_, .f32⟩
  | 77 => ⟨S8x4096x1024, .f32⟩
  | 78 => ⟨S8x4096x1024, .f32⟩
  | 79 => ⟨S_, .f32⟩
  | 80 => ⟨S8x4096x1024, .f32⟩
  | 81 => ⟨S8x4096x1024, .f32⟩
  | 82 => ⟨S8x4096x1024, .f32⟩
  | 83 => ⟨S8x4096x1024, .f32⟩
  | 84 => ⟨S8x4096x1024, .f32⟩
  | 85 => ⟨S_, .f32⟩
  | 86 => ⟨S8x4096x1024, .f32⟩
  | 87 => ⟨S8x4096x1024, .f32⟩
  | 88 => ⟨S8x4096x1024, .f32⟩
  | 89 => ⟨S_, .f32⟩
  | 90 => ⟨S8x4096x1024, .f32⟩
  | 91 => ⟨S8x4096x1024, .f32⟩
  | 92 => ⟨S8x4096x1024, .f32⟩
  | 93 => ⟨S_, .f32⟩
  | 94 => ⟨S8x4096x1024, .f32⟩
  | 95 => ⟨S8x4096x1024, .f32⟩
  | 96 => ⟨S_, .f32⟩
  | 97 => ⟨S8x4096x1024, .f32⟩
  | 98 => ⟨S8x4096x1024, .f32⟩
  | 99 => ⟨S8x4096x1024, .f32⟩
  | 100 => ⟨S_, .f32⟩
  | 101 => ⟨S8x4096, .f32⟩
  | 102 => ⟨S8x4096x1, .f32⟩
  | 103 => ⟨S_, .f32⟩
  | 104 => ⟨S8x4096x1, .f32⟩
  | 105 => ⟨S8x4096x1, .f32⟩
  | 106 => ⟨S8x4096x1024, .f32⟩
  | 107 => ⟨S8x4096x1024, .f32⟩
  | 108 => ⟨S8x4096x1024, .f32⟩
  | 109 => ⟨S_, .f32⟩
  | 110 => ⟨S8x4096, .f32⟩
  | 111 => ⟨S8x4096x1, .f32⟩
  | 112 => ⟨S_, .f32⟩
  | 113 => ⟨S8x4096x1, .f32⟩
  | 114 => ⟨S8x4096x1, .f32⟩
  | 115 => ⟨S_, .f32⟩
  | 116 => ⟨S8x4096x1, .f32⟩
  | 117 => ⟨S8x4096x1, .f32⟩
  | 118 => ⟨S8x4096x1, .f32⟩
  | 119 => ⟨S8x4096x1024, .f32⟩
  | 120 => ⟨S8x4096x1024, .f32⟩
  | 121 => ⟨S1x1x1024, .f32⟩
  | 122 => ⟨S8x4096x1024, .f32⟩
  | 123 => ⟨S8x4096x1024, .f32⟩
  | 124 => ⟨S1x1x1024, .f32⟩
  | 125 => ⟨S8x4096x1024, .f32⟩
  | 126 => ⟨S8x4096x1024, .f32⟩
  | 127 => ⟨S8x32x128x8x128, .f32⟩
  | _ => ⟨S8x4096x1024, .f32⟩

abbrev hbmTy0_2 (i : Nat) : BufTy := match i % 128 with
  | 0 => ⟨S8x8x32x128x128, .f32⟩
  | 1 => ⟨S8x32x128x8x128, .f32⟩
  | 2 => ⟨S128x8, .f32⟩
  | 3 => ⟨S1x1x128x8x1, .f32⟩
  | 4 => ⟨S8x32x128x8x128, .f32⟩
  | 5 => ⟨S8x32x128x8x128, .f32⟩
  | 6 => ⟨S8x4096x1024, .f32⟩
  | 7 => ⟨S8x4096x1024, .f32⟩
  | 8 => ⟨S8x4096x1024, .f32⟩
  | 9 => ⟨S8x4096x1024, .f32⟩
  | 10 => ⟨S_, .f32⟩
  | 11 => ⟨S8x4096x1024, .f32⟩
  | 12 => ⟨S8x4096x1024, .f32⟩
  | 13 => ⟨S_, .f32⟩
  | 14 => ⟨S8x4096x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S_, .f32⟩
  | 21 => ⟨S8x4096x1024, .f32⟩
  | 22 => ⟨S8x4096x1024, .f32⟩
  | 23 => ⟨S_, .f32⟩
  | 24 => ⟨S8x4096x1024, .f32⟩
  | 25 => ⟨S8x4096x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S_, .f32⟩
  | 31 => ⟨S8x4096x1024, .f32⟩
  | 32 => ⟨S8x4096x1024, .f32⟩
  | 33 => ⟨S8x4096x1024, .f32⟩
  | 34 => ⟨S_, .f32⟩
  | 35 => ⟨S8x4096, .f32⟩
  | 36 => ⟨S8x4096x1, .f32⟩
  | 37 => ⟨S_, .f32⟩
  | 38 => ⟨S8x4096x1, .f32⟩
  | 39 => ⟨S8x4096x1, .f32⟩
  | 40 => ⟨S8x4096x1024, .f32⟩
  | 41 => ⟨S8x4096x1024, .f32⟩
  | 42 => ⟨S8x4096x1024, .f32⟩
  | 43 => ⟨S_, .f32⟩
  | 44 => ⟨S8x4096, .f32⟩
  | 45 => ⟨S8x4096x1, .f32⟩
  | 46 => ⟨S_, .f32⟩
  | 47 => ⟨S8x4096x1, .f32⟩
  | 48 => ⟨S8x4096x1, .f32⟩
  | 49 => ⟨S_, .f32⟩
  | 50 => ⟨S8x4096x1, .f32⟩
  | 51 => ⟨S8x4096x1, .f32⟩
  | 52 => ⟨S8x4096x1, .f32⟩
  | 53 => ⟨S8x4096x1024, .f32⟩
  | 54 => ⟨S8x4096x1024, .f32⟩
  | 55 => ⟨S1x1x1024, .f32⟩
  | 56 => ⟨S8x4096x1024, .f32⟩
  | 57 => ⟨S8x4096x1024, .f32⟩
  | 58 => ⟨S1x1x1024, .f32⟩
  | 59 => ⟨S8x4096x1024, .f32⟩
  | 60 => ⟨S8x4096x1024, .f32⟩
  | 61 => ⟨S8x4096x16, .f32⟩
  | 62 => ⟨S32768x1024, .f32⟩
  | 63 => ⟨S32768x16, .f32⟩
  | 64 => ⟨S16x32768, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_7 : Ref sig .tc := ⟨.hbm, 87, rfl⟩
abbrev main_v61 : Ref sig .tc := ⟨.hbm, 88, rfl⟩
abbrev main_v62 : Ref sig .tc := ⟨.hbm, 89, rfl⟩
abbrev main_c_8 : Ref sig .tc := ⟨.hbm, 90, rfl⟩
abbrev main_v63 : Ref sig .tc := ⟨.hbm, 91, rfl⟩
abbrev main_v64 : Ref sig .tc := ⟨.hbm, 92, rfl⟩
abbrev main_c_9 : Ref sig .tc := ⟨.hbm, 93, rfl⟩
abbrev main_v65 : Ref sig .tc := ⟨.hbm, 94, rfl⟩
abbrev main_v66 : Ref sig .tc := ⟨.hbm, 95, rfl⟩
abbrev main_c_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_11 : Ref sig .tc := ⟨.hbm, 120, rfl⟩
abbrev main_v90 : Ref sig .tc := ⟨.hbm, 121, rfl⟩
abbrev main_v91 : Ref sig .tc := ⟨.hbm, 122, rfl⟩
abbrev main_c_12 : Ref sig .tc := ⟨.hbm, 123, rfl⟩
abbrev main_v92 : Ref sig .tc := ⟨.hbm, 124, rfl⟩
abbrev main_v93 : Ref sig .tc := ⟨.hbm, 125, rfl⟩
abbrev main_c_13 : Ref sig .tc := ⟨.hbm, 126, rfl⟩
abbrev main_v94 : Ref sig .tc := ⟨.hbm, 127, rfl⟩
abbrev main_v95 : Ref sig .tc := ⟨.hbm, 128, rfl⟩
abbrev main_c_14 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_c_15 : Ref sig .tc := ⟨.hbm, 153, rfl⟩
abbrev main_v119 : Ref sig .tc := ⟨.hbm, 154, rfl⟩
abbrev main_v120 : Ref sig .tc := ⟨.hbm, 155, rfl⟩
abbrev main_c_16 : Ref sig .tc := ⟨.hbm, 156, rfl⟩
abbrev main_v121 : Ref sig .tc := ⟨.hbm, 157, rfl⟩
abbrev main_v122 : Ref sig .tc := ⟨.hbm, 158, rfl⟩
abbrev main_c_17 : Ref sig .tc := ⟨.hbm, 159, rfl⟩
abbrev main_v123 : Ref sig .tc := ⟨.hbm, 160, rfl⟩
abbrev main_v124 : Ref sig .tc := ⟨.hbm, 161, rfl⟩
abbrev main_c_18 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_19 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_20 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_21 : Ref sig .tc := ⟨.hbm, 204, rfl⟩
abbrev main_v164 : Ref sig .tc := ⟨.hbm, 205, rfl⟩
abbrev main_v165 : Ref sig .tc := ⟨.hbm, 206, rfl⟩
abbrev main_cst_22 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_23 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_24 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_25 : Ref sig .tc := ⟨.hbm, 221, rfl⟩
abbrev main_v177 : Ref sig .tc := ⟨.hbm, 222, rfl⟩
abbrev main_v178 : Ref sig .tc := ⟨.hbm, 223, rfl⟩
abbrev main_cst_26 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_27 : Ref sig .tc := ⟨.hbm, 228, rfl⟩
abbrev main_v182 : Ref sig .tc := ⟨.hbm, 229, rfl⟩
abbrev main_v183 : Ref sig .tc := ⟨.hbm, 230, rfl⟩
abbrev main_cst_28 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_cst_29 : Ref sig .tc := ⟨.hbm, 237, rfl⟩
abbrev main_v189 : Ref sig .tc := ⟨.hbm, 238, rfl⟩
abbrev main_v190 : Ref sig .tc := ⟨.hbm, 239, rfl⟩
abbrev main_cst_30 : Ref sig .tc := ⟨.hbm, 240, rfl⟩
abbrev main_v191 : Ref sig .tc := ⟨.hbm, 241, rfl⟩
abbrev main_v192 : Ref sig .tc := ⟨.hbm, 242, rfl⟩
abbrev main_cst_31 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_cst_32 : Ref sig .tc := ⟨.hbm, 266, rfl⟩
abbrev main_v215 : Ref sig .tc := ⟨.hbm, 267, rfl⟩
abbrev main_v216 : Ref sig .tc := ⟨.hbm, 268, rfl⟩
abbrev main_cst_33 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_cst_34 : Ref sig .tc := ⟨.hbm, 276, rfl⟩
abbrev main_v223 : Ref sig .tc := ⟨.hbm, 277, rfl⟩
abbrev main_v224 : Ref sig .tc := ⟨.hbm, 278, rfl⟩
abbrev main_cst_35 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_cst_36 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_cst_37 : Ref sig .tc := ⟨.hbm, 290, rfl⟩
abbrev main_v234 : Ref sig .tc := ⟨.hbm, 291, rfl⟩
abbrev main_v235 : Ref sig .tc := ⟨.hbm, 292, rfl⟩
abbrev main_cst_38 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_cst_39 : Ref sig .tc := ⟨.hbm, 299, rfl⟩
abbrev main_v241 : Ref sig .tc := ⟨.hbm, 300, rfl⟩
abbrev main_v242 : Ref sig .tc := ⟨.hbm, 301, rfl⟩
abbrev main_cst_40 : Ref sig .tc := ⟨.hbm, 302, rfl⟩
abbrev main_v243 : Ref sig .tc := ⟨.hbm, 303, rfl⟩
abbrev main_v244 : Ref sig .tc := ⟨.hbm, 304, rfl⟩
abbrev main_cst_41 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩

abbrev nD : Nat := 1
abbrev τ : Topo := Topo.v7x

variable {F : FTy → Type} [FloatOps F]
-- ==== Norm.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Moe.lean ====
abbrev S8x4096x1024 : Shape := ⟨3, ![8, 4096, 1024]⟩
abbrev S8x16x512 : Shape := ⟨3, ![8, 16, 512]⟩
abbrev S16x1024x2048 : Shape := ⟨3, ![16, 1024, 2048]⟩
abbrev S16x2048x1024 : Shape := ⟨3, ![16, 2048, 1024]⟩
abbrev S8x32768x128 : Shape := ⟨3, ![8, 32768, 128]⟩
abbrev S128x1x512 : Shape := ⟨3, ![128, 1, 512]⟩
abbrev S1x1x512 : Shape := ⟨3, ![1, 1, 512]⟩
abbrev S1x32768x128 : Shape := ⟨3, ![1, 32768, 128]⟩
abbrev S1x1024x512 : Shape := ⟨3, ![1, 1024, 512]⟩
abbrev S1x512x1024 : Shape := ⟨3, ![1, 512, 1024]⟩
abbrev S512x1024 : Shape := ⟨2, ![512, 1024]⟩
abbrev S4160x128 : Shape := ⟨2, ![4160, 128]⟩
abbrev S1x1x1 : Shape := ⟨3, ![1, 1, 1]⟩
abbrev S1x8x128 : Shape := ⟨3, ![1, 8, 128]⟩
abbrev S8x128 : Shape := ⟨2, ![8, 128]⟩
abbrev S512x128 : Shape := ⟨2, ![512, 128]⟩
abbrev S1024x512 : Shape := ⟨2, ![1024, 512]⟩
abbrev S512x512 : Shape := ⟨2, ![512, 512]⟩

abbrev nBuf : Space → Nat
  | .hbm => 14
  | .vmem => 11
  | .smem => 4
  | _ => 0

abbrev bufTy : (tb : Table) → Fin (tcTables nBuf tb) → BufTy
  | .hbm, ⟨0, _⟩ => ⟨S8x4096x1024, .f32⟩
  | .hbm, ⟨1, _⟩ => ⟨S8x16x512, .i32⟩
  | .hbm, ⟨2, _⟩ => ⟨S8x16x512, .f32⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S8x32768x128, .f32⟩
  | .hbm, ⟨7, _⟩ => ⟨S16x1024x2048, .bf16⟩
  | .hbm, ⟨8, _⟩ => ⟨S16x1024x2048, .bf16⟩
  | .hbm, ⟨9, _⟩ => ⟨S16x2048x1024, .bf16⟩
  | .hbm, ⟨10, _⟩ => ⟨S128x1x512, .i32⟩
  | .hbm, ⟨11, _⟩ => ⟨S128x1x512, .f32⟩
  | .hbm, ⟨12, _⟩ => ⟨S8x32768x128, .f32⟩
  | .hbm, ⟨13, _⟩ => ⟨S8x4096x1024, .f32⟩
  | .local _ .vmem, ⟨0, _⟩ => ⟨S1x32768x128, .f32⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x32768x128, .f32⟩
  | .local _ .vmem, ⟨8, _⟩ => ⟨S512x1024, .bf16⟩
  | .local _ .vmem, ⟨9, _⟩ => ⟨S4160x128, .f32⟩
  | .local _ .vmem, ⟨10, _⟩ => ⟨S4160x128, .f32⟩
  | .local _ .smem, ⟨0, _⟩ => ⟨S1x1x512, .i32⟩
  | .local _ .smem, ⟨1, _⟩ => ⟨S1x1x512, .i32⟩
  | .local _ .smem, ⟨2, _⟩ => ⟨S1x1x512, .f32⟩
  | .local _ .smem, ⟨3, _⟩ => ⟨S1x1x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_21 : BitVec 32 := 0#32
  let c64_i32 : BitVec 32 := 64#32
  let v31 : BitVec 32 := Scalar.addi c0_i32_21 c64_i32
  let c1_i32 : BitVec 32 := 1#32
  ⟨c0_i32_21, v31, c1_i32⟩
def k0_off1 (k0_t1 : Fin k0_t1_loop.trips) : Fin 3 → Nat :=
  let c0_42 : Index := 0#32
  let c0_43 : Index := 0#32
  let c0_i32_21 : BitVec 32 := 0#32
  let c1_i32 : BitVec 32 := 1#32
  let arg13 : BitVec 32 := Scf.iv c0_i32_21 c1_i32 k0_t1
  let c8_i32 : BitVec 32 := 8#32
  let v72 : BitVec 32 := Scalar.muli arg13 c8_i32
  let c0_i32_41 : BitVec 32 := 0#32
  let v73 : BitVec 32 := Scalar.addi v72 c0_i32_41
  let v74 : Index := Scalar.indexCast v73
  ![0, 0, v74.toNat]
def k0_mult1 (v75 : BitVec 32) : BitVec 32 :=
  let c8_i32_44 : BitVec 32 := 8#32
  let v76 : BitVec 32 := Scalar.muli v75 c8_i32_44
  v76

def k0_off2 (v75 : BitVec 32) : Fin 3 → Nat :=
  let c0_45 : Index := 0#32
  let c8_i32_44 : BitVec 32 := 8#32
  let v76 : BitVec 32 := Scalar.muli v75 c8_i32_44
  let v77 : BitVec 32 := v76
  let v78 : Index := Scalar.indexCast v77
  let c0_46 : Index := 0#32
  ![0, v78.toNat, 0]

def k0_chk1 (i : grid0.Coords) (v75 : BitVec 32) : Prop :=
  (∀ (k0_h2 : k0_cond2 i = 1#1), 8 ∣ (k0_mult1 v75).toNat) ∧
  (∀ (k0_h2 : k0_cond2 i = 1#1), ∀ a, (k0_off2 v75) a + S1x8x128.size a ≤ S1x32768x128.size a)
theorem k0_mult1_dvd : ∀ (i : grid0.Coords) (v75 : BitVec 32) (k0_hw1 : k0_chk1 i v75), ∀ (k0_h2 : k0_cond2 i = 1#1), 8 ∣ (k0_mult1 v75).toNat := fun i v75 k0_hw1 k0_h2 => k0_hw1.1 k0_h2
theorem k0_off2_inb : ∀ (i : grid0.Coords) (v75 : BitVec 32) (k0_hw1 : k0_chk1 i v75), ∀ (k0_h2 : k0_cond2 i = 1#1), ∀ a, (k0_off2 v75) a + S1x8x128.size a ≤ S1x32768x128.size a := fun i v75 k0_hw1 k0_h2 => k0_hw1.2 k0_h2

def k0_off3 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c8_i32 : BitVec 32 := 8#32
  let v72 : BitVec 32 := Scalar.muli arg13 c8_i32
  let c0_i32_41 : BitVec 32 := 0#32
  let v73 : BitVec 32 := Scalar.addi v72 c0_i32_41
  let v81 : Index := Scalar.indexCast v73
  let c0_47 : Index := 0#32
  ![v81.toNat, 0]
def k0_off4 (k0_t1 : Fin k0_t1_loop.trips) : Fin 3 → Nat :=
  let c0_50 : Index := 0#32
  let c0_51 : Index := 0#32
  let c0_i32_21 : BitVec 32 := 0#32
  let c1_i32 : BitVec 32 := 1#32
  let arg13 : BitVec 32 := Scf.iv c0_i32_21 c1_i32 k0_t1
  let c8_i32_48 : BitVec 32 := 8#32
  let v85 : BitVec 32 := Scalar.muli arg13 c8_i32_48
  let c1_i32_49 : BitVec 32 := 1#32
  let v86 : BitVec 32 := Scalar.addi v85 c1_i32_49
  let v87 : Index := Scalar.indexCast v86
  ![0, 0, v87.toNat]
def k0_mult2 (v88 : BitVec 32) : BitVec 32 :=
  let c8_i32_52 : BitVec 32 := 8#32
  let v89 : BitVec 32 := Scalar.muli v88 c8_i32_52
  v89

def k0_off5 (v88 : BitVec 32) : Fin 3 → Nat :=
  let c0_53 : Index := 0#32
  let c8_i32_52 : BitVec 32 := 8#32
  let v89 : BitVec 32 := Scalar.muli v88 c8_i32_52
  let v90 : BitVec 32 := v89
  let v91 : Index := Scalar.indexCast v90
  let c0_54 : Index := 0#32
  ![0, v91.toNat, 0]

def k0_chk2 (i : grid0.Coords) (v88 : BitVec 32) : Prop :=
  (∀ (k0_h2 : k0_cond2 i = 1#1), 8 ∣ (k0_mult2 v88).toNat) ∧
  (∀ (k0_h2 : k0_cond2 i = 1#1), ∀ a, (k0_off5 v88) a + S1x8x128.size a ≤ S1x32768x128.size a)
theorem k0_mult2_dvd : ∀ (i : grid0.Coords) (v88 : BitVec 32) (k0_hw2 : k0_chk2 i v88), ∀ (k0_h2 : k0_cond2 i = 1#1), 8 ∣ (k0_mult2 v88).toNat := fun i v88 k0_hw2 k0_h2 => k0_hw2.1 k0_h2
theorem k0_off5_inb : ∀ (i : grid0.Coords) (v88 : BitVec 32) (k0_hw2 : k0_chk2 i v88), ∀ (k0_h2 : k0_cond2 i = 1#1), ∀ a, (k0_off5 v88) a + S1x8x128.size a ≤ S1x32768x128.size a := fun i v88 k0_hw2 k0_h2 => k0_hw2.2 k0_h2

def k0_off6 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c8_i32_48 : BitVec 32 := 8#32
  let v85 : BitVec 32 := Scalar.muli arg13 c8_i32_48
  let c1_i32_49 : BitVec 32 := 1#32
  let v86 : BitVec 32 := Scalar.addi v85 c1_i32_49
  let v94 : Index := Scalar.indexCast v86
  let c0_55 : Index := 0#32
  ![v94.toNat, 0]
def k0_off7 (k0_t1 : Fin k0_t1_loop.trips) : Fin 3 → Nat :=
  let c0_57 : Index := 0#32
  let c0_58 : Index := 0#32
  let c0_i32_21 : BitVec 32 := 0#32
  let c1_i32 : BitVec 32 := 1#32
  let arg13 : BitVec 32 := Scf.iv c0_i32_21 c1_i32 k0_t1
  let c8_i32_56 : BitVec 32 := 8#32
  let v98 : BitVec 32 := Scalar.muli arg13 c8_i32_56
  let c2_i32 : BitVec 32 := 2#32
  let v99 : BitVec 32 := Scalar.addi v98 c2_i32
  let v100 : Index := Scalar.indexCast v99
  ![0, 0, v100.toNat]
def k0_mult3 (v101 : BitVec 32) : BitVec 32 :=
  let c8_i32_59 : BitVec 32 := 8#32
  let v102 : BitVec 32 := Scalar.muli v101 c8_i32_59
  v102

def k0_off8 (v101 : BitVec 32) : Fin 3 → Nat :=
  let c0_60 : Index := 0#32
  let c8_i32_59 : BitVec 32 := 8#32
  let v102 : BitVec 32 := Scalar.muli v101 c8_i32_59
  let v103 : BitVec 32 := v102
  let v104 : Index := Scalar.indexCast v103
  let c0_61 : Index := 0#32
  ![0, v104.toNat, 0]

def k0_chk3 (i : grid0.Coords) (v101 : BitVec 32) : Prop :=
  (∀ (k0_h2 : k0_cond2 i = 1#1), 8 ∣ (k0_mult3 v101).toNat) ∧
  (∀ (k0_h2 : k0_cond2 i = 1#1), ∀ a, (k0_off8 v101) a + S1x8x128.size a ≤ S1x32768x128.size a)
theorem k0_mult3_dvd : ∀ (i : grid0.Coords) (v101 : BitVec 32) (k0_hw3 : k0_chk3 i v101), ∀ (k0_h2 : k0_cond2 i = 1#1), 8 ∣ (k0_mult3 v101).toNat := fun i v101 k0_hw3 k0_h2 => k0_hw3.1 k0_h2
theorem k0_off8_inb : ∀ (i : grid0.Coords) (v101 : BitVec 32) (k0_hw3 : k0_chk3 i v101), ∀ (k0_h2 : k0_cond2 i = 1#1), ∀ a, (k0_off8 v101) a + S1x8x128.size a ≤ S1x32768x128.size a := fun i v101 k0_hw3 k0_h2 => k0_hw3.2 k0_h2

def k0_off9 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c8_i32_56 : BitVec 32 := 8#32
  let v98 : BitVec 32 := Scalar.muli arg13 c8_i32_56
  let c2_i32 : BitVec 32 := 2#32
  let v99 : BitVec 32 := Scalar.addi v98 c2_i32
  let v107 : Index := Scalar.indexCast v99
  let c0_62 : Index := 0#32
  ![v107.toNat, 0]
def k0_off10 (k0_t1 : Fin k0_t1_loop.trips) : Fin 3 → Nat :=
  let c0_65 : Index := 0#32
  let c0_66 : Index := 0#32
  let c0_i32_21 : BitVec 32 := 0#32
  let c1_i32 : BitVec 32 := 1#32
  let arg13 : BitVec 32 := Scf.iv c0_i32_21 c1_i32 k0_t1
  let c8_i32_63 : BitVec 32 := 8#32
  let v111 : BitVec 32 := Scalar.muli arg13 c8_i32_63
  let c3_i32_64 : BitVec 32 := 3#32
  let v112 : BitVec 32 := Scalar.addi v111 c3_i32_64
  let v113 : Index := Scalar.indexCast v112
  ![0, 0, v113.toNat]
def k0_mult4 (v114 : BitVec 32) : BitVec 32 :=
  let c8_i32_67 : BitVec 32 := 8#32
  let v115 : BitVec 32 := Scalar.muli v114 c8_i32_67
  v115

def k0_off11 (v114 : BitVec 32) : Fin 3 → Nat :=
  let c0_68 : Index := 0#32
  let c8_i32_67 : BitVec 32 := 8#32
  let v115 : BitVec 32 := Scalar.muli v114 c8_i32_67
  let v116 : BitVec 32 := v115
  let v117 : Index := Scalar.indexCast v116
  let c0_69 : Index := 0#32
  ![0, v117.toNat, 0]

def k0_chk4 (i : grid0.Coords) (v114 : BitVec 32) : Prop :=
  (∀ (k0_h2 : k0_cond2 i = 1#1), 8 ∣ (k0_mult4 v114).toNat) ∧
  (∀ (k0_h2 : k0_cond2 i = 1#1), ∀ a, (k0_off11 v114) a + S1x8x128.size a ≤ S1x32768x128.size a)
theorem k0_mult4_dvd : ∀ (i : grid0.Coords) (v114 : BitVec 32) (k0_hw4 : k0_chk4 i v114), ∀ (k0_h2 : k0_cond2 i = 1#1), 8 ∣ (k0_mult4 v114).toNat := fun i v114 k0_hw4 k0_h2 => k0_hw4.1 k0_h2
theorem k0_off11_inb : ∀ (i : grid0.Coords) (v114 : BitVec 32) (k0_hw4 : k0_chk4 i v114), ∀ (k0_h2 : k0_cond2 i = 1#1), ∀ a, (k0_off11 v114) a + S1x8x128.size a ≤ S1x32768x128.size a := fun i v114 k0_hw4 k0_h2 => k0_hw4.2 k0_h2

def k0_off12 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c8_i32_63 : BitVec 32 := 8#32
  let v111 : BitVec 32 := Scalar.muli arg13 c8_i32_63
  let c3_i32_64 : BitVec 32 := 3#32
  let v112 : BitVec 32 := Scalar.addi v111 c3_i32_64
  let v120 : Index := Scalar.indexCast v112
  let c0_70 : Index := 0#32
  ![v120.toNat, 0]
def k0_off13 (k0_t1 : Fin k0_t1_loop.trips) : Fin 3 → Nat :=
  let c0_72 : Index := 0#32
  let c0_73 : Index := 0#32
  let c0_i32_21 : BitVec 32 := 0#32
  let c1_i32 : BitVec 32 := 1#32
  let arg13 : BitVec 32 := Scf.iv c0_i32_21 c1_i32 k0_t1
  let c8_i32_71 : BitVec 32 := 8#32
  let v124 : BitVec 32 := Scalar.muli arg13 c8_i32_71
  let c4_i32 : BitVec 32 := 4#32
  let v125 : BitVec 32 := Scalar.addi v124 c4_i32
  let v126 : Index := Scalar.indexCast v125
  ![0, 0, v126.toNat]
def k0_mult5 (v127 : BitVec 32) : BitVec 32 :=
  let c8_i32_74 : BitVec 32 := 8#32
  let v128 : BitVec 32 := Scalar.muli v127 c8_i32_74
  v128

def k0_off14 (v127 : BitVec 32) : Fin 3 → Nat :=
  let c0_75 : Index := 0#32
  let c8_i32_74 : BitVec 32 := 8#32
  let v128 : BitVec 32 := Scalar.muli v127 c8_i32_74
  let v129 : BitVec 32 := v128
  let v130 : Index := Scalar.indexCast v129
  let c0_76 : Index := 0#32
  ![0, v130.toNat, 0]

def k0_chk5 (i : grid0.Coords) (v127 : BitVec 32) : Prop :=
  (∀ (k0_h2 : k0_cond2 i = 1#1), 8 ∣ (k0_mult5 v127).toNat) ∧
  (∀ (k0_h2 : k0_cond2 i = 1#1), ∀ a, (k0_off14 v127) a + S1x8x128.size a ≤ S1x32768x128.size a)
theorem k0_mult5_dvd : ∀ (i : grid0.Coords) (v127 : BitVec 32) (k0_hw5 : k0_chk5 i v127), ∀ (k0_h2 : k0_cond2 i = 1#1), 8 ∣ (k0_mult5 v127).toNat := fun i v127 k0_hw5 k0_h2 => k0_hw5.1 k0_h2
theorem k0_off14_inb : ∀ (i : grid0.Coords) (v127 : BitVec 32) (k0_hw5 : k0_chk5 i v127), ∀ (k0_h2 : k0_cond2 i = 1#1), ∀ a, (k0_off14 v127) a + S1x8x128.size a ≤ S1x32768x128.size a := fun i v127 k0_hw5 k0_h2 => k0_hw5.2 k0_h2

def k0_off15 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c8_i32_71 : BitVec 32 := 8#32
  let v124 : BitVec 32 := Scalar.muli arg13 c8_i32_71
  let c4_i32 : BitVec 32 := 4#32
  let v125 : BitVec 32 := Scalar.addi v124 c4_i32
  let v133 : Index := Scalar.indexCast v125
  let c0_77 : Index := 0#32
  ![v133.toNat, 0]
def k0_off16 (k0_t1 : Fin k0_t1_loop.trips) : Fin 3 → Nat :=
  let c0_79 : Index := 0#32
  let c0_80 : Index := 0#32
  let c0_i32_21 : BitVec 32 := 0#32
  let c1_i32 : BitVec 32 := 1#32
  let arg13 : BitVec 32 := Scf.iv c0_i32_21 c1_i32 k0_t1
  let c8_i32_78 : BitVec 32 := 8#32
  let v137 : BitVec 32 := Scalar.muli arg13 c8_i32_78
  let c5_i32 : BitVec 32 := 5#32
  let v138 : BitVec 32 := Scalar.addi v137 c5_i32
  let v139 : Index := Scalar.indexCast v138
  ![0, 0, v139.toNat]
def k0_mult6 (v140 : BitVec 32) : BitVec 32 :=
  let c8_i32_81 : BitVec 32 := 8#32
  let v141 : BitVec 32 := Scalar.muli v140 c8_i32_81
  v141

def k0_off17 (v140 : BitVec 32) : Fin 3 → Nat :=
  let c0_82 : Index := 0#32
  let c8_i32_81 : BitVec 32 := 8#32
  let v141 : BitVec 32 := Scalar.muli v140 c8_i32_81
  let v142 : BitVec 32 := v141
  let v143 : Index := Scalar.indexCast v142
  let c0_83 : Index := 0#32
  ![0, v143.toNat, 0]

def k0_chk6 (i : grid0.Coords) (v140 : BitVec 32) : Prop :=
  (∀ (k0_h2 : k0_cond2 i = 1#1), 8 ∣ (k0_mult6 v140).toNat) ∧
  (∀ (k0_h2 : k0_cond2 i = 1#1), ∀ a, (k0_off17 v140) a + S1x8x128.size a ≤ S1x32768x128.size a)
theorem k0_mult6_dvd : ∀ (i : grid0.Coords) (v140 : BitVec 32) (k0_hw6 : k0_chk6 i v140), ∀ (k0_h2 : k0_cond2 i = 1#1), 8 ∣ (k0_mult6 v140).toNat := fun i v140 k0_hw6 k0_h2 => k0_hw6.1 k0_h2
theorem k0_off17_inb : ∀ (i : grid0.Coords) (v140 : BitVec 32) (k0_hw6 : k0_chk6 i v140), ∀ (k0_h2 : k0_cond2 i = 1#1), ∀ a, (k0_off17 v140) a + S1x8x128.size a ≤ S1x32768x128.size a := fun i v140 k0_hw6 k0_h2 => k0_hw6.2 k0_h2

def k0_off18 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c8_i32_78 : BitVec 32 := 8#32
  let v137 : BitVec 32 := Scalar.muli arg13 c8_i32_78
  let c5_i32 : BitVec 32 := 5#32
  let v138 : BitVec 32 := Scalar.addi v137 c5_i32
  let v146 : Index := Scalar.indexCast v138
  let c0_84 : Index := 0#32
  ![v146.toNat, 0]
def k0_off19 (k0_t1 : Fin k0_t1_loop.trips) : Fin 3 → Nat :=
  let c0_86 : Index := 0#32
  let c0_87 : Index := 0#32
  let c0_i32_21 : BitVec 32 := 0#32
  let c1_i32 : BitVec 32 := 1#32
  let arg13 : BitVec 32 := Scf.iv c0_i32_21 c1_i32 k0_t1
  let c8_i32_85 : BitVec 32 := 8#32
  let v150 : BitVec 32 := Scalar.muli arg13 c8_i32_85
  let c6_i32 : BitVec 32 := 6#32
  let v151 : BitVec 32 := Scalar.addi v150 c6_i32
  let v152 : Index := Scalar.indexCast v151
  ![0, 0, v152.toNat]
def k0_mult7 (v153 : BitVec 32) : BitVec 32 :=
  let c8_i32_88 : BitVec 32 := 8#32
  let v154 : BitVec 32 := Scalar.muli v153 c8_i32_88
  v154

def k0_off20 (v153 : BitVec 32) : Fin 3 → Nat :=
  let c0_89 : Index := 0#32
  let c8_i32_88 : BitVec 32 := 8#32
  let v154 : BitVec 32 := Scalar.muli v153 c8_i32_88
  let v155 : BitVec 32 := v154
  let v156 : Index := Scalar.indexCast v155
  let c0_90 : Index := 0#32
  ![0, v156.toNat, 0]

def k0_chk7 (i : grid0.Coords) (v153 : BitVec 32) : Prop :=
  (∀ (k0_h2 : k0_cond2 i = 1#1), 8 ∣ (k0_mult7 v153).toNat) ∧
  (∀ (k0_h2 : k0_cond2 i = 1#1), ∀ a, (k0_off20 v153) a + S1x8x128.size a ≤ S1x32768x128.size a)
theorem k0_mult7_dvd : ∀ (i : grid0.Coords) (v153 : BitVec 32) (k0_hw7 : k0_chk7 i v153), ∀ (k0_h2 : k0_cond2 i = 1#1), 8 ∣ (k0_mult7 v153).toNat := fun i v153 k0_hw7 k0_h2 => k0_hw7.1 k0_h2
theorem k0_off20_inb : ∀ (i : grid0.Coords) (v153 : BitVec 32) (k0_hw7 : k0_chk7 i v153), ∀ (k0_h2 : k0_cond2 i = 1#1), ∀ a, (k0_off20 v153) a + S1x8x128.size a ≤ S1x32768x128.size a := fun i v153 k0_hw7 k0_h2 => k0_hw7.2 k0_h2

def k0_off21 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c8_i32_85 : BitVec 32 := 8#32
  let v150 : BitVec 32 := Scalar.muli arg13 c8_i32_85
  let c6_i32 : BitVec 32 := 6#32
  let v151 : BitVec 32 := Scalar.addi v150 c6_i32
  let v159 : Index := Scalar.indexCast v151
  let c0_91 : Index := 0#32
  ![v159.toNat, 0]
def k0_off22 (k0_t1 : Fin k0_t1_loop.trips) : Fin 3 → Nat :=
  let c0_93 : Index := 0#32
  let c0_94 : Index := 0#32
  let c0_i32_21 : BitVec 32 := 0#32
  let c1_i32 : BitVec 32 := 1#32
  let arg13 : BitVec 32 := Scf.iv c0_i32_21 c1_i32 k0_t1
  let c8_i32_92 : BitVec 32 := 8#32
  let v163 : BitVec 32 := Scalar.muli arg13 c8_i32_92
  let c7_i32 : BitVec 32 := 7#32
  let v164 : BitVec 32 := Scalar.addi v163 c7_i32
  let v165 : Index := Scalar.indexCast v164
  ![0, 0, v165.toNat]
def k0_mult8 (v166 : BitVec 32) : BitVec 32 :=
  let c8_i32_95 : BitVec 32 := 8#32
  let v167 : BitVec 32 := Scalar.muli v166 c8_i32_95
  v167

def k0_off23 (v166 : BitVec 32) : Fin 3 → Nat :=
  let c0_96 : Index := 0#32
  let c8_i32_95 : BitVec 32 := 8#32
  let v167 : BitVec 32 := Scalar.muli v166 c8_i32_95
  let v168 : BitVec 32 := v167
  let v169 : Index := Scalar.indexCast v168
  let c0_97 : Index := 0#32
  ![0, v169.toNat, 0]

def k0_chk8 (i : grid0.Coords) (v166 : BitVec 32) : Prop :=
  (∀ (k0_h2 : k0_cond2 i = 1#1), 8 ∣ (k0_mult8 v166).toNat) ∧
  (∀ (k0_h2 : k0_cond2 i = 1#1), ∀ a, (k0_off23 v166) a + S1x8x128.size a ≤ S1x32768x128.size a)
theorem k0_mult8_dvd : ∀ (i : grid0.Coords) (v166 : BitVec 32) (k0_hw8 : k0_chk8 i v166), ∀ (k0_h2 : k0_cond2 i = 1#1), 8 ∣ (k0_mult8 v166).toNat := fun i v166 k0_hw8 k0_h2 => k0_hw8.1 k0_h2
theorem k0_off23_inb : ∀ (i : grid0.Coords) (v166 : BitVec 32) (k0_hw8 : k0_chk8 i v166), ∀ (k0_h2 : k0_cond2 i = 1#1), ∀ a, (k0_off23 v166) a + S1x8x128.size a ≤ S1x32768x128.size a := fun i v166 k0_hw8 k0_h2 => k0_hw8.2 k0_h2

def k0_off24 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c8_i32_92 : BitVec 32 := 8#32
  let v163 : BitVec 32 := Scalar.muli arg13 c8_i32_92
  let c7_i32 : BitVec 32 := 7#32
  let v164 : BitVec 32 := Scalar.addi v163 c7_i32
  let v172 : Index := Scalar.indexCast v164
  let c0_98 : Index := 0#32
  ![v172.toNat, 0]
def k0_cond5 (i : grid0.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_20 : BitVec 32 := 0#32
  let v30 : BitVec 1 := Scalar.cmpi .ne v29 c0_i32_20
  v30

@[reducible] def k0_t2_loop : Scf.Loop 32 :=
  let c0_i32_21 : BitVec 32 := 0#32
  let c64_i32 : BitVec 32 := 64#32
  let v31 : BitVec 32 := Scalar.addi c0_i32_21 c64_i32
  let c1_i32 : BitVec 32 := 1#32
  ⟨c0_i32_21, v31, c1_i32⟩
def k0_off25 (k0_t2 : Fin k0_t2_loop.trips) : Fin 3 → Nat :=
  let c0_24 : Index := 0#32
  let c0_25 : Index := 0#32
  let c0_i32_21 : BitVec 32 := 0#32
  let c1_i32 : BitVec 32 := 1#32
  let arg13 : BitVec 32 := Scf.iv c0_i32_21 c1_i32 k0_t2
  let c8_i32 : BitVec 32 := 8#32
  let v32 : BitVec 32 := Scalar.muli arg13 c8_i32
  let c0_i32_23 : BitVec 32 := 0#32
  let v33 : BitVec 32 := Scalar.addi v32 c0_i32_23
  let v34 : Index := Scalar.indexCast v33
  ![0, 0, v34.toNat]
def k0_mult9 (v35 : BitVec 32) : BitVec 32 :=
  let c8_i32_26 : BitVec 32 := 8#32
  let v36 : BitVec 32 := Scalar.muli v35 c8_i32_26
  v36

def k0_off26 (k0_t2 : Fin k0_t2_loop.trips) : Fin 2 → Nat :=
  let c0_i32_21 : BitVec 32 := 0#32
  let c1_i32 : BitVec 32 := 1#32
  let arg13 : BitVec 32 := Scf.iv c0_i32_21 c1_i32 k0_t2
  let c8_i32 : BitVec 32 := 8#32
  let v32 : BitVec 32 := Scalar.muli arg13 c8_i32
  let c0_i32_23 : BitVec 32 := 0#32
  let v33 : BitVec 32 := Scalar.addi v32 c0_i32_23
  let v38 : Index := Scalar.indexCast v33
  let c0_27 : Index := 0#32
  ![v38.toNat, 0]
def k0_off27 (k0_t2 : Fin k0_t2_loop.trips) (c0_i32_23 : BitVec 32) : Fin 3 → Nat :=
  let c0_28 : Index := 0#32
  let c0_29 : Index := 0#32
  let c0_i32_21 : BitVec 32 := 0#32
  let c1_i32 : BitVec 32 := 1#32
  let arg13 : BitVec 32 := Scf.iv c0_i32_21 c1_i32 k0_t2
  let c8_i32 : BitVec 32 := 8#32
  let v32 : BitVec 32 := Scalar.muli arg13 c8_i32
  let v33 : BitVec 32 := Scalar.addi v32 c0_i32_23
  let v40 : Index := Scalar.indexCast v33
  ![0, 0, v40.toNat]
def k0_off28 (v35 : BitVec 32) : Fin 3 → Nat :=
  let c0_30 : Index := 0#32
  let c8_i32_26 : BitVec 32 := 8#32
  let v36 : BitVec 32 := Scalar.muli v35 c8_i32_26
  let v37 : BitVec 32 := v36
  let v44 : Index := Scalar.indexCast v37
  let c0_31 : Index := 0#32
  ![0, v44.toNat, 0]
def k0_mult10 (v51 : BitVec 32) : BitVec 32 :=
  let c8_i32_36 : BitVec 32 := 8#32
  let v52 : BitVec 32 := Scalar.muli v51 c8_i32_36
  v52

def k0_off29 (k0_t2 : Fin k0_t2_loop.trips) : Fin 2 → Nat :=
  let c0_i32_21 : BitVec 32 := 0#32
  let c1_i32 : BitVec 32 := 1#32
  let arg13 : BitVec 32 := Scf.iv c0_i32_21 c1_i32 k0_t2
  let c8_i32_32 : BitVec 32 := 8#32
  let v48 : BitVec 32 := Scalar.muli arg13 c8_i32_32
  let c1_i32_33 : BitVec 32 := 1#32
  let v49 : BitVec 32 := Scalar.addi v48 c1_i32_33
  let v54 : Index := Scalar.indexCast v49
  let c0_37 : Index := 0#32
  ![v54.toNat, 0]
def k0_off30 (k0_t2 : Fin k0_t2_loop.trips) (c1_i32_33 : BitVec 32) : Fin 3 → Nat :=
  let c0_38 : Index := 0#32
  let c0_39 : Index := 0#32
  let c0_i32_21 : BitVec 32 := 0#32
  let c1_i32 : BitVec 32 := 1#32
  let arg13 : BitVec 32 := Scf.iv c0_i32_21 c1_i32 k0_t2
  let c8_i32_32 : BitVec 32 := 8#32
  let v48 : BitVec 32 := Scalar.muli arg13 c8_i32_32
  let v49 : BitVec 32 := Scalar.addi v48 c1_i32_33
  let v56 : Index := Scalar.indexCast v49
  ![0, 0, v56.toNat]
def k0_off31 (v51 : BitVec 32) : Fin 3 → Nat :=
  let c0_40 : Index := 0#32
  let c8_i32_36 : BitVec 32 := 8#32
  let v52 : BitVec 32 := Scalar.muli v51 c8_i32_36
  let v53 : BitVec 32 := v52
  let v60 : Index := Scalar.indexCast v53
  let c0_41 : Index := 0#32
  ![0, v60.toNat, 0]
def k0_mult11 (v67 : BitVec 32) : BitVec 32 :=
  let c8_i32_45 : BitVec 32 := 8#32
  let v68 : BitVec 32 := Scalar.muli v67 c8_i32_45
  v68

def k0_off32 (k0_t2 : Fin k0_t2_loop.trips) : Fin 2 → Nat :=
  let c0_i32_21 : BitVec 32 := 0#32
  let c1_i32 : BitVec 32 := 1#32
  let arg13 : BitVec 32 := Scf.iv c0_i32_21 c1_i32 k0_t2
  let c8_i32_42 : BitVec 32 := 8#32
  let v64 : BitVec 32 := Scalar.muli arg13 c8_i32_42
  let c2_i32 : BitVec 32 := 2#32
  let v65 : BitVec 32 := Scalar.addi v64 c2_i32
  let v70 : Index := Scalar.indexCast v65
  let c0_46 : Index := 0#32
  ![v70.toNat, 0]
def k0_off33 (k0_t2 : Fin k0_t2_loop.trips) (c2_i32 : BitVec 32) : Fin 3 → Nat :=
  let c0_47 : Index := 0#32
  let c0_48 : Index := 0#32
  let c0_i32_21 : BitVec 32 := 0#32
  let c1_i32 : BitVec 32 := 1#32
  let arg13 : BitVec 32 := Scf.iv c0_i32_21 c1_i32 k0_t2
  let c8_i32_42 : BitVec 32 := 8#32
  let v64 : BitVec 32 := Scalar.muli arg13 c8_i32_42
  let v65 : BitVec 32 := Scalar.addi v64 c2_i32
  let v72 : Index := Scalar.indexCast v65
  ![0, 0, v72.toNat]
def k0_off34 (v67 : BitVec 32) : Fin 3 → Nat :=
  let c0_49 : Index := 0#32
  let c8_i32_45 : BitVec 32 := 8#32
  let v68 : BitVec 32 := Scalar.muli v67 c8_i32_45
  let v69 : BitVec 32 := v68
  let v76 : Index := Scalar.indexCast v69
  let c0_50 : Index := 0#32
  ![0, v76.toNat, 0]
def k0_mult12 (v83 : BitVec 32) : BitVec 32 :=
  let c8_i32_55 : BitVec 32 := 8#32
  let v84 : BitVec 32 := Scalar.muli v83 c8_i32_55
  v84

def k0_off35 (k0_t2 : Fin k0_t2_loop.trips) : Fin 2 → Nat :=
  let c0_i32_21 : BitVec 32 := 0#32
  let c1_i32 : BitVec 32 := 1#32
  let arg13 : BitVec 32 := Scf.iv c0_i32_21 c1_i32 k0_t2
  let c8_i32_51 : BitVec 32 := 8#32
  let v80 : BitVec 32 := Scalar.muli arg13 c8_i32_51
  let c3_i32_52 : BitVec 32 := 3#32
  let v81 : BitVec 32 := Scalar.addi v80 c3_i32_52
  let v86 : Index := Scalar.indexCast v81
  let c0_56 : Index := 0#32
  ![v86.toNat, 0]
def k0_off36 (k0_t2 : Fin k0_t2_loop.trips) (c3_i32_52 : BitVec 32) : Fin 3 → Nat :=
  let c0_57 : Index := 0#32
  let c0_58 : Index := 0#32
  let c0_i32_21 : BitVec 32 := 0#32
  let c1_i32 : BitVec 32 := 1#32
  let arg13 : BitVec 32 := Scf.iv c0_i32_21 c1_i32 k0_t2
  let c8_i32_51 : BitVec 32 := 8#32
  let v80 : BitVec 32 := Scalar.muli arg13 c8_i32_51
  let v81 : BitVec 32 := Scalar.addi v80 c3_i32_52
  let v88 : Index := Scalar.indexCast v81
  ![0, 0, v88.toNat]
def k0_off37 (v83 : BitVec 32) : Fin 3 → Nat :=
  let c0_59 : Index := 0#32
  let c8_i32_55 : BitVec 32 := 8#32
  let v84 : BitVec 32 := Scalar.muli v83 c8_i32_55
  let v85 : BitVec 32 := v84
  let v92 : Index := Scalar.indexCast v85
  let c0_60 : Index := 0#32
  ![0, v92.toNat, 0]
def k0_mult13 (v99 : BitVec 32) : BitVec 32 :=
  let c8_i32_64 : BitVec 32 := 8#32
  let v100 : BitVec 32 := Scalar.muli v99 c8_i32_64
  v100

def k0_off38 (k0_t2 : Fin k0_t2_loop.trips) : Fin 2 → Nat :=
  let c0_i32_21 : BitVec 32 := 0#32
  let c1_i32 : BitVec 32 := 1#32
  let arg13 : BitVec 32 := Scf.iv c0_i32_21 c1_i32 k0_t2
  let c8_i32_61 : BitVec 32 := 8#32
  let v96 : BitVec 32 := Scalar.muli arg13 c8_i32_61
  let c4_i32 : BitVec 32 := 4#32
  let v97 : BitVec 32 := Scalar.addi v96 c4_i32
  let v102 : Index := Scalar.indexCast v97
  let c0_65 : Index := 0#32
  ![v102.toNat, 0]
def k0_off39 (k0_t2 : Fin k0_t2_loop.trips) (c4_i32 : BitVec 32) : Fin 3 → Nat :=
  let c0_66 : Index := 0#32
  let c0_67 : Index := 0#32
  let c0_i32_21 : BitVec 32 := 0#32
  let c1_i32 : BitVec 32 := 1#32
  let arg13 : BitVec 32 := Scf.iv c0_i32_21 c1_i32 k0_t2
  let c8_i32_61 : BitVec 32 := 8#32
  let v96 : BitVec 32 := Scalar.muli arg13 c8_i32_61
  let v97 : BitVec 32 := Scalar.addi v96 c4_i32
  let v104 : Index := Scalar.indexCast v97
  ![0, 0, v104.toNat]
def k0_off40 (v99 : BitVec 32) : Fin 3 → Nat :=
  let c0_68 : Index := 0#32
  let c8_i32_64 : BitVec 32 := 8#32
  let v100 : BitVec 32 := Scalar.muli v99 c8_i32_64
  let v101 : BitVec 32 := v100
  let v108 : Index := Scalar.indexCast v101
  let c0_69 : Index := 0#32
  ![0, v108.toNat, 0]
def k0_mult14 (v115 : BitVec 32) : BitVec 32 :=
  let c8_i32_73 : BitVec 32 := 8#32
  let v116 : BitVec 32 := Scalar.muli v115 c8_i32_73
  v116

def k0_off41 (k0_t2 : Fin k0_t2_loop.trips) : Fin 2 → Nat :=
  let c0_i32_21 : BitVec 32 := 0#32
  let c1_i32 : BitVec 32 := 1#32
  let arg13 : BitVec 32 := Scf.iv c0_i32_21 c1_i32 k0_t2
  let c8_i32_70 : BitVec 32 := 8#32
  let v112 : BitVec 32 := Scalar.muli arg13 c8_i32_70
  let c5_i32 : BitVec 32 := 5#32
  let v113 : BitVec 32 := Scalar.addi v112 c5_i32
  let v118 : Index := Scalar.indexCast v113
  let c0_74 : Index := 0#32
  ![v118.toNat, 0]
def k0_off42 (k0_t2 : Fin k0_t2_loop.trips) (c5_i32 : BitVec 32) : Fin 3 → Nat :=
  let c0_75 : Index := 0#32
  let c0_76 : Index := 0#32
  let c0_i32_21 : BitVec 32 := 0#32
  let c1_i32 : BitVec 32 := 1#32
  let arg13 : BitVec 32 := Scf.iv c0_i32_21 c1_i32 k0_t2
  let c8_i32_70 : BitVec 32 := 8#32
  let v112 : BitVec 32 := Scalar.muli arg13 c8_i32_70
  let v113 : BitVec 32 := Scalar.addi v112 c5_i32
  let v120 : Index := Scalar.indexCast v113
  ![0, 0, v120.toNat]
def k0_off43 (v115 : BitVec 32) : Fin 3 → Nat :=
  let c0_77 : Index := 0#32
  let c8_i32_73 : BitVec 32 := 8#32
  let v116 : BitVec 32 := Scalar.muli v115 c8_i32_73
  let v117 : BitVec 32 := v116
  let v124 : Index := Scalar.indexCast v117
  let c0_78 : Index := 0#32
  ![0, v124.toNat, 0]
def k0_mult15 (v131 : BitVec 32) : BitVec 32 :=
  let c8_i32_82 : BitVec 32 := 8#32
  let v132 : BitVec 32 := Scalar.muli v131 c8_i32_82
  v132

def k0_off44 (k0_t2 : Fin k0_t2_loop.trips) : Fin 2 → Nat :=
  let c0_i32_21 : BitVec 32 := 0#32
  let c1_i32 : BitVec 32 := 1#32
  let arg13 : BitVec 32 := Scf.iv c0_i32_21 c1_i32 k0_t2
  let c8_i32_79 : BitVec 32 := 8#32
  let v128 : BitVec 32 := Scalar.muli arg13 c8_i32_79
  let c6_i32 : BitVec 32 := 6#32
  let v129 : BitVec 32 := Scalar.addi v128 c6_i32
  let v134 : Index := Scalar.indexCast v129
  let c0_83 : Index := 0#32
  ![v134.toNat, 0]
def k0_off45 (k0_t2 : Fin k0_t2_loop.trips) (c6_i32 : BitVec 32) : Fin 3 → Nat :=
  let c0_84 : Index := 0#32
  let c0_85 : Index := 0#32
  let c0_i32_21 : BitVec 32 := 0#32
  let c1_i32 : BitVec 32 := 1#32
  let arg13 : BitVec 32 := Scf.iv c0_i32_21 c1_i32 k0_t2
  let c8_i32_79 : BitVec 32 := 8#32
  let v128 : BitVec 32 := Scalar.muli arg13 c8_i32_79
  let v129 : BitVec 32 := Scalar.addi v128 c6_i32
  let v136 : Index := Scalar.indexCast v129
  ![0, 0, v136.toNat]
def k0_off46 (v131 : BitVec 32) : Fin 3 → Nat :=
  let c0_86 : Index := 0#32
  let c8_i32_82 : BitVec 32 := 8#32
  let v132 : BitVec 32 := Scalar.muli v131 c8_i32_82
  let v133 : BitVec 32 := v132
  let v140 : Index := Scalar.indexCast v133
  let c0_87 : Index := 0#32
  ![0, v140.toNat, 0]
def k0_mult16 (v147 : BitVec 32) : BitVec 32 :=
  let c8_i32_91 : BitVec 32 := 8#32
  let v148 : BitVec 32 := Scalar.muli v147 c8_i32_91
  v148

def k0_off47 (k0_t2 : Fin k0_t2_loop.trips) : Fin 2 → Nat :=
  let c0_i32_21 : BitVec 32 := 0#32
  let c1_i32 : BitVec 32 := 1#32
  let arg13 : BitVec 32 := Scf.iv c0_i32_21 c1_i32 k0_t2
  let c8_i32_88 : BitVec 32 := 8#32
  let v144 : BitVec 32 := Scalar.muli arg13 c8_i32_88
  let c7_i32 : BitVec 32 := 7#32
  let v145 : BitVec 32 := Scalar.addi v144 c7_i32
  let v150 : Index := Scalar.indexCast v145
  let c0_92 : Index := 0#32
  ![v150.toNat, 0]
def k0_off48 (k0_t2 : Fin k0_t2_loop.trips) : Fin 3 → Nat :=
  let c0_93 : Index := 0#32
  let c0_94 : Index := 0#32
  let c0_i32_21 : BitVec 32 := 0#32
  let c1_i32 : BitVec 32 := 1#32
  let arg13 : BitVec 32 := Scf.iv c0_i32_21 c1_i32 k0_t2
  let c8_i32_88 : BitVec 32 := 8#32
  let v144 : BitVec 32 := Scalar.muli arg13 c8_i32_88
  let c7_i32 : BitVec 32 := 7#32
  let v145 : BitVec 32 := Scalar.addi v144 c7_i32
  let v152 : Index := Scalar.indexCast v145
  ![0, 0, v152.toNat]
def k0_off49 (v147 : BitVec 32) : Fin 3 → Nat :=
  let c0_95 : Index := 0#32
  let c8_i32_91 : BitVec 32 := 8#32
  let v148 : BitVec 32 := Scalar.muli v147 c8_i32_91
  let v149 : BitVec 32 := v148
  let v156 : Index := Scalar.indexCast v149
  let c0_96 : Index := 0#32
  ![0, v156.toNat, 0]

def k0_chk16 (i : grid0.Coords) (v147 : BitVec 32) : Prop :=
  (∀ (k0_h5 : k0_cond5 i = 1#1), 8 ∣ (k0_mult16 v147).toNat) ∧
  (∀ (k0_h5 : k0_cond5 i = 1#1), ∀ a, (k0_off49 v147) a + S1x8x128.size a ≤ S1x32768x128.size a)
theorem k0_mult16_dvd : ∀ (i : grid0.Coords) (v147 : BitVec 32) (k0_hw16 : k0_chk16 i v147), ∀ (k0_h5 : k0_cond5 i = 1#1), 8 ∣ (k0_mult16 v147).toNat := fun i v147 k0_hw16 k0_h5 => k0_hw16.1 k0_h5
theorem k0_off49_inb : ∀ (i : grid0.Coords) (v147 : BitVec 32) (k0_hw16 : k0_chk16 i v147), ∀ (k0_h5 : k0_cond5 i = 1#1), ∀ a, (k0_off49 v147) a + S1x8x128.size a ≤ S1x32768x128.size a := fun i v147 k0_hw16 k0_h5 => k0_hw16.2 k0_h5

def k0_off50 (v35 : BitVec 32) : Fin 3 → Nat :=
  let c0_97 : Index := 0#32
  let c8_i32_26 : BitVec 32 := 8#32
  let v36 : BitVec 32 := Scalar.muli v35 c8_i32_26
  let v37 : BitVec 32 := v36
  let v160 : Index := Scalar.indexCast v37
  let c0_98 : Index := 0#32
  ![0, v160.toNat, 0]

def k0_chk9 (i : grid0.Coords) (v35 : BitVec 32) : Prop :=
  (∀ (k0_h5 : k0_cond5 i = 1#1), 8 ∣ (k0_mult9 v35).toNat) ∧
  (∀ (k0_h5 : k0_cond5 i = 1#1), ∀ a, (k0_off28 v35) a + S1x8x128.size a ≤ S1x32768x128.size a) ∧
  (∀ (k0_h5 : k0_cond5 i = 1#1), ∀ a, (k0_off50 v35) a + S1x8x128.size a ≤ S1x32768x128.size a)
theorem k0_mult9_dvd : ∀ (i : grid0.Coords) (v35 : BitVec 32) (k0_hw9 : k0_chk9 i v35), ∀ (k0_h5 : k0_cond5 i = 1#1), 8 ∣ (k0_mult9 v35).toNat := fun i v35 k0_hw9 k0_h5 => k0_hw9.1 k0_h5
theorem k0_off28_inb : ∀ (i : grid0.Coords) (v35 : BitVec 32) (k0_hw9 : k0_chk9 i v35), ∀ (k0_h5 : k0_cond5 i = 1#1), ∀ a, (k0_off28 v35) a + S1x8x128.size a ≤ S1x32768x128.size a := fun i v35 k0_hw9 k0_h5 => k0_hw9.2.1 k0_h5
theorem k0_off50_inb : ∀ (i : grid0.Coords) (v35 : BitVec 32) (k0_hw9 : k0_chk9 i v35), ∀ (k0_h5 : k0_cond5 i = 1#1), ∀ a, (k0_off50 v35) a + S1x8x128.size a ≤ S1x32768x128.size a := fun i v35 k0_hw9 k0_h5 => k0_hw9.2.2 k0_h5

def k0_off51 (v51 : BitVec 32) : Fin 3 → Nat :=
  let c0_99 : Index := 0#32
  let c8_i32_36 : BitVec 32 := 8#32
  let v52 : BitVec 32 := Scalar.muli v51 c8_i32_36
  let v53 : BitVec 32 := v52
  let v164 : Index := Scalar.indexCast v53
  let c0_100 : Index := 0#32
  ![0, v164.toNat, 0]

def k0_chk10 (i : grid0.Coords) (v51 : BitVec 32) : Prop :=
  (∀ (k0_h5 : k0_cond5 i = 1#1), 8 ∣ (k0_mult10 v51).toNat) ∧
  (∀ (k0_h5 : k0_cond5 i = 1#1), ∀ a, (k0_off31 v51) a + S1x8x128.size a ≤ S1x32768x128.size a) ∧
  (∀ (k0_h5 : k0_cond5 i = 1#1), ∀ a, (k0_off51 v51) a + S1x8x128.size a ≤ S1x32768x128.size a)
theorem k0_mult10_dvd : ∀ (i : grid0.Coords) (v51 : BitVec 32) (k0_hw10 : k0_chk10 i v51), ∀ (k0_h5 : k0_cond5 i = 1#1), 8 ∣ (k0_mult10 v51).toNat := fun i v51 k0_hw10 k0_h5 => k0_hw10.1 k0_h5
theorem k0_off31_inb : ∀ (i : grid0.Coords) (v51 : BitVec 32) (k0_hw10 : k0_chk10 i v51), ∀ (k0_h5 : k0_cond5 i = 1#1), ∀ a, (k0_off31 v51) a + S1x8x128.size a ≤ S1x32768x128.size a := fun i v51 k0_hw10 k0_h5 => k0_hw10.2.1 k0_h5
theorem k0_off51_inb : ∀ (i : grid0.Coords) (v51 : BitVec 32) (k0_hw10 : k0_chk10 i v51), ∀ (k0_h5 : k0_cond5 i = 1#1), ∀ a, (k0_off51 v51) a + S1x8x128.size a ≤ S1x32768x128.size a := fun i v51 k0_hw10 k0_h5 => k0_hw10.2.2 k0_h5

def k0_off52 (v67 : BitVec 32) : Fin 3 → Nat :=
  let c0_101 : Index := 0#32
  let c8_i32_45 : BitVec 32 := 8#32
  let v68 : BitVec 32 := Scalar.muli v67 c8_i32_45
  let v69 : BitVec 32 := v68
  let v168 : Index := Scalar.indexCast v69
  let c0_102 : Index := 0#32
  ![0, v168.toNat, 0]

def k0_chk11 (i : grid0.Coords) (v67 : BitVec 32) : Prop :=
  (∀ (k0_h5 : k0_cond5 i = 1#1), 8 ∣ (k0_mult11 v67).toNat) ∧
  (∀ (k0_h5 : k0_cond5 i = 1#1), ∀ a, (k0_off34 v67) a + S1x8x128.size a ≤ S1x32768x128.size a) ∧
  (∀ (k0_h5 : k0_cond5 i = 1#1), ∀ a, (k0_off52 v67) a + S1x8x128.size a ≤ S1x32768x128.size a)
theorem k0_mult11_dvd : ∀ (i : grid0.Coords) (v67 : BitVec 32) (k0_hw11 : k0_chk11 i v67), ∀ (k0_h5 : k0_cond5 i = 1#1), 8 ∣ (k0_mult11 v67).toNat := fun i v67 k0_hw11 k0_h5 => k0_hw11.1 k0_h5
theorem k0_off34_inb : ∀ (i : grid0.Coords) (v67 : BitVec 32) (k0_hw11 : k0_chk11 i v67), ∀ (k0_h5 : k0_cond5 i = 1#1), ∀ a, (k0_off34 v67) a + S1x8x128.size a ≤ S1x32768x128.size a := fun i v67 k0_hw11 k0_h5 => k0_hw11.2.1 k0_h5
theorem k0_off52_inb : ∀ (i : grid0.Coords) (v67 : BitVec 32) (k0_hw11 : k0_chk11 i v67), ∀ (k0_h5 : k0_cond5 i = 1#1), ∀ a, (k0_off52 v67) a + S1x8x128.size a ≤ S1x32768x128.size a := fun i v67 k0_hw11 k0_h5 => k0_hw11.2.2 k0_h5

def k0_off53 (v83 : BitVec 32) : Fin 3 → Nat :=
  let c0_103 : Index := 0#32
  let c8_i32_55 : BitVec 32 := 8#32
  let v84 : BitVec 32 := Scalar.muli v83 c8_i32_55
  let v85 : BitVec 32 := v84
  let v172 : Index := Scalar.indexCast v85
  let c0_104 : Index := 0#32
  ![0, v172.toNat, 0]

def k0_chk12 (i : grid0.Coords) (v83 : BitVec 32) : Prop :=
  (∀ (k0_h5 : k0_cond5 i = 1#1), 8 ∣ (k0_mult12 v83).toNat) ∧
  (∀ (k0_h5 : k0_cond5 i = 1#1), ∀ a, (k0_off37 v83) a + S1x8x128.size a ≤ S1x32768x128.size a) ∧
  (∀ (k0_h5 : k0_cond5 i = 1#1), ∀ a, (k0_off53 v83) a + S1x8x128.size a ≤ S1x32768x128.size a)
theorem k0_mult12_dvd : ∀ (i : grid0.Coords) (v83 : BitVec 32) (k0_hw12 : k0_chk12 i v83), ∀ (k0_h5 : k0_cond5 i = 1#1), 8 ∣ (k0_mult12 v83).toNat := fun i v83 k0_hw12 k0_h5 => k0_hw12.1 k0_h5
theorem k0_off37_inb : ∀ (i : grid0.Coords) (v83 : BitVec 32) (k0_hw12 : k0_chk12 i v83), ∀ (k0_h5 : k0_cond5 i = 1#1), ∀ a, (k0_off37 v83) a + S1x8x128.size a ≤ S1x32768x128.size a := fun i v83 k0_hw12 k0_h5 => k0_hw12.2.1 k0_h5
theorem k0_off53_inb : ∀ (i : grid0.Coords) (v83 : BitVec 32) (k0_hw12 : k0_chk12 i v83), ∀ (k0_h5 : k0_cond5 i = 1#1), ∀ a, (k0_off53 v83) a + S1x8x128.size a ≤ S1x32768x128.size a := fun i v83 k0_hw12 k0_h5 => k0_hw12.2.2 k0_h5

def k0_off54 (v99 : BitVec 32) : Fin 3 → Nat :=
  let c0_105 : Index := 0#32
  let c8_i32_64 : BitVec 32 := 8#32
  let v100 : BitVec 32 := Scalar.muli v99 c8_i32_64
  let v101 : BitVec 32 := v100
  let v176 : Index := Scalar.indexCast v101
  let c0_106 : Index := 0#32
  ![0, v176.toNat, 0]

def k0_chk13 (i : grid0.Coords) (v99 : BitVec 32) : Prop :=
  (∀ (k0_h5 : k0_cond5 i = 1#1), 8 ∣ (k0_mult13 v99).toNat) ∧
  (∀ (k0_h5 : k0_cond5 i = 1#1), ∀ a, (k0_off40 v99) a + S1x8x128.size a ≤ S1x32768x128.size a) ∧
  (∀ (k0_h5 : k0_cond5 i = 1#1), ∀ a, (k0_off54 v99) a + S1x8x128.size a ≤ S1x32768x128.size a)
theorem k0_mult13_dvd : ∀ (i : grid0.Coords) (v99 : BitVec 32) (k0_hw13 : k0_chk13 i v99), ∀ (k0_h5 : k0_cond5 i = 1#1), 8 ∣ (k0_mult13 v99).toNat := fun i v99 k0_hw13 k0_h5 => k0_hw13.1 k0_h5
theorem k0_off40_inb : ∀ (i : grid0.Coords) (v99 : BitVec 32) (k0_hw13 : k0_chk13 i v99), ∀ (k0_h5 : k0_cond5 i = 1#1), ∀ a, (k0_off40 v99) a + S1x8x128.size a ≤ S1x32768x128.size a := fun i v99 k0_hw13 k0_h5 => k0_hw13.2.1 k0_h5
theorem k0_off54_inb : ∀ (i : grid0.Coords) (v99 : BitVec 32) (k0_hw13 : k0_chk13 i v99), ∀ (k0_h5 : k0_cond5 i = 1#1), ∀ a, (k0_off54 v99) a + S1x8x128.size a ≤ S1x32768x128.size a := fun i v99 k0_hw13 k0_h5 => k0_hw13.2.2 k0_h5

def k0_off55 (v115 : BitVec 32) : Fin 3 → Nat :=
  let c0_107 : Index := 0#32
  let c8_i32_73 : BitVec 32 := 8#32
  let v116 : BitVec 32 := Scalar.muli v115 c8_i32_73
  let v117 : BitVec 32 := v116
  let v180 : Index := Scalar.indexCast v117
  let c0_108 : Index := 0#32
  ![0, v180.toNat, 0]

def k0_chk14 (i : grid0.Coords) (v115 : BitVec 32) : Prop :=
  (∀ (k0_h5 : k0_cond5 i = 1#1), 8 ∣ (k0_mult14 v115).toNat) ∧
  (∀ (k0_h5 : k0_cond5 i = 1#1), ∀ a, (k0_off43 v115) a + S1x8x128.size a ≤ S1x32768x128.size a) ∧
  (∀ (k0_h5 : k0_cond5 i = 1#1), ∀ a, (k0_off55 v115) a + S1x8x128.size a ≤ S1x32768x128.size a)
theorem k0_mult14_dvd : ∀ (i : grid0.Coords) (v115 : BitVec 32) (k0_hw14 : k0_chk14 i v115), ∀ (k0_h5 : k0_cond5 i = 1#1), 8 ∣ (k0_mult14 v115).toNat := fun i v115 k0_hw14 k0_h5 => k0_hw14.1 k0_h5
theorem k0_off43_inb : ∀ (i : grid0.Coords) (v115 : BitVec 32) (k0_hw14 : k0_chk14 i v115), ∀ (k0_h5 : k0_cond5 i = 1#1), ∀ a, (k0_off43 v115) a + S1x8x128.size a ≤ S1x32768x128.size a := fun i v115 k0_hw14 k0_h5 => k0_hw14.2.1 k0_h5
theorem k0_off55_inb : ∀ (i : grid0.Coords) (v115 : BitVec 32) (k0_hw14 : k0_chk14 i v115), ∀ (k0_h5 : k0_cond5 i = 1#1), ∀ a, (k0_off55 v115) a + S1x8x128.size a ≤ S1x32768x128.size a := fun i v115 k0_hw14 k0_h5 => k0_hw14.2.2 k0_h5

def k0_off56 (v131 : BitVec 32) : Fin 3 → Nat :=
  let c0_109 : Index := 0#32
  let c8_i32_82 : BitVec 32 := 8#32
  let v132 : BitVec 32 := Scalar.muli v131 c8_i32_82
  let v133 : BitVec 32 := v132
  let v184 : Index := Scalar.indexCast v133
  let c0_110 : Index := 0#32
  ![0, v184.toNat, 0]

def k0_chk15 (i : grid0.Coords) (v131 : BitVec 32) : Prop :=
  (∀ (k0_h5 : k0_cond5 i = 1#1), 8 ∣ (k0_mult15 v131).toNat) ∧
  (∀ (k0_h5 : k0_cond5 i = 1#1), ∀ a, (k0_off46 v131) a + S1x8x128.size a ≤ S1x32768x128.size a) ∧
  (∀ (k0_h5 : k0_cond5 i = 1#1), ∀ a, (k0_off56 v131) a + S1x8x128.size a ≤ S1x32768x128.size a)
theorem k0_mult15_dvd : ∀ (i : grid0.Coords) (v131 : BitVec 32) (k0_hw15 : k0_chk15 i v131), ∀ (k0_h5 : k0_cond5 i = 1#1), 8 ∣ (k0_mult15 v131).toNat := fun i v131 k0_hw15 k0_h5 => k0_hw15.1 k0_h5
theorem k0_off46_inb : ∀ (i : grid0.Coords) (v131 : BitVec 32) (k0_hw15 : k0_chk15 i v131), ∀ (k0_h5 : k0_cond5 i = 1#1), ∀ a, (k0_off46 v131) a + S1x8x128.size a ≤ S1x32768x128.size a := fun i v131 k0_hw15 k0_h5 => k0_hw15.2.1 k0_h5
theorem k0_off56_inb : ∀ (i : grid0.Coords) (v131 : BitVec 32) (k0_hw15 : k0_chk15 i v131), ∀ (k0_h5 : k0_cond5 i = 1#1), ∀ a, (k0_off56 v131) a + S1x8x128.size a ≤ S1x32768x128.size a := fun i v131 k0_hw15 k0_h5 => k0_hw15.2.2 k0_h5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .smem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1x32768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x32768x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== MoeRefIdeal.lean ====
abbrev S8x4096x1024 : Shape := ⟨3, ![8, 4096, 1024]⟩
abbrev S8x16x512 : Shape := ⟨3, ![8, 16, 512]⟩
abbrev S16x1024x2048 : Shape := ⟨3, ![16, 1024, 2048]⟩
abbrev S16x2048x1024 : Shape := ⟨3, ![16, 2048, 1024]⟩
abbrev S8x16x512x1 : Shape := ⟨4, ![8, 16, 512, 1]⟩
abbrev S4096 : Shape := ⟨1, ![4096]⟩
abbrev S1x1x1x4096 : Shape := ⟨4, ![1, 1, 1, 4096]⟩
abbrev S8x16x512x4096 : Shape := ⟨4, ![8, 16, 512, 4096]⟩
abbrev S8x16x512x1024 : Shape := ⟨4, ![8, 16, 512, 1024]⟩
abbrev S16x2048x8x512 : Shape := ⟨4, ![16, 2048, 8, 512]⟩
abbrev S8x16x512x2048 : Shape := ⟨4, ![8, 16, 512, 2048]⟩
abbrev S_ : Shape := ⟨0, ![]⟩
abbrev S16x1024x8x512 : Shape := ⟨4, ![16, 1024, 8, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x16x512, .i32⟩
  | .hbm, ⟨2, _⟩ => ⟨S8x16x512, .f32⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S8x16x512x1, .i32⟩
  | .hbm, ⟨7, _⟩ => ⟨S4096, .i32⟩
  | .hbm, ⟨8, _⟩ => ⟨S1x1x1x4096, .i32⟩
  | .hbm, ⟨9, _⟩ => ⟨S8x16x512x4096, .i32⟩
  | .hbm, ⟨10, _⟩ => ⟨S8x16x512x4096, .i32⟩
  | .hbm, ⟨11, _⟩ => ⟨S8x16x512x4096, .i1⟩
  | .hbm, ⟨12, _⟩ => ⟨S8x16x512x4096, .f32⟩
  | .hbm, ⟨13, _⟩ => ⟨S8x16x512x1024, .f32⟩
  | .hbm, ⟨14, _⟩ => ⟨S16x2048x8x512, .f32⟩
  | .hbm, ⟨15, _⟩ => ⟨S8x16x512x2048, .f32⟩
  | .hbm, ⟨16, _⟩ => ⟨S8x16x512x2048, .f32⟩
  | .hbm, ⟨17, _⟩ => ⟨S8x16x512x2048, .f32⟩
  | .hbm, ⟨18, _⟩ => ⟨S_, .f32⟩
  | .hbm, ⟨19, _⟩ => ⟨S8x16x512x2048, .f32⟩
  | .hbm, ⟨20, _⟩ => ⟨S8x16x512x2048, .f32⟩
  | .hbm, ⟨21, _⟩ => ⟨S_, .f32⟩
  | .hbm, ⟨22, _⟩ => ⟨S8x16x512x2048, .f32⟩
  | .hbm, ⟨23, _⟩ => ⟨S8x16x512x2048, .f32⟩
  | .hbm, ⟨24, _⟩ => ⟨S8x16x512x2048, .f32⟩
  | .hbm, ⟨25, _⟩ => ⟨S16x2048x8x512, .f32⟩
  | .hbm, ⟨26, _⟩ => ⟨S8x16x512x2048, .f32⟩
  | .hbm, ⟨27, _⟩ => ⟨S8x16x512x2048, .f32⟩
  | .hbm, ⟨28, _⟩ => ⟨S16x1024x8x512, .f32⟩
  | .hbm, ⟨29, _⟩ => ⟨S8x16x512x1024, .f32⟩
  | .hbm, ⟨30, _⟩ => ⟨S8x16x512x1, .f32⟩
  | .hbm, ⟨31, _⟩ => ⟨S8x16x512x1024, .f32⟩
  | .hbm, ⟨32, _⟩ => ⟨S8x16x512x1024, .f32⟩
  | .hbm, ⟨33, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Spec.lean ====
/- The mixer's mathematics, token by token, over the extended reals: what both programs are shown to compute. -/
module

public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Spec

/-- The mean of `n` numbers whose count the printed constant `w` holds. -/
def mean {n : Nat} (w : BitVec 32) (z : Fin n → EReal) : EReal := Ideal.div (∑ k, z k) (Ideal.ofBits .f32 w)

/-- Layer normalisation of one row with gain `g` and offset `b`, read at coordinate `j`. -/
def lnRow {n : Nat} (w : BitVec 32) (z g b : Fin n → EReal) (j : Fin n) : EReal :=
  (z j - mean w z)
    * Ideal.rsqrt (mean w (fun k => (z k - mean w z) * (z k - mean w z)) + Ideal.ofBits .f32 0x3727C5AC#32)
    * g j + b j

/-- The smooth gate `gelu` in its hyperbolic-tangent form. -/
def gelu (z : EReal) : EReal :=
  z * (Ideal.ofBits .f32 0x3F000000#32
    * (1 + Ideal.tanh (Ideal.ofBits .f32 0x3F4C422A#32 * (z + Ideal.ofBits .f32 0x3D372713#32 * (z * z * z)))))

/-- The logistic function. -/
def sig (z : EReal) : EReal := Ideal.div 1 (1 + Ideal.exp (-z))

/-- The mixer's arguments, read by coordinates. The token's position in its sequence is a natural number: what `x` is
    outside the sequence's 4096 positions is never used. -/
structure Args where
  x : Fin 8 → ℕ → Fin 1024 → EReal
  ing : Fin 1024 → EReal
  inb : Fin 1024 → EReal
  win : Fin 1024 → Fin 4608 → EReal
  bin : Fin 4608 → EReal
  pw : Fin 4 → Fin 128 → Fin 128 → EReal
  ps : Fin 512 → EReal
  sg : Fin 1024 → EReal
  sb : Fin 1024 → EReal
  sw : Fin 8 → Fin 128 → Fin 128 → EReal
  sbias : Fin 8 → Fin 128 → EReal
  pa : Fin 512 → Fin 1024 → EReal
  pb : Fin 1024 → Fin 1024 → EReal
  wout : Fin 1024 → Fin 1024 → EReal
  lg : Fin 1024 → EReal
  lb : Fin 1024 → EReal
  wr : Fin 1024 → Fin 16 → EReal

namespace Args

variable (A : Args) (b : Fin 8) (n : ℕ)

/-- The layer norm of the input row at position `n` of sequence `b`. -/
def hid (k : Fin 1024) : EReal := lnRow 0x44800000#32 (A.x b n) A.ing A.inb k

/-- The joint projection: pool input, gate inputs `u` and `v`, and the two merge gates, side by side. -/
def proj (j : Fin 4608) : EReal := (∑ k, A.hid b n k * A.win k j) + A.bin j

/-- The pool input at padded position `n` (position `n - 8` of the sequence), zero outside the sequence. -/
def pad (c : Fin 512) : EReal := if 8 ≤ n ∧ n < 4104 then A.proj b (n - 8) ⟨c, by omega⟩ else 0

/-- How many positions of the window `[n - h, n + h)` lie in the sequence. -/
def cnt (h n : ℕ) : EReal := (((min (n + h) 4096 - (n - h) : ℕ) : ℝ) : EReal)

/-- Group `g`'s pooled entry: the mean over the window of width `2 ^ (g + 1)`, less the token's own entry. -/
def pooled (g : Fin 4) (c : Fin 128) : EReal :=
  Ideal.div (∑ o ∈ Finset.range (2 * 2 ^ g.val), A.pad b (n + 8 - 2 ^ g.val + o) ⟨128 * g + c, by omega⟩) (cnt (2 ^ g.val) n)
    - A.proj b n ⟨128 * g + c, by omega⟩

/-- The pool branch: each group through its own square matrix, then scaled. -/
def ya (c : Fin 512) : EReal :=
  (∑ k : Fin 128, A.pooled b n ⟨c / 128, by omega⟩ k * A.pw ⟨c / 128, by omega⟩ k ⟨c % 128, by omega⟩) * A.ps c

/-- The normalised second gate input. -/
def vb (k : Fin 1024) : EReal :=
  lnRow 0x44800000#32 (fun j : Fin 1024 => gelu (A.proj b n ⟨1536 + j, by omega⟩)) A.sg A.sb k

/-- The gating branch: `gelu u` times the head's mixture of the chunk's tokens. -/
def yb (c : Fin 1024) : EReal :=
  gelu (A.proj b n ⟨512 + c, by omega⟩)
    * ((∑ q : Fin 128, A.sw ⟨c / 128, by omega⟩ ⟨n % 128, by omega⟩ q * A.vb b (128 * (n / 128) + q) c)
        + A.sbias ⟨c / 128, by omega⟩ ⟨n % 128, by omega⟩)

/-- The two branches, each through its matrix and its gate. -/
def merged (k : Fin 1024) : EReal :=
  sig (A.proj b n ⟨2560 + k, by omega⟩) * (∑ j, A.ya b n j * A.pa j k)
    + sig (A.proj b n ⟨3584 + k, by omega⟩) * (∑ j, A.yb b n j * A.pb j k)

/-- The residual sum before the second layer norm. -/
def res (k : Fin 1024) : EReal :=
  Ideal.ofBits .f32 0x3FB504F3#32 * A.hid b n k + ∑ j, A.merged b n j * A.wout j k

/-- The mixer's first result. -/
def out (k : Fin 1024) : EReal := lnRow 0x44800000#32 (A.res b n) A.lg A.lb k

/-- The mixer's second result: the router's logit of expert `e`. -/
def logit (e : Fin 16) : EReal := ∑ k, A.out b n k * A.wr k e

end Args

end Cert.Spec

end
-- ==== Proof.NormValue.lean ====
/- The second layer norm: what the kernel leaves in its result array is the plain layer norm of `√2·h + ffn`. -/
module

public import proofs.«01_k».proof.Proof.Spec
public import proofs.«01_k».proof.Proof.Gen.NormIdeal.Value
public import proofs.«01_k».proof.Proof.Gen.NormRefIdeal.Run

@[expose] public section

set_option maxRecDepth 16384

noncomputable section

open Idealize.ShloMosaic Idealize.ShloMosaic.TcCoe Idealize.SL.Sem
open Idealize.ShloMosaic.Pipeline (Dat)

namespace Cert.NormIdeal.Norm2

open Cert.NormIdeal Cert.NormIdeal.Gen

/-- The result at token `i`, feature `j`. -/
def val (h f : FVec Ideal S32768x1024 .f32) (g b : FVec Ideal S1024 .f32) (i : Fin 32768) (j : Fin 1024) : EReal :=
  Spec.lnRow 0x44800000#32 (fun k => Ideal.ofBits .f32 0x3FB504F3#32 * h (ix2 i k) + f (ix2 i k))
    (fun k => g (ix1 k)) (fun k => b (ix1 k)) j

/-- The tile's stored value at a row and a feature is the layer norm of that row. -/
theorem pay_at (x0 x1 : FVec Ideal S512x1024 .f32) (x2 x3 : FVec Ideal S1x1024 .f32) (r : Fin 512) (j : Fin 1024) :
    k0_pay1 (F := Ideal) x0 x1 x2 x3 (ix2 r j)
      = Spec.lnRow 0x44800000#32 (fun k => Ideal.ofBits .f32 0x3FB504F3#32 * x0 (ix2 r k) + x1 (ix2 r k))
          (fun k => x2 (ix2 0 k)) (fun k => x3 (ix2 0 k)) j := by
  pointwise [k0_pay1, Spec.lnRow, Spec.mean]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The whole result as one function of the argument arrays. -/
def whole (h f : FVec Ideal S32768x1024 .f32) (g b : FVec Ideal S1024 .f32) : FVec Ideal S32768x1024 .f32 :=
  fun i => val h f g b (i 0) (i 1)

theorem final (c : Dev nD) : (dats m 0 c).arrAt 4 (cfgs 0).N
    = whole (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  rw [pay_at]
  simp only [whole, val, Spec.lnRow, Spec.mean]
  blk_point [iblk, V, idx t]

end Cert.NormIdeal.Norm2

namespace Cert.NormRefIdeal.Norm2

open Cert.NormRefIdeal Cert.NormRefIdeal.Gen

/-- The reference's composed term over its arguments. -/
def REF (h f : FVec Ideal S32768x1024 .f32) (g b : FVec Ideal S1024 .f32) : FVec Ideal S32768x1024 .f32 :=
  addf (mulf (mulf (subf (addf (mulf (broadcastInDim S32768x1024 ![] bcast_S_S32768x1024 (constant S_ .f32 0x3FB504F3#32)) h) f) (broadcastInDim S32768x1024 ![0, 1] bcast_S32768x1_S32768x1024_0_1 (Host.divf (broadcastInDim S32768x1 ![0] bcast_S32768_S32768x1_0 (Host.reduceAdd (addf (mulf (broadcastInDim S32768x1024 ![] bcast_S_S32768x1024 (constant S_ .f32 0x3FB504F3#32)) h) f) (constant S_ .f32 0x00000000#32) reducesTo_S32768x1024_S32768_d1 h_S_)) (broadcastInDim S32768x1 ![] bcast_S_S32768x1 (constant S_ .f32 0x44800000#32))))) (broadcastInDim S32768x1024 ![0, 1] bcast_S32768x1_S32768x1024_0_1 (Host.rsqrt (addf (Host.divf (broadcastInDim S32768x1 ![0] bcast_S32768_S32768x1_0 (Host.reduceAdd (mulf (subf (addf (mulf (broadcastInDim S32768x1024 ![] bcast_S_S32768x1024 (constant S_ .f32 0x3FB504F3#32)) h) f) (broadcastInDim S32768x1024 ![0, 1] bcast_S32768x1_S32768x1024_0_1 (Host.divf (broadcastInDim S32768x1 ![0] bcast_S32768_S32768x1_0 (Host.reduceAdd (addf (mulf (broadcastInDim S32768x1024 ![] bcast_S_S32768x1024 (constant S_ .f32 0x3FB504F3#32)) h) f) (constant S_ .f32 0x00000000#32) reducesTo_S32768x1024_S32768_d1 h_S_)) (broadcastInDim S32768x1 ![] bcast_S_S32768x1 (constant S_ .f32 0x44800000#32))))) (subf (addf (mulf (broadcastInDim S32768x1024 ![] bcast_S_S32768x1024 (constant S_ .f32 0x3FB504F3#32)) h) f) (broadcastInDim S32768x1024 ![0, 1] bcast_S32768x1_S32768x1024_0_1 (Host.divf (broadcastInDim S32768x1 ![0] bcast_S32768_S32768x1_0 (Host.reduceAdd (addf (mulf (broadcastInDim S32768x1024 ![] bcast_S_S32768x1024 (constant S_ .f32 0x3FB504F3#32)) h) f) (constant S_ .f32 0x00000000#32) reducesTo_S32768x1024_S32768_d1 h_S_)) (broadcastInDim S32768x1 ![] bcast_S_S32768x1 (constant S_ .f32 0x44800000#32)))))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

theorem ref_at (h f : FVec Ideal S32768x1024 .f32) (g b : FVec Ideal S1024 .f32) (i : Fin 32768) (j : Fin 1024) :
    REF h f g b (ix2 i j) = Cert.NormIdeal.Norm2.val h f g b i j := by
  pointwise [REF, Cert.NormIdeal.Norm2.val, Spec.lnRow, Spec.mean]

theorem ref_eq (h f : FVec Ideal S32768x1024 .f32) (g b : FVec Ideal S1024 .f32) :
    REF h f g b = Cert.NormIdeal.Norm2.whole h f g b := by
  funext i
  idx_vars i
  exact ref_at h f g b _ _

end Cert.NormRefIdeal.Norm2

namespace Cert.Proof.NormClaims

theorem algebraic : Cert.algebraic_NormIdeal_NormRefIdeal := by
  pair_intro
  · run_from Cert.NormIdeal.Gen.run_main m g
  · run_from Cert.NormRefIdeal.Value.run m' g'
    rw [Cert.NormIdeal.Norm2.final m c]
    exact Cert.NormRefIdeal.Norm2.ref_eq _ _ _ _

end Cert.Proof.NormClaims

end
-- ==== Proof.MixTile.lean ====
/- What the mixer body finds in its blocks, and the first steps: the layer norm of the tile and its projection. -/
module

public import proofs.«01_k».proof.Proof.Spec
public import proofs.«01_k».proof.Proof.Gen.MixerIdeal.Value

@[expose] public section

set_option maxRecDepth 16384

noncomputable section

open Idealize.ShloMosaic Idealize.ShloMosaic.TcCoe Idealize.SL.Sem

namespace Cert.MixerIdeal.Tile

open Cert.MixerIdeal Cert.MixerIdeal.Gen Cert.Spec

/-- What the body finds at tile `p` of sequence `b`: the tile's rows, the eight rows on either side (inside the
    sequence), and the weights. -/
structure Blk (A : Args) (b : Fin 8) (p : ℕ) (i : grid0.Coords)
    (x0 : FVec Ideal S512x1024 .f32) (x1 : FVec Ideal S8x1024 .f32) (x2 : FVec Ideal S8x1024 .f32) (x3 : FVec Ideal S1x1024 .f32)
    (x4 : FVec Ideal S1x1024 .f32) (x5 : FVec Ideal S1024x4608 .bf16) (x6 : FVec Ideal S1x4608 .f32) (x7 : FVec Ideal S4x128x128 .bf16)
    (x8 : FVec Ideal S1x512 .f32) (x9 : FVec Ideal S1x1024 .f32) (x10 : FVec Ideal S1x1024 .f32) (x11 : FVec Ideal S8x128x128 .bf16)
    (x12 : FVec Ideal S128x1024 .f32) (x13 : FVec Ideal S512x1024 .bf16) (x14 : FVec Ideal S1024x1024 .bf16) (x15 : FVec Ideal S1024x1024 .bf16)
    (x16 : FVec Ideal S1x1024 .f32) (x17 : FVec Ideal S1x1024 .f32) (x18 : FVec Ideal S16x1024 .bf16) : Prop where
  hp : p < 8
  v9 : kernelRun0_A.sl.v9 i = BitVec.ofNat 32 p
  h0 : ∀ r k, x0 (ix2 r k) = A.x b (512 * p + r) k
  h1 : p ≠ 0 → ∀ r k, x1 (ix2 r k) = A.x b (512 * p - 8 + r) k
  h2 : p ≠ 7 → ∀ r k, x2 (ix2 r k) = A.x b (512 * p + 512 + r) k
  h3 : ∀ k, x3 (ix2 0 k) = A.ing k
  h4 : ∀ k, x4 (ix2 0 k) = A.inb k
  h5 : ∀ k j, x5 (ix2 k j) = A.win k j
  h6 : ∀ j, x6 (ix2 0 j) = A.bin j
  h7 : ∀ g k d, x7 (ix3 g k d) = A.pw g k d
  h8 : ∀ c, x8 (ix2 0 c) = A.ps c
  h9 : ∀ k, x9 (ix2 0 k) = A.sg k
  h10 : ∀ k, x10 (ix2 0 k) = A.sb k
  h11 : ∀ h q d, x11 (ix3 h q d) = A.sw h q d
  h12 : ∀ (q : Fin 128) (c : Fin 1024), x12 (ix2 q c) = A.sbias ⟨c / 128, by omega⟩ q
  h13 : ∀ j k, x13 (ix2 j k) = A.pa j k
  h14 : ∀ j k, x14 (ix2 j k) = A.pb j k
  h15 : ∀ j k, x15 (ix2 j k) = A.wout j k
  h16 : ∀ k, x16 (ix2 0 k) = A.lg k
  h17 : ∀ k, x17 (ix2 0 k) = A.lb k
  h18 : ∀ e k, x18 (ix2 e k) = A.wr k e

variable (c : Dev nD) (i : grid0.Coords)
  (arg1 : Memref sig .tc .vmem S512x1024 .f32) (harg1 : arg1.IsWhole) (arg2 : Memref sig .tc .vmem S8x1024 .f32) (harg2 : arg2.IsWhole)
  (arg3 : Memref sig .tc .vmem S8x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1024x4608 .bf16) (harg6 : arg6.IsWhole)
  (arg7 : Memref sig .tc .vmem S1x4608 .f32) (harg7 : arg7.IsWhole) (arg8 : Memref sig .tc .vmem S4x128x128 .bf16) (harg8 : arg8.IsWhole)
  (arg9 : Memref sig .tc .vmem S1x512 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S8x128x128 .bf16) (harg12 : arg12.IsWhole)
  (arg13 : Memref sig .tc .vmem S128x1024 .f32) (harg13 : arg13.IsWhole) (arg14 : Memref sig .tc .vmem S512x1024 .bf16) (harg14 : arg14.IsWhole)
  (arg15 : Memref sig .tc .vmem S1024x1024 .bf16) (harg15 : arg15.IsWhole) (arg16 : Memref sig .tc .vmem S1024x1024 .bf16) (harg16 : arg16.IsWhole)
  (arg17 : Memref sig .tc .vmem S1x1024 .f32) (harg17 : arg17.IsWhole) (arg18 : Memref sig .tc .vmem S1x1024 .f32) (harg18 : arg18.IsWhole)
  (arg19 : Memref sig .tc .vmem S16x1024 .bf16) (harg19 : arg19.IsWhole)
  (arg22 : Memref sig .tc .vmem S512x4608 .f32) (arg23 : Memref sig .tc .vmem S528x512 .f32)
  (arg24 : Memref sig .tc .vmem S512x512 .bf16) (arg25 : Memref sig .tc .vmem S512x1024 .bf16)
  (x0 : FVec Ideal S512x1024 .f32) (x1 : FVec Ideal S8x1024 .f32) (x2 : FVec Ideal S8x1024 .f32) (x3 : FVec Ideal S1x1024 .f32)
  (x4 : FVec Ideal S1x1024 .f32) (x5 : FVec Ideal S1024x4608 .bf16) (x6 : FVec Ideal S1x4608 .f32) (x7 : FVec Ideal S4x128x128 .bf16)
  (x8 : FVec Ideal S1x512 .f32) (x9 : FVec Ideal S1x1024 .f32) (x10 : FVec Ideal S1x1024 .f32) (x11 : FVec Ideal S8x128x128 .bf16)
  (x12 : FVec Ideal S128x1024 .f32) (x13 : FVec Ideal S512x1024 .bf16) (x14 : FVec Ideal S1024x1024 .bf16) (x15 : FVec Ideal S1024x1024 .bf16)
  (x16 : FVec Ideal S1x1024 .f32) (x17 : FVec Ideal S1x1024 .f32) (x18 : FVec Ideal S16x1024 .bf16)
  {A : Args} {b : Fin 8} {p : ℕ}
  (H : Blk A b p i x0 x1 x2 x3 x4 x5 x6 x7 x8 x9 x10 x11 x12 x13 x14 x15 x16 x17 x18)

include H

/-- The tile's rows after the first layer norm. -/
theorem hid_at (r : Fin 512) (k : Fin 1024) :
    kernelRun0_A.sl.r_4 (F := Ideal) c arg1 harg1 arg4 harg4 arg5 harg5 x0 x3 x4 (ix2 r k) = A.hid b (512 * p + r) k := by
  unfold kernelRun0_A.sl.r_4 kernelRun0_A.sl.r_2 kernelRun0_A.sl.r_3
  simp (disch := decide) only [View.readAt_eq_ld, Memref.IsWhole.read_unread, View.ld_unit_lit']
  have e : k0_pay7 (F := Ideal) (k0_pay5 x4) (k0_pay6 x0 x3) (ix2 r k)
      = lnRow 0x44800000#32 (fun k => x0 (ix2 r k)) (fun k => x3 (ix2 0 k)) (fun k => x4 (ix2 0 k)) k := by
    pointwise [k0_pay5, k0_pay6, k0_pay7, lnRow, mean]
  rw [e]
  simp only [H.h0, H.h3, H.h4]
  rfl

/-- The projection of the tile's rows, as the first scratch buffer holds it. -/
def projT (A : Args) (b : Fin 8) (p : ℕ) : FVec Ideal S512x4608 .f32 := fun y => A.proj b (512 * p + (y 0).val) (y 1)

theorem scratch0 : View.canon (kernelRun0_A.sl.HS0_1 (F := Ideal) c arg1 harg1 arg4 harg4 arg5 harg5 arg6 harg6 arg7 harg7 x0 x3 x4 x5 x6) = projT A b p := by
  funext y
  unfold kernelRun0_A.sl.HS0_1
  simp (disch := decide) only [View.readAt_eq_ld, Memref.IsWhole.read_unread, View.ld_unit_lit', View.canon_cons_unit_lit']
  idx_vars y
  have e : ∀ z : FVec Ideal S512x1024 .f32, k0_pay14 (F := Ideal) z x5 x6 (ix2 y0 y1)
      = (∑ k : Fin 1024, z (ix2 y0 k) * x5 (ix2 k y1)) + x6 (ix2 0 y1) := by
    intro z
    pointwise [k0_pay14]
  rw [e]
  simp only [hid_at (H := H), H.h5, H.h6]
  rfl

/-- The projection of eight rows through the layer norm, from the loaded weights. -/
def eight (z : FVec Ideal S8x1024 .f32) (g o : FVec Ideal S1x1024 .f32) (w : FVec Ideal S1024x512 .bf16)
    (q : FVec Ideal S1x512 .f32) (r : Fin 8) (k : Fin 512) : EReal :=
  (∑ j : Fin 1024, lnRow 0x44800000#32 (fun j => z (ix2 r j)) (fun j => g (ix2 0 j)) (fun j => o (ix2 0 j)) j * w (ix2 j k))
    + q (ix2 0 k)

omit H in
theorem before_pay (v : BitVec 32) (z : FVec Ideal S8x1024 .f32) (g o : FVec Ideal S1x1024 .f32)
    (w : FVec Ideal S1024x512 .bf16) (q : FVec Ideal S1x512 .f32) (r : Fin 8) (k : Fin 512) :
    k0_pay16 (F := Ideal) v (k0_pay8 (k0_pay3 z) g o) w q (ix2 r k)
      = Scalar.select (Scalar.cmpi .eq v 0#32) 0 (eight z g o w q r k) := by
  pointwise [k0_pay16, k0_pay8, k0_pay3, eight, lnRow, mean]

omit H in
theorem after_pay (v : BitVec 1) (z : FVec Ideal S8x1024 .f32) (g o : FVec Ideal S1x1024 .f32)
    (w : FVec Ideal S1024x512 .bf16) (q : FVec Ideal S1x512 .f32) (r : Fin 8) (k : Fin 512) :
    k0_pay19 (F := Ideal) (k0_pay15 (k0_pay9 g) (k0_pay10 o) (k0_pay11 (k0_pay4 z)) (k0_pay12 (k0_pay4 z)) k0_pay13 w q) v (ix2 r k)
      = Scalar.select v 0 (eight z g o w q r k) := by
  pointwise [k0_pay19, k0_pay15, k0_pay9, k0_pay10, k0_pay11, k0_pay12, k0_pay4, k0_pay13, eight, lnRow, mean]

omit H in
/-- The same from the whole weights, of a position inside the sequence. -/
theorem eight_eq (z : FVec Ideal S8x1024 .f32) (n : ℕ) (h3 : ∀ k, x3 (ix2 0 k) = A.ing k) (h4 : ∀ k, x4 (ix2 0 k) = A.inb k)
    (h5 : ∀ k j, x5 (ix2 k j) = A.win k j) (h6 : ∀ j, x6 (ix2 0 j) = A.bin j)
    (r : Fin 8) (k : Fin 512) (hz : ∀ j, z (ix2 r j) = A.x b n j) :
    eight z x3 x4
      (View.ld (Val := Elt Ideal) (e' := .bf16) x5 (Rect.unit (s := S1024x4608) ![0, 0] S1024x512.size inb_S1024x4608_S1024x512_0_0) :)
      (View.ld (Val := Elt Ideal) (e' := .f32) x6 (Rect.unit (s := S1x4608) ![0, 0] S1x512.size inb_S1x4608_S1x512_0_0) :) r k = A.proj b n ⟨k, by omega⟩ := by
  have e5 : ∀ j : Fin 1024, View.ld (Val := Elt Ideal) (e' := .bf16) x5 (Rect.unit (s := S1024x4608) ![0, 0] S1024x512.size inb_S1024x4608_S1024x512_0_0) (ix2 j k) = A.win j ⟨k, by omega⟩ := by
    intro j
    rw [← h5]
    pointwise
  have e6 : View.ld (Val := Elt Ideal) (e' := .f32) x6 (Rect.unit (s := S1x4608) ![0, 0] S1x512.size inb_S1x4608_S1x512_0_0) (ix2 0 k) = A.bin ⟨k, by omega⟩ := by
    rw [← h6]
    pointwise
  unfold eight
  simp only [e5, e6, hz, h3, h4]
  rfl

/-- The pool input with its eight rows on either side, as the second scratch buffer holds it. -/
def extT (A : Args) (b : Fin 8) (p : ℕ) : FVec Ideal S528x512 .f32 := fun y => A.pad b (512 * p + (y 0).val) (y 1)

omit H in
theorem extT_at {y : S528x512.Idx} (n : ℕ) (k : Fin 512) (h0 : (y 0).val = n) (h1 : (y 1).val = k.val) :
    extT A b p y = A.pad b (512 * p + n) k := by
  have e : y 1 = k := Fin.ext h1
  show A.pad b (512 * p + (y 0).val) (y 1) = _
  rw [h0, e]

omit H in
/-- A choice on whether the tile's place in its sequence is `w`. -/
theorem select_eq {α : Type} (p w : ℕ) (hp : p < 8) (hw : w < 8) (s t : α) :
    Scalar.select (Scalar.cmpi .eq (BitVec.ofNat 32 p) (BitVec.ofNat 32 w)) s t = if p = w then s else t := by
  interval_cases p <;> interval_cases w <;> rfl

theorem scratch1 : View.canon (kernelRun0_A.sl.HS1_3 (F := Ideal) c i arg1 harg1 arg2 harg2 arg3 harg3 arg4 harg4 arg5 harg5 arg6 harg6 arg7 harg7 arg22 x0 x1 x2 x3 x4 x5 x6) = extT A b p := by
  have hp := H.hp
  have hc := View.cover_of_tiledBy (kernelRun0_A.sl.HS1_3 (F := Ideal) c i arg1 harg1 arg2 harg2 arg3 harg3 arg4 harg4 arg5 harg5 arg6 harg6 arg7 harg7 arg22 x0 x1 x2 x3 x4 x5 x6)
    ![8, 512] (by sl_kernel_rfl)
  funext y
  unfold kernelRun0_A.sl.HS1_3 at hc ⊢
  canon_tiles u h using hc y
  · unfold kernelRun0_A.sl.r_10 kernelRun0_A.sl.r_6 kernelRun0_A.sl.r_7 kernelRun0_A.sl.r_8 kernelRun0_A.sl.r_9
      kernelRun0_A.sl.r_1 kernelRun0_A.sl.v118
    simp (disch := decide) only [View.readAt_eq_ld, Memref.IsWhole.read_unread, View.ld_unit_lit']
    idx_vars u
    rw [after_pay, H.v9, select_eq p 7 hp (by omega), extT_at _ _ h0 h1]
    by_cases e : p = 7
    · rw [if_pos e, Args.pad, if_neg (by omega)]
    · rw [if_neg e, Args.pad, if_pos (by omega)]
      exact eight_eq (A := A) (b := b) (x3 := x3) (x4 := x4) (x5 := x5) (x6 := x6) x2 _ H.h3 H.h4 H.h5 H.h6 u0 u1
        fun j => by rw [H.h2 e]; congr 1; omega
  · unfold kernelRun0_A.sl.v124
    rw [View.readCov_eq_canon', scratch0 (H := H)]
    idx_vars u
    rw [extT_at _ _ h0 h1, Args.pad, if_pos (by omega)]
    pointwise [k0_pay18, projT]
    congr 1
    omega
  · unfold kernelRun0_A.sl.r_11 kernelRun0_A.sl.r_5 kernelRun0_A.sl.r
    simp (disch := decide) only [View.readAt_eq_ld, Memref.IsWhole.read_unread, View.ld_unit_lit']
    idx_vars u
    have e : ∀ z : FVec Ideal S8x512 .f32, k0_pay17 z (ix2 u0 u1) = z (ix2 u0 u1) := by
      intro z
      pointwise [k0_pay17]
    rw [e, before_pay, H.v9, select_eq p 0 hp (by omega), extT_at _ _ h0 h1]
    by_cases e : p = 0
    · rw [if_pos e, Args.pad, if_neg (by omega)]
    · rw [if_neg e, Args.pad, if_pos (by omega)]
      exact eight_eq (A := A) (b := b) (x3 := x3) (x4 := x4) (x5 := x5) (x6 := x6) x1 _ H.h3 H.h4 H.h5 H.h6 u0 u1
        fun j => by rw [H.h1 e]; congr 1; omega

end Cert.MixerIdeal.Tile

end
-- ==== Proof.MixPool.lean ====
/- The pool branch of the mixer body. -/
module

public import proofs.«01_k».proof.Proof.MixTile
public import Idealize.ShloMosaic.Lib.Tactic.WordOmega

@[expose] public section

set_option maxRecDepth 16384

noncomputable section

open Idealize.ShloMosaic Idealize.ShloMosaic.TcCoe Idealize.SL.Sem

namespace Cert.MixerIdeal.Tile

open Cert.MixerIdeal Cert.MixerIdeal.Gen Cert.Spec Cert.Spec.Args

variable (c : Dev nD) (i : grid0.Coords)
  (arg1 : Memref sig .tc .vmem S512x1024 .f32) (harg1 : arg1.IsWhole) (arg2 : Memref sig .tc .vmem S8x1024 .f32) (harg2 : arg2.IsWhole)
  (arg3 : Memref sig .tc .vmem S8x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1024x4608 .bf16) (harg6 : arg6.IsWhole)
  (arg7 : Memref sig .tc .vmem S1x4608 .f32) (harg7 : arg7.IsWhole) (arg8 : Memref sig .tc .vmem S4x128x128 .bf16) (harg8 : arg8.IsWhole)
  (arg9 : Memref sig .tc .vmem S1x512 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S8x128x128 .bf16) (harg12 : arg12.IsWhole)
  (arg13 : Memref sig .tc .vmem S128x1024 .f32) (harg13 : arg13.IsWhole) (arg14 : Memref sig .tc .vmem S512x1024 .bf16) (harg14 : arg14.IsWhole)
  (arg15 : Memref sig .tc .vmem S1024x1024 .bf16) (harg15 : arg15.IsWhole) (arg16 : Memref sig .tc .vmem S1024x1024 .bf16) (harg16 : arg16.IsWhole)
  (arg17 : Memref sig .tc .vmem S1x1024 .f32) (harg17 : arg17.IsWhole) (arg18 : Memref sig .tc .vmem S1x1024 .f32) (harg18 : arg18.IsWhole)
  (arg19 : Memref sig .tc .vmem S16x1024 .bf16) (harg19 : arg19.IsWhole)
  (arg22 : Memref sig .tc .vmem S512x4608 .f32) (arg23 : Memref sig .tc .vmem S528x512 .f32)
  (arg24 : Memref sig .tc .vmem S512x512 .bf16) (arg25 : Memref sig .tc .vmem S512x1024 .bf16)
  (x0 : FVec Ideal S512x1024 .f32) (x1 : FVec Ideal S8x1024 .f32) (x2 : FVec Ideal S8x1024 .f32) (x3 : FVec Ideal S1x1024 .f32)
  (x4 : FVec Ideal S1x1024 .f32) (x5 : FVec Ideal S1024x4608 .bf16) (x6 : FVec Ideal S1x4608 .f32) (x7 : FVec Ideal S4x128x128 .bf16)
  (x8 : FVec Ideal S1x512 .f32) (x9 : FVec Ideal S1x1024 .f32) (x10 : FVec Ideal S1x1024 .f32) (x11 : FVec Ideal S8x128x128 .bf16)
  (x12 : FVec Ideal S128x1024 .f32) (x13 : FVec Ideal S512x1024 .bf16) (x14 : FVec Ideal S1024x1024 .bf16) (x15 : FVec Ideal S1024x1024 .bf16)
  (x16 : FVec Ideal S1x1024 .f32) (x17 : FVec Ideal S1x1024 .f32) (x18 : FVec Ideal S16x1024 .bf16)
  {A : Args} {b : Fin 8} {p : ℕ}
  (H : Blk A b p i x0 x1 x2 x3 x4 x5 x6 x7 x8 x9 x10 x11 x12 x13 x14 x15 x16 x17 x18)

include H

omit H in
/-- A position's word from the tile's place, the chunk's first row and the row in the chunk. -/
theorem pos_word (p q u : ℕ) : IntOp.addi (Scalar.addi (Scalar.muli (BitVec.ofNat 32 p) 512#32) (BitVec.ofNat 32 q)) (BitVec.ofNat 32 u)
    = BitVec.ofNat 32 (512 * p + (q + u)) := by
  show BitVec.ofNat 32 p * BitVec.ofNat 32 512 + BitVec.ofNat 32 q + BitVec.ofNat 32 u = _
  rw [← BitVec.ofNat_mul, ← BitVec.ofNat_add, ← BitVec.ofNat_add]
  congr 1
  omega

omit H in
/-- The count of the window's positions, computed on words. -/
theorem cnt_word (n h : ℕ) (hn : n < 4096) (hh : h ≤ 8) :
    FloatOps.sitofp (F := Ideal) FTy.f32 (IntOp.subi (IntOp.minsi (IntOp.addi (BitVec.ofNat 32 n) (BitVec.ofNat 32 h)) 4096#32)
        (IntOp.maxsi (IntOp.subi (BitVec.ofNat 32 n) (BitVec.ofNat 32 h)) 0#32)) = cnt h n := by
  have e : (IntOp.subi (IntOp.minsi (IntOp.addi (BitVec.ofNat 32 n) (BitVec.ofNat 32 h)) 4096#32)
        (IntOp.maxsi (IntOp.subi (BitVec.ofNat 32 n) (BitVec.ofNat 32 h)) 0#32)).toInt = ((min (n + h) 4096 - (n - h) : ℕ) : ℤ) := by
    have e1 : (BitVec.ofNat 32 n + BitVec.ofNat 32 h).toInt = n + h := by
      rw [← BitVec.ofNat_add, BitVec.toInt_eq_toNat_bmod, BitVec.toNat_ofNat, Int.bmod_def]
      omega
    have e2 : (BitVec.ofNat 32 n - BitVec.ofNat 32 h).toInt = n - h := by
      rw [BitVec.toInt_sub, BitVec.toInt_eq_toNat_bmod (BitVec.ofNat 32 n), BitVec.toInt_eq_toNat_bmod (BitVec.ofNat 32 h), BitVec.toNat_ofNat, BitVec.toNat_ofNat, Int.bmod_def, Int.bmod_def, Int.bmod_def]
      omega
    have e3 : (4096#32).toInt = 4096 := rfl
    have e4 : (0#32).toInt = 0 := rfl
    simp only [IntOp.subi, IntOp.minsi, IntOp.maxsi, IntOp.addi, BitVec.slt, decide_eq_true_eq, e1, e2, e3, e4]
    split_ifs <;> rw [BitVec.toInt_sub, Int.bmod_def] <;> simp only [e1, e2, e3, e4] <;> omega
  show (((BitVec.toInt _ : ℤ) : ℝ) : EReal) = _
  rw [e]
  rfl

omit H in
theorem ya_group (n : ℕ) (g : Fin 4) (d : Fin 128) (c : Fin 512) (hc : c.val = 128 * g + d) :
    A.ya b n c = (∑ k, A.pooled b n g k * A.pw g k d) * A.ps c := by
  have e1 : (⟨c / 128, by omega⟩ : Fin 4) = g := Fin.ext (by show c.val / 128 = g.val; omega)
  have e2 : (⟨c % 128, by omega⟩ : Fin 128) = d := Fin.ext (by show c.val % 128 = d.val; omega)
  rw [Args.ya, e1, e2]

/-- The pool branch of the tile's rows, as the third scratch buffer holds it. -/
def yaT (A : Args) (b : Fin 8) (p : ℕ) : FVec Ideal S512x512 .bf16 := fun y => A.ya b (512 * p + (y 0).val) (y 1)

omit H in
/-- The same at row `q + u` and column `t + d`, with the window's sum written by its offsets. -/
theorem yaT_at (g : Fin 4) (h w e t q : ℕ) (hh : 2 ^ g.val = h) (hw : 2 * 2 ^ g.val = w) (he : 8 - 2 ^ g.val = e)
    (ht : 128 * g.val = t) (y : S512x512.Idx) (u : ℕ) (d : Fin 128) (h0 : (y 0).val = q + u) (h1 : (y 1).val = t + d) :
    yaT A b p y = (∑ k : Fin 128, (Ideal.div (∑ o ∈ Finset.range w, A.pad b (512 * p + (q + e + o + u)) ⟨t + k, by omega⟩)
        (cnt h (512 * p + (q + u))) - A.proj b (512 * p + (q + u)) ⟨t + k, by omega⟩) * A.pw g k d)
      * A.ps ⟨t + d, by omega⟩ := by
  have e1 : y 1 = (⟨t + d, by omega⟩ : Fin 512) := Fin.ext h1
  have hg : 2 ^ g.val ≤ 8 :=
    show 2 ^ g.val ≤ 2 ^ 3 from Nat.pow_le_pow_right (by decide) (by omega)
  have e2 : yaT A b p y = A.ya b (512 * p + (q + u)) ⟨t + d, by omega⟩ := by
    rw [← h0, ← e1]
    rfl
  rw [e2, ya_group _ g d _ (by show t + d.val = _; omega)]
  subst hh hw he ht
  congr 1
  refine Finset.sum_congr rfl fun k _ => ?_
  rw [Args.pooled]
  congr 3
  refine Finset.sum_congr rfl fun o _ => ?_
  congr 1
  omega

theorem scratch2 : View.canon (kernelRun0_A.sl.HS2_16 (F := Ideal) c i arg1 harg1 arg2 harg2 arg3 harg3 arg4 harg4 arg5 harg5 arg6 harg6 arg7 harg7 arg8 harg8 arg9 harg9 arg22 arg23 x0 x1 x2 x3 x4 x5 x6 x7 x8) = yaT A b p := by
  have hp := H.hp
  funext y
  unfold kernelRun0_A.sl.HS2_16
  canon_tiles u h
  all_goals
    simp only [
    kernelRun0_A.sl.r_12, kernelRun0_A.sl.r_13, kernelRun0_A.sl.r_14, kernelRun0_A.sl.r_15, kernelRun0_A.sl.r_16, kernelRun0_A.sl.r_17,
    kernelRun0_A.sl.r_18, kernelRun0_A.sl.r_19, kernelRun0_A.sl.r_28, kernelRun0_A.sl.r_29, kernelRun0_A.sl.r_30, kernelRun0_A.sl.r_31,
    kernelRun0_A.sl.r_32, kernelRun0_A.sl.r_33, kernelRun0_A.sl.r_34, kernelRun0_A.sl.r_35, kernelRun0_A.sl.r_45, kernelRun0_A.sl.r_46,
    kernelRun0_A.sl.r_47, kernelRun0_A.sl.r_48, kernelRun0_A.sl.r_49, kernelRun0_A.sl.r_50, kernelRun0_A.sl.r_51, kernelRun0_A.sl.r_62,
    kernelRun0_A.sl.r_63, kernelRun0_A.sl.r_64, kernelRun0_A.sl.r_65, kernelRun0_A.sl.r_66, kernelRun0_A.sl.r_67, kernelRun0_A.sl.r_68,
    kernelRun0_A.sl.v136, kernelRun0_A.sl.v137, kernelRun0_A.sl.v151, kernelRun0_A.sl.v165, kernelRun0_A.sl.v166, kernelRun0_A.sl.v168,
    kernelRun0_A.sl.v170, kernelRun0_A.sl.v184, kernelRun0_A.sl.v198, kernelRun0_A.sl.v199, kernelRun0_A.sl.v201, kernelRun0_A.sl.v203,
    kernelRun0_A.sl.v205, kernelRun0_A.sl.v207, kernelRun0_A.sl.v209, kernelRun0_A.sl.v211, kernelRun0_A.sl.v225, kernelRun0_A.sl.v239,
    kernelRun0_A.sl.v240, kernelRun0_A.sl.v242, kernelRun0_A.sl.v244, kernelRun0_A.sl.v246, kernelRun0_A.sl.v248, kernelRun0_A.sl.v250,
    kernelRun0_A.sl.v252, kernelRun0_A.sl.v254, kernelRun0_A.sl.v256, kernelRun0_A.sl.v258, kernelRun0_A.sl.v260, kernelRun0_A.sl.v262,
    kernelRun0_A.sl.v264, kernelRun0_A.sl.v266, kernelRun0_A.sl.v268, kernelRun0_A.sl.v282, kernelRun0_A.sl.v458, kernelRun0_A.sl.v459,
    kernelRun0_A.sl.v473, kernelRun0_A.sl.v487, kernelRun0_A.sl.v488, kernelRun0_A.sl.v490, kernelRun0_A.sl.v492, kernelRun0_A.sl.v506,
    kernelRun0_A.sl.v520, kernelRun0_A.sl.v521, kernelRun0_A.sl.v523, kernelRun0_A.sl.v525, kernelRun0_A.sl.v527, kernelRun0_A.sl.v529,
    kernelRun0_A.sl.v531, kernelRun0_A.sl.v533, kernelRun0_A.sl.v547, kernelRun0_A.sl.v561, kernelRun0_A.sl.v562, kernelRun0_A.sl.v564,
    kernelRun0_A.sl.v566, kernelRun0_A.sl.v568, kernelRun0_A.sl.v570, kernelRun0_A.sl.v572, kernelRun0_A.sl.v574, kernelRun0_A.sl.v576,
    kernelRun0_A.sl.v578, kernelRun0_A.sl.v580, kernelRun0_A.sl.v582, kernelRun0_A.sl.v584, kernelRun0_A.sl.v586, kernelRun0_A.sl.v588,
    kernelRun0_A.sl.v590, kernelRun0_A.sl.v604, kernelRun0_A.sl.v780, kernelRun0_A.sl.v781, kernelRun0_A.sl.v795, kernelRun0_A.sl.v809,
    kernelRun0_A.sl.v810, kernelRun0_A.sl.v812, kernelRun0_A.sl.v814, kernelRun0_A.sl.v828, kernelRun0_A.sl.v842, kernelRun0_A.sl.v843,
    kernelRun0_A.sl.v845, kernelRun0_A.sl.v847, kernelRun0_A.sl.v849, kernelRun0_A.sl.v851, kernelRun0_A.sl.v853, kernelRun0_A.sl.v855,
    kernelRun0_A.sl.v869, kernelRun0_A.sl.v883, kernelRun0_A.sl.v884, kernelRun0_A.sl.v886, kernelRun0_A.sl.v888, kernelRun0_A.sl.v890,
    kernelRun0_A.sl.v892, kernelRun0_A.sl.v894, kernelRun0_A.sl.v896, kernelRun0_A.sl.v898, kernelRun0_A.sl.v900, kernelRun0_A.sl.v902,
    kernelRun0_A.sl.v904, kernelRun0_A.sl.v906, kernelRun0_A.sl.v908, kernelRun0_A.sl.v910, kernelRun0_A.sl.v912, kernelRun0_A.sl.v926,
    kernelRun0_A.sl.v1102, kernelRun0_A.sl.v1103, kernelRun0_A.sl.v1117, kernelRun0_A.sl.v1131, kernelRun0_A.sl.v1132, kernelRun0_A.sl.v1134,
    kernelRun0_A.sl.v1136, kernelRun0_A.sl.v1150, kernelRun0_A.sl.v1164, kernelRun0_A.sl.v1165, kernelRun0_A.sl.v1167, kernelRun0_A.sl.v1169,
    kernelRun0_A.sl.v1171, kernelRun0_A.sl.v1173, kernelRun0_A.sl.v1175, kernelRun0_A.sl.v1177, kernelRun0_A.sl.v1191, kernelRun0_A.sl.v1205,
    kernelRun0_A.sl.v1206, kernelRun0_A.sl.v1208, kernelRun0_A.sl.v1210, kernelRun0_A.sl.v1212, kernelRun0_A.sl.v1214, kernelRun0_A.sl.v1216,
    kernelRun0_A.sl.v1218, kernelRun0_A.sl.v1220, kernelRun0_A.sl.v1222, kernelRun0_A.sl.v1224, kernelRun0_A.sl.v1226, kernelRun0_A.sl.v1228,
    kernelRun0_A.sl.v1230, kernelRun0_A.sl.v1232, kernelRun0_A.sl.v1234, kernelRun0_A.sl.v1248,
    View.readCov_eq_canon', scratch1 (H := H), scratch0 (H := H), View.readAt_eq_ld, Memref.IsWhole.read_unread, H.v9]
    idx_vars u
    pointwise [k0_pay20, k0_pay21, k0_pay22, k0_pay23, k0_pay24, k0_pay25, k0_pay26, k0_pay27, k0_pay28, k0_pay29, k0_pay30, k0_pay31, k0_pay48, k0_pay49, k0_pay50, k0_pay51, k0_pay52, k0_pay53, k0_pay54, k0_pay55, k0_pay56, k0_pay57, k0_pay58, k0_pay75, k0_pay76, k0_pay77, k0_pay78, k0_pay79, k0_pay80, k0_pay81, k0_pay82, k0_pay83, k0_pay84, k0_pay85, k0_pay104, k0_pay105, k0_pay106, k0_pay107, k0_pay108, k0_pay109, k0_pay110, k0_pay111, k0_pay112, k0_pay113, extT, projT]
    first
      | have hr : (y 0).val = 0 + u0.val := by omega
      | have hr : (y 0).val = 128 + u0.val := by omega
      | have hr : (y 0).val = 256 + u0.val := by omega
      | have hr : (y 0).val = 384 + u0.val := by omega
    first
      | rw [yaT_at 0 1 2 7 0 _ rfl rfl rfl rfl y u0 u1 hr (by omega)]
      | rw [yaT_at 1 2 4 6 128 _ rfl rfl rfl rfl y u0 u1 hr (by omega)]
      | rw [yaT_at 2 4 8 4 256 _ rfl rfl rfl rfl y u0 u1 hr (by omega)]
      | rw [yaT_at 3 8 16 0 384 _ rfl rfl rfl rfl y u0 u1 hr (by omega)]
    rw [pos_word, cnt_word _ _ (by omega) (by omega)]
    simp only [Finset.sum_range_succ, Finset.sum_range_zero, zero_add, Nat.add_zero, Nat.reduceAdd, H.h7, H.h8]

end Cert.MixerIdeal.Tile

end
-- ==== Proof.MixGate.lean ====
/- The gating branch of the mixer over one tile: its 32 pieces are the table of `Args.yb` at the tile's rows. -/
module

public import proofs.«01_k».proof.Proof.MixTile

@[expose] public section

set_option maxRecDepth 16384

noncomputable section

open Idealize.ShloMosaic Idealize.ShloMosaic.TcCoe Idealize.SL.Sem

namespace Cert.MixerIdeal.Tile

open Cert.MixerIdeal Cert.MixerIdeal.Gen Cert.Spec

variable (c : Dev nD) (i : grid0.Coords)
  (arg1 : Memref sig .tc .vmem S512x1024 .f32) (harg1 : arg1.IsWhole) (arg2 : Memref sig .tc .vmem S8x1024 .f32) (harg2 : arg2.IsWhole)
  (arg3 : Memref sig .tc .vmem S8x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1024x4608 .bf16) (harg6 : arg6.IsWhole)
  (arg7 : Memref sig .tc .vmem S1x4608 .f32) (harg7 : arg7.IsWhole) (arg8 : Memref sig .tc .vmem S4x128x128 .bf16) (harg8 : arg8.IsWhole)
  (arg9 : Memref sig .tc .vmem S1x512 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S8x128x128 .bf16) (harg12 : arg12.IsWhole)
  (arg13 : Memref sig .tc .vmem S128x1024 .f32) (harg13 : arg13.IsWhole) (arg14 : Memref sig .tc .vmem S512x1024 .bf16) (harg14 : arg14.IsWhole)
  (arg15 : Memref sig .tc .vmem S1024x1024 .bf16) (harg15 : arg15.IsWhole) (arg16 : Memref sig .tc .vmem S1024x1024 .bf16) (harg16 : arg16.IsWhole)
  (arg17 : Memref sig .tc .vmem S1x1024 .f32) (harg17 : arg17.IsWhole) (arg18 : Memref sig .tc .vmem S1x1024 .f32) (harg18 : arg18.IsWhole)
  (arg19 : Memref sig .tc .vmem S16x1024 .bf16) (harg19 : arg19.IsWhole)
  (arg22 : Memref sig .tc .vmem S512x4608 .f32) (arg23 : Memref sig .tc .vmem S528x512 .f32)
  (arg24 : Memref sig .tc .vmem S512x512 .bf16) (arg25 : Memref sig .tc .vmem S512x1024 .bf16)
  (x0 : FVec Ideal S512x1024 .f32) (x1 : FVec Ideal S8x1024 .f32) (x2 : FVec Ideal S8x1024 .f32) (x3 : FVec Ideal S1x1024 .f32)
  (x4 : FVec Ideal S1x1024 .f32) (x5 : FVec Ideal S1024x4608 .bf16) (x6 : FVec Ideal S1x4608 .f32) (x7 : FVec Ideal S4x128x128 .bf16)
  (x8 : FVec Ideal S1x512 .f32) (x9 : FVec Ideal S1x1024 .f32) (x10 : FVec Ideal S1x1024 .f32) (x11 : FVec Ideal S8x128x128 .bf16)
  (x12 : FVec Ideal S128x1024 .f32) (x13 : FVec Ideal S512x1024 .bf16) (x14 : FVec Ideal S1024x1024 .bf16) (x15 : FVec Ideal S1024x1024 .bf16)
  (x16 : FVec Ideal S1x1024 .f32) (x17 : FVec Ideal S1x1024 .f32) (x18 : FVec Ideal S16x1024 .bf16)
  {A : Args} {b : Fin 8} {p : ℕ}
  (H : Blk A b p i x0 x1 x2 x3 x4 x5 x6 x7 x8 x9 x10 x11 x12 x13 x14 x15 x16 x17 x18)

include H

omit H in
/-- A 128-row slice of the projection, 1024 columns from column `o`. -/
def pT (A : Args) (b : Fin 8) (p q o : ℕ) (ho : o + 1024 ≤ 4608) : FVec Ideal S128x1024 .f32 :=
  fun y => A.proj b (512 * p + (q + (y 0).val)) ⟨o + (y 1).val, by have h1 := (y 1).isLt; change (y 1).val < 1024 at h1; omega⟩

omit H in
/-- `gelu u` at the chunk's rows. -/
def uT (A : Args) (b : Fin 8) (p q : ℕ) : FVec Ideal S128x1024 .f32 := fun y => gelu (pT A b p q 512 (by decide) y)

omit H in
/-- The normalised `gelu v` at the chunk's rows. -/
def vT (A : Args) (b : Fin 8) (p q : ℕ) : FVec Ideal S128x1024 .bf16 := fun y => A.vb b (512 * p + (q + (y 0).val)) (y 1)

omit H in
theorem slice_proj (q o : ℕ) (ho : o + 1024 ≤ 4608) (inb) :
    (fun j => projT A b p ((Rect.unit (s := S512x4608) ![q, o] S128x1024.size inb).toLoadRect.idx j)) = pT A b p q o ho := by
  funext y
  idx_vars y
  refine congrArg₂ (A.proj b) ?_ (Fin.ext ?_)
  · show 512 * p + (q + 1 * y0.val) = 512 * p + (q + y0.val)
    rw [Nat.one_mul]
  · show o + 1 * y1.val = o + y1.val
    rw [Nat.one_mul]

theorem gainT (inb) : View.readAt (Elt Ideal) arg10.view (Rect.unit ![0, 0] S1x1024.size inb).toLoadRect (harg10.unread x9)
    = (fun y => A.sg (y 1) : FVec Ideal S1x1024 .f32) := by
  simp only [View.readAt_eq_ld, Memref.IsWhole.read_unread]
  funext y
  idx_vars y
  pointwise []
  exact H.h9 _

theorem offsetT (inb) : View.readAt (Elt Ideal) arg11.view (Rect.unit ![0, 0] S1x1024.size inb).toLoadRect (harg11.unread x10)
    = (fun y => A.sb (y 1) : FVec Ideal S1x1024 .f32) := by
  simp only [View.readAt_eq_ld, Memref.IsWhole.read_unread]
  funext y
  idx_vars y
  pointwise []
  exact H.h10 _

omit H in
theorem gelu_u (q : ℕ) (ho) : k0_pay32 (F := Ideal) (pT A b p q 512 ho) = uT A b p q := by
  funext y
  idx_vars y
  pointwise [k0_pay32]
  rw [uT, gelu, mul_comm (pT _ _ _ _ _ _ _) (pT A b p q 512 _ _ * _)]

omit H in
theorem gelu_v (z : FVec Ideal S128x1024 .f32) : k0_pay33 (F := Ideal) z = fun y => gelu (z y) := by
  funext y
  idx_vars y
  pointwise [k0_pay33]
  rw [gelu, mul_comm (z _) (z _ * _)]

omit H in
theorem norm_v (q : ℕ) (ho) : k0_pay36 (F := Ideal) (k0_pay33 (pT A b p q 1536 ho)) (k0_pay34 (fun y => A.sg (y 1))) (k0_pay35 (fun y => A.sb (y 1)))
    = vT A b p q := by
  rw [gelu_v]
  funext y
  idx_vars y
  pointwise [k0_pay36, k0_pay34, k0_pay35]
  rfl

omit H in
/-- The later chunks are computed by the first one's text. -/
theorem gelu_same1 : k0_pay59 (F := Ideal) = k0_pay32 := rfl

omit H in
theorem gelu_same2 : k0_pay86 (F := Ideal) = k0_pay32 := rfl

omit H in
theorem gelu_same3 : k0_pay114 (F := Ideal) = k0_pay32 := rfl

omit H in
theorem norm_same1 (v : FVec Ideal S128x1024 .f32) (s t : FVec Ideal S1x1024 .f32) :
    k0_pay64 (F := Ideal) (k0_pay60 v) (k0_pay61 s) (k0_pay62 t) (k0_pay63 v) (FloatOps.ofBits FTy.f32 1149239296#32)
      = k0_pay36 (F := Ideal) (k0_pay33 v) (k0_pay34 s) (k0_pay35 t) := rfl

omit H in
theorem norm_same2 (v : FVec Ideal S128x1024 .f32) (s t : FVec Ideal S1x1024 .f32) :
    k0_pay91 (F := Ideal) (k0_pay87 v) (k0_pay88 s) (k0_pay89 t) (k0_pay90 v) = k0_pay36 (F := Ideal) (k0_pay33 v) (k0_pay34 s) (k0_pay35 t) := rfl

omit H in
theorem norm_same3 (v : FVec Ideal S128x1024 .f32) (s t : FVec Ideal S1x1024 .f32) :
    k0_pay119 (F := Ideal) (k0_pay115 s) (k0_pay116 t) (k0_pay117 v) (k0_pay118 v) = k0_pay36 (F := Ideal) (k0_pay33 v) (k0_pay34 s) (k0_pay35 t) := rfl

omit H in
/-- The gating branch of the tile's rows, as the fourth scratch buffer holds it. -/
def ybT (A : Args) (b : Fin 8) (p : ℕ) : FVec Ideal S512x1024 .bf16 := fun y => A.yb b (512 * p + (y 0).val) (y 1)

/-- The same at row `q + u` of the chunk that begins at row `q` and column `d` of the head `hd`. -/
theorem ybT_at (hd : Fin 8) (q : ℕ) (cc : Fin 1024) (y : S512x1024.Idx) (u d : Fin 128) (hq : q % 128 = 0)
    (h0 : (y 0).val = q + u) (h1 : (y 1).val = cc.val) (hc : cc.val = 128 * hd.val + d.val) :
    uT A b p q (ix2 u cc) * ((∑ k : Fin 128, x11 (ix3 hd u k) * vT A b p q (ix2 k cc)) + x12 (ix2 u cc)) = ybT A b p y := by
  have e1 : y 1 = cc := Fin.ext h1
  have e2 : ybT A b p y = A.yb b (512 * p + (q + u)) cc := by
    rw [← h0, ← e1]
    rfl
  have e3 : (⟨cc.val / 128, by omega⟩ : Fin 8) = hd := Fin.ext (by show cc.val / 128 = hd.val; omega)
  have e4 : (⟨(512 * p + (q + u.val)) % 128, by omega⟩ : Fin 128) = u := Fin.ext (by show (512 * p + (q + u.val)) % 128 = u.val; omega)
  have e5 : 128 * ((512 * p + (q + u.val)) / 128) = 512 * p + q := by omega
  rw [e2, Args.yb]
  simp only [H.h11, H.h12, e3, e4, e5, Nat.add_assoc]
  rfl

theorem scratch3 : View.canon (kernelRun0_A.sl.HS3_32 (F := Ideal) c arg1 harg1 arg4 harg4 arg5 harg5 arg6 harg6 arg7 harg7 arg10 harg10 arg11 harg11 arg12 harg12 arg13 harg13 arg22 x0 x3 x4 x5 x6 x9 x10 x11 x12) = ybT A b p := by
  have hp := H.hp
  funext y
  unfold kernelRun0_A.sl.HS3_32
  canon_tiles u h
  all_goals
    simp only [
    kernelRun0_A.sl.cst_211, kernelRun0_A.sl.cst_356, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_36, kernelRun0_A.sl.r_37,
    kernelRun0_A.sl.r_38, kernelRun0_A.sl.r_39, kernelRun0_A.sl.r_40, kernelRun0_A.sl.r_41, kernelRun0_A.sl.r_42, kernelRun0_A.sl.r_43,
    kernelRun0_A.sl.r_44, kernelRun0_A.sl.r_52, kernelRun0_A.sl.r_53, kernelRun0_A.sl.r_54, kernelRun0_A.sl.r_55, kernelRun0_A.sl.r_56,
    kernelRun0_A.sl.r_57, kernelRun0_A.sl.r_58, kernelRun0_A.sl.r_59, kernelRun0_A.sl.r_60, kernelRun0_A.sl.r_61, kernelRun0_A.sl.r_69,
    kernelRun0_A.sl.r_70, kernelRun0_A.sl.r_71, kernelRun0_A.sl.r_72, kernelRun0_A.sl.r_73, kernelRun0_A.sl.r_74, kernelRun0_A.sl.r_75,
    kernelRun0_A.sl.r_76, kernelRun0_A.sl.v296, kernelRun0_A.sl.v310, kernelRun0_A.sl.v618, kernelRun0_A.sl.v632, kernelRun0_A.sl.v940,
    kernelRun0_A.sl.v954, kernelRun0_A.sl.v1262, kernelRun0_A.sl.v1276,
    View.readCov_eq_canon', scratch0 (H := H), slice_proj _ _ (show 512 + 1024 ≤ 4608 by decide), slice_proj _ _ (show 1536 + 1024 ≤ 4608 by decide),
    gainT (H := H), offsetT (H := H), gelu_same1, gelu_same2, gelu_same3, norm_same1, norm_same2, norm_same3, gelu_u, norm_v,
    k0_pay37, k0_pay38, k0_pay39, k0_pay40, k0_pay41, k0_pay42, k0_pay43, k0_pay44, k0_pay45, k0_pay46, k0_pay47, k0_pay65, k0_pay66, k0_pay67,
    k0_pay68, k0_pay69, k0_pay70, k0_pay71, k0_pay72, k0_pay73, k0_pay74, k0_pay92, k0_pay93, k0_pay94, k0_pay95, k0_pay96, k0_pay97, k0_pay98,
    k0_pay99, k0_pay100, k0_pay101, k0_pay102, k0_pay103, k0_pay120, k0_pay121, k0_pay122, k0_pay123, k0_pay124, k0_pay125, k0_pay126, k0_pay127,
    k0_pay128, k0_pay129]
    simp only [View.readAt_eq_ld, Memref.IsWhole.read_unread]
    idx_vars u
    pointwise []
    first
      | have hr : (y 0).val = 0 + u0.val := by omega
      | have hr : (y 0).val = 128 + u0.val := by omega
      | have hr : (y 0).val = 256 + u0.val := by omega
      | have hr : (y 0).val = 384 + u0.val := by omega
    refine ybT_at (H := H) (y := y) (u := u0) (d := u1) (hq := by decide) (h0 := hr) (h1 := ?_) (hc := ?_)
    · dsimp only
      omega
    · first
        | rfl
        | exact (Nat.zero_add _).symm

end Cert.MixerIdeal.Tile

end
-- ==== Proof.MixOut.lean ====
/- The mixer's two results: over one tile from the four scratch tables, then over the whole arrays. -/
module

public import proofs.«01_k».proof.Proof.MixPool
public import proofs.«01_k».proof.Proof.MixGate

@[expose] public section

set_option maxRecDepth 16384

noncomputable section

open Idealize.ShloMosaic Idealize.ShloMosaic.TcCoe Idealize.SL.Sem

namespace Cert.MixerIdeal.Tile

open Cert.MixerIdeal Cert.MixerIdeal.Gen Cert.Spec

variable (c : Dev nD) (i : grid0.Coords)
  (arg1 : Memref sig .tc .vmem S512x1024 .f32) (harg1 : arg1.IsWhole) (arg2 : Memref sig .tc .vmem S8x1024 .f32) (harg2 : arg2.IsWhole)
  (arg3 : Memref sig .tc .vmem S8x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1024x4608 .bf16) (harg6 : arg6.IsWhole)
  (arg7 : Memref sig .tc .vmem S1x4608 .f32) (harg7 : arg7.IsWhole) (arg8 : Memref sig .tc .vmem S4x128x128 .bf16) (harg8 : arg8.IsWhole)
  (arg9 : Memref sig .tc .vmem S1x512 .f32) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S8x128x128 .bf16) (harg12 : arg12.IsWhole)
  (arg13 : Memref sig .tc .vmem S128x1024 .f32) (harg13 : arg13.IsWhole) (arg14 : Memref sig .tc .vmem S512x1024 .bf16) (harg14 : arg14.IsWhole)
  (arg15 : Memref sig .tc .vmem S1024x1024 .bf16) (harg15 : arg15.IsWhole) (arg16 : Memref sig .tc .vmem S1024x1024 .bf16) (harg16 : arg16.IsWhole)
  (arg17 : Memref sig .tc .vmem S1x1024 .f32) (harg17 : arg17.IsWhole) (arg18 : Memref sig .tc .vmem S1x1024 .f32) (harg18 : arg18.IsWhole)
  (arg19 : Memref sig .tc .vmem S16x1024 .bf16) (harg19 : arg19.IsWhole)
  (arg22 : Memref sig .tc .vmem S512x4608 .f32) (arg23 : Memref sig .tc .vmem S528x512 .f32)
  (arg24 : Memref sig .tc .vmem S512x512 .bf16) (arg25 : Memref sig .tc .vmem S512x1024 .bf16)
  (x0 : FVec Ideal S512x1024 .f32) (x1 : FVec Ideal S8x1024 .f32) (x2 : FVec Ideal S8x1024 .f32) (x3 : FVec Ideal S1x1024 .f32)
  (x4 : FVec Ideal S1x1024 .f32) (x5 : FVec Ideal S1024x4608 .bf16) (x6 : FVec Ideal S1x4608 .f32) (x7 : FVec Ideal S4x128x128 .bf16)
  (x8 : FVec Ideal S1x512 .f32) (x9 : FVec Ideal S1x1024 .f32) (x10 : FVec Ideal S1x1024 .f32) (x11 : FVec Ideal S8x128x128 .bf16)
  (x12 : FVec Ideal S128x1024 .f32) (x13 : FVec Ideal S512x1024 .bf16) (x14 : FVec Ideal S1024x1024 .bf16) (x15 : FVec Ideal S1024x1024 .bf16)
  (x16 : FVec Ideal S1x1024 .f32) (x17 : FVec Ideal S1x1024 .f32) (x18 : FVec Ideal S16x1024 .bf16)
  {A : Args} {b : Fin 8} {p : ℕ}
  (H : Blk A b p i x0 x1 x2 x3 x4 x5 x6 x7 x8 x9 x10 x11 x12 x13 x14 x15 x16 x17 x18)

include H

omit H in
/-- The residual sum at the tile's rows. -/
def resT (A : Args) (b : Fin 8) (p : ℕ) : FVec Ideal S512x1024 .f32 := fun y => A.res b (512 * p + (y 0).val) (y 1)

omit H in
theorem whole512 (f : FVec Ideal S512x512 .bf16) (inb) :
    (fun j => f ((Rect.unit (s := S512x512) ![0, 0] S512x512.size inb).toLoadRect.idx j)) = f := by
  funext y
  idx_vars y
  pointwise []

omit H in
theorem whole1024 (f : FVec Ideal S512x1024 .bf16) (inb) :
    (fun j => f ((Rect.unit (s := S512x1024) ![0, 0] S512x1024.size inb).toLoadRect.idx j)) = f := by
  funext y
  idx_vars y
  pointwise []

theorem residual : kernelRun0_A.sl.r_77 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg22 arg23 arg24 arg25 x0 x1 x2 x3 x4 x5 x6 x7 x8 x9 x10 x11 x12 x13 x14 x15 = resT A b p := by
  funext y
  idx_vars y
  simp only [kernelRun0_A.sl.r_77, kernelRun0_A.sl.v1419, kernelRun0_A.sl.v1423, kernelRun0_A.sl.v1427, kernelRun0_A.sl.v1430,
    View.readCov_eq_canon', scratch0 (H := H), scratch2 (H := H), scratch3 (H := H), whole512, whole1024, View.readAt_eq_ld, Memref.IsWhole.read_unread]
  pointwise [k0_pay130]
  simp only [hid_at (H := H), H.h13, H.h14, H.h15]
  rfl

/-- The tile of the first result. -/
theorem out_at (r : Fin 512) (k : Fin 1024) :
    k0_pay1 (k0_pay131 x16) (k0_pay132 x17) (k0_pay133 (resT A b p)) (k0_pay134 (resT A b p)) (ix2 r k) = A.out b (512 * p + r) k := by
  pointwise [k0_pay1, k0_pay131, k0_pay132, k0_pay133, k0_pay134]
  simp only [H.h16, H.h17]
  rfl

/-- The tile of the second result. -/
theorem logit_at (e : Fin 16) (r : Fin 512) :
    k0_pay2 (k0_pay131 x16) (k0_pay132 x17) (k0_pay133 (resT A b p)) (k0_pay134 (resT A b p)) x18 (ix2 e r) = A.logit b (512 * p + r) e := by
  have h : ∀ k : Fin 1024, _ := fun k => out_at (H := H) (r := r) (k := k)
  pointwise [k0_pay2]
  simp only [h, H.h18, Args.logit]
  exact Finset.sum_congr rfl fun k _ => mul_comm _ _

variable (arg20 : Memref sig .tc .vmem S512x1024 .f32) (harg20 : arg20.IsWhole) (arg21 : Memref sig .tc .vmem S16x512 .f32) (harg21 : arg21.IsWhole)
  (harg22 : arg22.IsWhole) (harg23 : arg23.IsWhole) (harg24 : arg24.IsWhole) (harg25 : arg25.IsWhole)

/-- What the body leaves of the first result. -/
theorem left19 (r : Fin 512) (k : Fin 1024) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 (ix2 r k) = A.out b (512 * p + r) k := by
  unfold out0_A_19 kernelRun0_A
  dsimp only
  simp (disch := decide) only [kernelRun0_A.sl.r_78, kernelRun0_A.sl.r_79, kernelRun0_A.sl.r_80, kernelRun0_A.sl.r_81, residual (H := H),
    View.read_writes_junk_eq_canon, View.canon_cons_unit_lit', View.readAt_eq_ld, Memref.IsWhole.read_unread, View.ld_unit_lit']
  exact out_at (H := H) (r := r) (k := k)

/-- What the body leaves of the second result. -/
theorem left20 (e : Fin 16) (r : Fin 512) : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 (ix2 e r) = A.logit b (512 * p + r) e := by
  unfold out0_A_20 kernelRun0_A
  dsimp only
  simp (disch := decide) only [kernelRun0_A.sl.r_78, kernelRun0_A.sl.r_79, kernelRun0_A.sl.r_80, kernelRun0_A.sl.r_81, residual (H := H),
    View.read_writes_junk_eq_canon, View.canon_cons_unit_lit', View.readAt_eq_ld, Memref.IsWhole.read_unread, View.ld_unit_lit']
  exact logit_at (H := H) (e := e) (r := r)

end Cert.MixerIdeal.Tile

end
-- ==== Proof.MixFinal.lean ====
/- The mixer's two result arrays after the whole run, as functions of the argument arrays. -/
module

public import proofs.«01_k».proof.Proof.MixOut

@[expose] public section

set_option maxRecDepth 16384

noncomputable section

open Idealize.ShloMosaic Idealize.ShloMosaic.TcCoe Idealize.SL.Sem
open Idealize.ShloMosaic.Pipeline (Dat)

namespace Cert.MixerIdeal.Tile

open Cert.MixerIdeal Cert.MixerIdeal.Gen Cert.Spec

/-- The mixer's arguments, read off their arrays. -/
def argsOf (a0 : FVec Ideal S8x4096x1024 .f32) (a1 a2 : FVec Ideal S1024 .f32) (a3 : FVec Ideal S1024x4608 .f32) (a4 : FVec Ideal S4608 .f32)
    (a5 : FVec Ideal S4x128x128 .f32) (a6 : FVec Ideal S512 .f32) (a7 a8 : FVec Ideal S1024 .f32) (a9 : FVec Ideal S8x128x128 .f32)
    (a10 : FVec Ideal S8x128 .f32) (a11 : FVec Ideal S512x1024 .f32) (a12 a13 : FVec Ideal S1024x1024 .f32) (a14 a15 : FVec Ideal S1024 .f32)
    (a16 : FVec Ideal S1024x16 .f32) : Args where
  x b n k := if h : n < 4096 then a0 (ix3 b ⟨n, h⟩ k) else 0
  ing k := a1 (ix1 k)
  inb k := a2 (ix1 k)
  win k j := a3 (ix2 k j)
  bin j := a4 (ix1 j)
  pw g k d := a5 (ix3 g k d)
  ps c := a6 (ix1 c)
  sg k := a7 (ix1 k)
  sb k := a8 (ix1 k)
  sw h q d := a9 (ix3 h q d)
  sbias h q := a10 (ix2 h q)
  pa j k := a11 (ix2 j k)
  pb j k := a12 (ix2 j k)
  wout j k := a13 (ix2 j k)
  lg k := a14 (ix1 k)
  lb k := a15 (ix1 k)
  wr k e := a16 (ix2 k e)

variable (m : (ℓ : Loc nD τ sig) → Buf (Elt Ideal) ℓ)

/-- The arguments as the launch's memory holds them. -/
def args (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16))

theorem place : ∀ t : Fin cfg0.N, kernelRun0_A.sl.v9 (grid0.coords t) = BitVec.ofNat 32 (t.val % 8) :=
  (by decide +kernel : ∀ t : Fin grid0.N, _)

theorem idx0 : ∀ t : Fin cfg0.N, win0_0.index t = ![t.val, 0] ∧ win0_1.index t = ![64 * t.val - 1, 0]
    ∧ win0_2.index t = ![min (64 * (t.val + 1)) 4095, 0] :=
  (by decide +kernel : ∀ t : Fin grid0.N, _)

theorem idx1 : ∀ t : Fin cfg0.N, win0_3.index t = ![0, 0] ∧ win0_4.index t = ![0, 0] ∧ win0_5.index t = ![0, 0]
    ∧ win0_6.index t = ![0, 0] ∧ win0_7.index t = ![0, 0, 0] ∧ win0_8.index t = ![0, 0] ∧ win0_9.index t = ![0, 0]
    ∧ win0_10.index t = ![0, 0] ∧ win0_11.index t = ![0, 0, 0] ∧ win0_12.index t = ![0, 0] :=
  (by decide +kernel : ∀ t : Fin grid0.N, _)

theorem idx2 : ∀ t : Fin cfg0.N, win0_13.index t = ![0, 0] ∧ win0_14.index t = ![0, 0] ∧ win0_15.index t = ![0, 0]
    ∧ win0_16.index t = ![0, 0] ∧ win0_17.index t = ![0, 0] ∧ win0_18.index t = ![0, 0]
    ∧ win0_19.index t = ![t.val, 0] ∧ win0_20.index t = ![0, t.val] :=
  (by decide +kernel : ∀ t : Fin grid0.N, _)

theorem x_at (c : Dev nD) (b : Fin 8) (n : ℕ) (hn : n < 4096) (k : Fin 1024) :
    (args m c).x b n k = m ((c : Thread nD τ).loc main_arg0) (ix3 b ⟨n, hn⟩ k) := dif_pos hn

theorem tile_at (c : Dev nD) (t : Fin cfg0.N) (b : Fin 8) (hb : b.val = t.val / 8) (r : Fin 512) (k : Fin 1024) :
    iblk m c 0 t (ix2 r k) = (args m c).x b (512 * (t.val % 8) + r) k := by
  rw [x_at m c b _ (by omega) k]
  blk_point [iblk, V, idx0 t]

theorem halo_before (c : Dev nD) (t : Fin cfg0.N) (b : Fin 8) (hb : b.val = t.val / 8) (hp : t.val % 8 ≠ 0) (r : Fin 8) (k : Fin 1024) :
    iblk m c 1 t (ix2 r k) = (args m c).x b (512 * (t.val % 8) - 8 + r) k := by
  rw [x_at m c b _ (by omega) k]
  blk_point [iblk, V, idx0 t]

theorem halo_after (c : Dev nD) (t : Fin cfg0.N) (b : Fin 8) (hb : b.val = t.val / 8) (hp : t.val % 8 ≠ 7) (r : Fin 8) (k : Fin 1024) :
    iblk m c 2 t (ix2 r k) = (args m c).x b (512 * (t.val % 8) + 512 + r) k := by
  rw [x_at m c b _ (by omega) k]
  have ht : min (64 * (t.val + 1)) 4095 = 64 * (t.val + 1) := by
    have := t.isLt
    change t.val < 64 at this
    omega
  blk_point [iblk, V, idx0 t, ht]

/-- The blocks at a grid point are the argument arrays' entries for the point's tile. -/
theorem blocks (c : Dev nD) (t : Fin cfg0.N) (b : Fin 8) (hb : b.val = t.val / 8) :
    Blk (args m c) b (t.val % 8) (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) where
  hp := Nat.mod_lt _ (by decide)
  v9 := place t
  h0 := tile_at m c t b hb
  h1 := fun h => halo_before m c t b hb h
  h2 := fun h => halo_after m c t b hb h
  h3 := fun a => by
    blk_point [iblk, V, idx1 t, args, argsOf]
  h4 := fun a => by
    blk_point [iblk, V, idx1 t, args, argsOf]
  h5 := fun a e => by
    blk_point [iblk, V, idx1 t, args, argsOf]
  h6 := fun a => by
    blk_point [iblk, V, idx1 t, args, argsOf]
  h7 := fun a e d => by
    blk_point [iblk, V, idx1 t, args, argsOf]
  h8 := fun a => by
    blk_point [iblk, V, idx1 t, args, argsOf]
  h9 := fun a => by
    blk_point [iblk, V, idx1 t, args, argsOf]
  h10 := fun a => by
    blk_point [iblk, V, idx1 t, args, argsOf]
  h11 := fun a e d => by
    blk_point [iblk, V, idx1 t, args, argsOf]
  h12 := fun a e => by
    blk_point [iblk, V, idx1 t, args, argsOf]
  h13 := fun a e => by
    blk_point [iblk, V, idx2 t, args, argsOf]
  h14 := fun a e => by
    blk_point [iblk, V, idx2 t, args, argsOf]
  h15 := fun a e => by
    blk_point [iblk, V, idx2 t, args, argsOf]
  h16 := fun a => by
    blk_point [iblk, V, idx2 t, args, argsOf]
  h17 := fun a => by
    blk_point [iblk, V, idx2 t, args, argsOf]
  h18 := fun a e => by
    blk_point [iblk, V, idx2 t, args, argsOf]

end Cert.MixerIdeal.Tile

end
-- ==== Proof.MixWhole.lean ====
/- The mixer's two result arrays after the whole run, token by token. -/
module

public import proofs.«01_k».proof.Proof.MixFinal

@[expose] public section

set_option maxRecDepth 16384

noncomputable section

open Idealize.ShloMosaic Idealize.ShloMosaic.TcCoe Idealize.SL.Sem
open Idealize.ShloMosaic.Pipeline (Dat)

namespace Cert.MixerIdeal.Tile

open Cert.MixerIdeal Cert.MixerIdeal.Gen Cert.Spec

variable (m : (ℓ : Loc nD τ sig) → Buf (Elt Ideal) ℓ)

/-- The first result, token by token. -/
def whole0 (A : Args) : FVec Ideal S32768x1024 .f32 := fun y => A.out ⟨(y 0).val / 4096, by have h := (y 0).isLt; change (y 0).val < 32768 at h; omega⟩ ((y 0).val % 4096) (y 1)

/-- The second result, token by token. -/
def whole1 (A : Args) : FVec Ideal S16x32768 .f32 := fun y => A.logit ⟨(y 1).val / 4096, by have h := (y 1).isLt; change (y 1).val < 32768 at h; omega⟩ ((y 1).val % 4096) (y 0)

theorem sequence (t : Fin cfg0.N) : t.val / 8 < 8 := by
  have := t.isLt
  change t.val < 64 at this
  omega

theorem whole0_at (A : Args) (z : S32768x1024.Idx) (b : Fin 8) (n : ℕ) (k : Fin 1024) (hn : n < 4096) (h0 : (z 0).val = 4096 * b + n)
    (h1 : (z 1).val = k.val) : A.out b n k = whole0 A z := by
  have e1 : z 1 = k := Fin.ext h1
  have e2 : (z 0).val % 4096 = n := by omega
  rw [whole0, e1, e2]
  congr 1
  exact Fin.ext (by show b.val = (z 0).val / 4096; omega)

theorem whole1_at (A : Args) (z : S16x32768.Idx) (b : Fin 8) (n : ℕ) (e : Fin 16) (hn : n < 4096) (h1 : (z 1).val = 4096 * b + n)
    (h0 : (z 0).val = e.val) : A.logit b n e = whole1 A z := by
  have e1 : z 0 = e := Fin.ext h0
  have e2 : (z 1).val % 4096 = n := by omega
  rw [whole1, e1, e2]
  congr 1
  exact Fin.ext (by show b.val = (z 1).val / 4096; omega)

theorem final0 (c : Dev nD) : (dats m 0 c).arrAt 19 (cfgs 0).N = whole0 (args m c) := by
  refine (dats m 0 c).arrAt_eq_of_covers 19 _ (by decide +kernel) fun t _ y => ?_
  blk_simp
  rw [after0_19]
  idx_vars y
  unfold outsAt0
  dsimp only
  rw [left19 (H := blocks m c t ⟨t.val / 8, sequence t⟩ rfl)]
  obtain ⟨-, -, -, -, -, -, e, -⟩ := idx2 t
  have ea : (((View.whole main_v20_0).slice (win0_19.rect t)).emb (ix2 y0 y1) 0).val = win0_19.index t 0 * 512 + 1 * y0.val := rfl
  have eb : (((View.whole main_v20_0).slice (win0_19.rect t)).emb (ix2 y0 y1) 1).val = win0_19.index t 1 * 1024 + 1 * y1.val := rfl
  rw [e] at ea eb
  change _ = t.val * 512 + 1 * y0.val at ea
  change _ = 0 * 1024 + 1 * y1.val at eb
  refine whole0_at _ _ _ _ _ (by omega) ?_ ?_
  · rw [ea]
    show _ = 4096 * (t.val / 8) + _
    omega
  · rw [eb]
    omega

theorem final1 (c : Dev nD) : (dats m 0 c).arrAt 20 (cfgs 0).N = whole1 (args m c) := by
  refine (dats m 0 c).arrAt_eq_of_covers 20 _ (by decide +kernel) fun t _ y => ?_
  blk_simp
  rw [after0_20]
  idx_vars y
  unfold outsAt0
  dsimp only
  rw [left20 (H := blocks m c t ⟨t.val / 8, sequence t⟩ rfl)]
  obtain ⟨-, -, -, -, -, -, -, e⟩ := idx2 t
  have ea : (((View.whole main_v20_1).slice (win0_20.rect t)).emb (ix2 y0 y1) 0).val = win0_20.index t 0 * 16 + 1 * y0.val := rfl
  have eb : (((View.whole main_v20_1).slice (win0_20.rect t)).emb (ix2 y0 y1) 1).val = win0_20.index t 1 * 512 + 1 * y1.val := rfl
  rw [e] at ea eb
  change _ = 0 * 16 + 1 * y0.val at ea
  change _ = t.val * 512 + 1 * y1.val at eb
  refine whole1_at _ _ _ _ _ (by omega) ?_ ?_
  · rw [eb]
    show _ = 4096 * (t.val / 8) + _
    omega
  · rw [ea]
    omega

end Cert.MixerIdeal.Tile

end
-- ==== Proof.MixRef.lean ====
/- The plain mixer's intermediate arrays are the tables of the token-by-token mathematics. -/
module

public import proofs.«01_k».proof.Proof.MixWhole
public import proofs.«01_k».proof.Proof.Gen.MixerRefIdeal.Run

@[expose] public section

set_option maxRecDepth 16384

noncomputable section

open Idealize.ShloMosaic Idealize.ShloMosaic.TcCoe Idealize.SL.Sem

namespace Cert.MixerRefIdeal.Table

open Cert.MixerRefIdeal Cert.MixerRefIdeal.Gen Cert.MixerRefIdeal.Value Cert.Spec

variable (V0 : Valuation τ sig (Elt Ideal))

/-- The arguments as the plain program finds them. -/
def args : Args :=
  Cert.MixerIdeal.Tile.argsOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg10))
    (V0 (Proc.devRef .tc main_arg11)) (V0 (Proc.devRef .tc main_arg12)) (V0 (Proc.devRef .tc main_arg13)) (V0 (Proc.devRef .tc main_arg14))
    (V0 (Proc.devRef .tc main_arg15)) (V0 (Proc.devRef .tc main_arg16))

theorem x_at (b : Fin 8) (s : Fin 4096) (k : Fin 1024) : (args V0).x b s k = V0 (Proc.devRef .tc main_arg0) (ix3 b s k) := dif_pos s.isLt

theorem hid_at (b : Fin 8) (s : Fin 4096) (k : Fin 1024) : res_main_v21 V0 (ix3 b s k) = (args V0).hid b s k := by
  rw [Args.hid, lnRow, mean, mean]
  simp only [x_at]
  pointwise [res_main_v21, res_main_v5]
  rfl

theorem proj_at (b : Fin 8) (s : Fin 4096) (j : Fin 4608) : res_main_v25 V0 (ix3 b s j) = (args V0).proj b s j := by
  pointwise [res_main_v25]
  simp only [hid_at]
  rfl

/-- A sum over the whole sequence under the window's mask is the sum over the window's offsets. -/
theorem window_sum (f : ℕ → EReal) (h t : ℕ) (hh : h ≤ 8) (ht : t < 4096) :
    (∑ s : Fin 4096, if t ≤ s.val + h ∧ s.val < t + h then f s else 0)
      = ∑ o ∈ Finset.range (2 * h), if 8 ≤ t + 8 - h + o ∧ t + 8 - h + o < 4104 then f (t + 8 - h + o - 8) else 0 := by
  rw [← Finset.sum_range (fun s => if t ≤ s + h ∧ s < t + h then f s else 0), ← Finset.sum_filter, ← Finset.sum_filter]
  refine Finset.sum_nbij' (fun s => s + h - t) (fun o => t + o - h) ?_ ?_ ?_ ?_ ?_
  all_goals
    intro s hs
    simp only [Finset.mem_filter, Finset.mem_range] at hs ⊢
  · omega
  · omega
  · omega
  · omega
  · congr 1
    omega

/-- The plain program's mask at position `s` of the row of position `t`. -/
def mask (s t h : ℕ) : EReal := FloatOps.uitofp (F := Ideal) FTy.f32 (IntOp.andi
  (IntOp.cmpi .sge (BitVec.ofNat 32 s) (IntOp.maxsi (IntOp.subi (BitVec.ofNat 32 t) (BitVec.ofNat 32 h)) 0#32))
  (IntOp.cmpi .slt (BitVec.ofNat 32 s) (IntOp.minsi (IntOp.addi (BitVec.ofNat 32 t) (BitVec.ofNat 32 h)) 4096#32)))

/-- The plain program's count of the window's positions. -/
def count (t h : ℕ) : EReal := FloatOps.sitofp (F := Ideal) FTy.f32
  (IntOp.subi (IntOp.minsi (IntOp.addi (BitVec.ofNat 32 t) (BitVec.ofNat 32 h)) 4096#32)
    (IntOp.maxsi (IntOp.subi (BitVec.ofNat 32 t) (BitVec.ofNat 32 h)) 0#32))

/-- The mask's entry: one inside the window, zero outside. -/
theorem mask_at (s t h : ℕ) (hs : s < 4096) (ht : t < 4096) (hh : h ≤ 8) : mask s t h
      = if t ≤ s + h ∧ s < t + h then 1 else 0 := by
  have e1 : (BitVec.ofNat 32 t + BitVec.ofNat 32 h).toInt = t + h := by
    rw [← BitVec.ofNat_add, BitVec.toInt_eq_toNat_bmod, BitVec.toNat_ofNat, Int.bmod_def]
    omega
  have e2 : (BitVec.ofNat 32 t - BitVec.ofNat 32 h).toInt = t - h := by
    rw [BitVec.toInt_sub, BitVec.toInt_eq_toNat_bmod (BitVec.ofNat 32 t), BitVec.toInt_eq_toNat_bmod (BitVec.ofNat 32 h), BitVec.toNat_ofNat,
      BitVec.toNat_ofNat, Int.bmod_def, Int.bmod_def, Int.bmod_def]
    omega
  have e3 : (4096#32).toInt = 4096 := rfl
  have e4 : (0#32).toInt = 0 := rfl
  have e5 : (BitVec.ofNat 32 s).toInt = s := by
    rw [BitVec.toInt_eq_toNat_bmod, BitVec.toNat_ofNat, Int.bmod_def]
    omega
  have f1 : (IntOp.maxsi (IntOp.subi (BitVec.ofNat 32 t) (BitVec.ofNat 32 h)) 0#32).toInt = max ((t : ℤ) - h) 0 := by
    simp only [IntOp.subi, IntOp.maxsi, BitVec.slt, e2, e4]
    by_cases c : (0 : ℤ) < t - h
    · rw [if_pos (decide_eq_true c), e2]
      omega
    · rw [if_neg (by simpa using c), e4]
      omega
  have f2 : (IntOp.minsi (IntOp.addi (BitVec.ofNat 32 t) (BitVec.ofNat 32 h)) 4096#32).toInt = min ((t : ℤ) + h) 4096 := by
    simp only [IntOp.addi, IntOp.minsi, BitVec.slt, e1, e3]
    by_cases c : (t : ℤ) + h < 4096
    · rw [if_pos (decide_eq_true c), e1]
      omega
    · rw [if_neg (by simpa using c), e3]
      omega
  have g1 : IntOp.cmpi .sge (BitVec.ofNat 32 s) (IntOp.maxsi (IntOp.subi (BitVec.ofNat 32 t) (BitVec.ofNat 32 h)) 0#32)
      = if t ≤ s + h then 1#1 else 0#1 := by
    simp only [IntOp.cmpi, BitVec.sle, f1, e5]
    by_cases c : t ≤ s + h
    · rw [if_pos c, decide_eq_true (by omega)]
      rfl
    · rw [if_neg c, decide_eq_false (by omega)]
      rfl
  have g2 : IntOp.cmpi .slt (BitVec.ofNat 32 s) (IntOp.minsi (IntOp.addi (BitVec.ofNat 32 t) (BitVec.ofNat 32 h)) 4096#32)
      = if s < t + h then 1#1 else 0#1 := by
    simp only [IntOp.cmpi, BitVec.slt, f2, e5]
    by_cases c : s < t + h
    · rw [if_pos c, decide_eq_true (by omega)]
      rfl
    · rw [if_neg c, decide_eq_false (by omega)]
      rfl
  rw [mask, g1, g2]
  by_cases c1 : t ≤ s + h <;> by_cases c2 : s < t + h <;> simp only [c1, c2, if_true, if_false, and_self, and_true, and_false]
  · show (((1 : ℕ) : ℝ) : EReal) = 1
    simp
  all_goals
    show (((0 : ℕ) : ℝ) : EReal) = 0
    simp

/-- One group's pooled entry from its mask, its count and the projection. -/
theorem pooled_of (b : Fin 8) (s : Fin 4096) (g : Fin 4) (k : Fin 128) (h : ℕ) (col : Fin 4608) (hh : 2 ^ g.val = h) (hc : col.val = 128 * g + k) :
    Ideal.div (∑ x : Fin 4096, (args V0).proj b x col * mask x s h) (count s h) - (args V0).proj b s col = (args V0).pooled b s g k := by
  have h8 : h ≤ 8 := hh ▸ (show 2 ^ g.val ≤ 2 ^ 3 from Nat.pow_le_pow_right (by decide) (by omega))
  subst hh
  have em : ∀ x : Fin 4096, _ := fun x => mask_at x.val s.val (2 ^ g.val) x.isLt s.isLt h8
  have ec : col = ⟨128 * g.val + k.val, by clear hc; omega⟩ := Fin.ext hc
  subst ec
  rw [count, Cert.MixerIdeal.Tile.cnt_word s.val (2 ^ g.val) s.isLt h8]
  simp only [em, mul_ite, mul_one, mul_zero]
  rw [window_sum (fun x => (args V0).proj b x ⟨128 * g.val + k.val, by omega⟩) (2 ^ g.val) s h8 s.isLt, Args.pooled]
  rfl

theorem pooled_at (b : Fin 8) (s : Fin 4096) (g : Fin 4) (k : Fin 128) :
    res_main_v148 V0 (ix3 b s ⟨128 * g + k, by omega⟩) = (args V0).pooled b s g k := by
  have h0 : res_main_v148 V0 (ix3 b s ⟨k, by omega⟩) = (args V0).pooled b s 0 k := by
    pointwise [res_main_v148, res_main_v40, res_main_v26, res_main_v31, res_main_v35, res_main_v39]
    simp only [proj_at]
    exact pooled_of V0 b s 0 k 1 ⟨k, by omega⟩ rfl (Nat.zero_add _).symm
  have h1 : res_main_v148 V0 (ix3 b s ⟨128 + k, by omega⟩) = (args V0).pooled b s 1 k := by
    pointwise [res_main_v148, res_main_v69, res_main_v26, res_main_v31, res_main_v64, res_main_v68]
    simp only [proj_at]
    exact pooled_of V0 b s 1 k 2 ⟨128 + k, by omega⟩ rfl rfl
  have h2 : res_main_v148 V0 (ix3 b s ⟨256 + k, by omega⟩) = (args V0).pooled b s 2 k := by
    pointwise [res_main_v148, res_main_v98, res_main_v26, res_main_v31, res_main_v93, res_main_v97]
    simp only [proj_at]
    rw [dif_neg (by omega), dif_neg (by omega), dif_pos (by omega)]
    exact pooled_of V0 b s 2 k 4 ⟨256 + (256 + k - 128 - 128), by omega⟩ rfl (by show 256 + (256 + k.val - 128 - 128) = 128 * 2 + k.val; omega)
  have h3 : res_main_v148 V0 (ix3 b s ⟨384 + k, by omega⟩) = (args V0).pooled b s 3 k := by
    pointwise [res_main_v148, res_main_v127, res_main_v26, res_main_v31, res_main_v122, res_main_v126]
    simp only [proj_at]
    rw [dif_neg (by omega), dif_neg (by omega), dif_neg (by omega)]
    exact pooled_of V0 b s 3 k 8 ⟨384 + (384 + k - 128 - 128 - 128), by omega⟩ rfl (by show 384 + (384 + k.val - 128 - 128 - 128) = 128 * 3 + k.val; omega)
  have e0 : (⟨128 * (0 : Fin 4).val + k.val, by omega⟩ : Fin 512) = ⟨k, by omega⟩ := Fin.ext (Nat.zero_add _)
  match g with
  | 0 => exact e0 ▸ h0
  | 1 => exact h1
  | 2 => exact h2
  | 3 => exact h3

theorem gate_at (b : Fin 8) (s : Fin 4096) (k : Fin 1024) : res_main_v181 V0 (ix3 b s k) = gelu ((args V0).proj b s ⟨1536 + k, by omega⟩) := by
  pointwise [res_main_v181, res_main_v28]
  simp only [proj_at]
  rfl

theorem yb_chunk (A : Args) (b : Fin 8) (n : ℕ) (c : Fin 1024) :
    A.yb b n c = gelu (A.proj b n ⟨512 + c, by omega⟩)
      * ((∑ q : Fin 128, A.sw ⟨c / 128, by omega⟩ ⟨n % 128, by omega⟩ q * A.vb b (n / 128 * 128 + q) c)
        + A.sbias ⟨c / 128, by omega⟩ ⟨n % 128, by omega⟩) := by
  have e : 128 * (n / 128) = n / 128 * 128 := Nat.mul_comm _ _
  rw [Args.yb, e]

theorem res_at (b : Fin 8) (s : Fin 4096) (k : Fin 1024) : res_main_v233 V0 (ix3 b s k) = (args V0).res b s k := by
  pointwise [res_main_v233, res_main_v27, res_main_v187]
  simp only [proj_at, hid_at, gate_at]
  rw [Args.res]
  refine congrArg₂ (· + ·) rfl (Finset.sum_congr rfl fun j _ => congrArg₂ (· * ·) ?_ rfl)
  rw [Args.merged]
  refine congrArg₂ (· + ·) (congrArg₂ (· * ·) rfl (Finset.sum_congr rfl fun d _ => congrArg₂ (· * ·) ?_ rfl))
    (congrArg₂ (· * ·) rfl (Finset.sum_congr rfl fun d _ => congrArg₂ (· * ·) ?_ rfl))
  · rw [Args.ya]
    refine congrArg₂ (· * ·) (Finset.sum_congr rfl fun q _ => ?_) rfl
    have e : ∀ h, (⟨d.val / 128 * 128 + q.val, h⟩ : Fin 512) = ⟨128 * (d.val / 128) + q.val, by omega⟩ :=
      fun h => Fin.ext (congrArg (· + q.val) (Nat.mul_comm _ _))
    rw [e, pooled_at V0 b s ⟨d.val / 128, by omega⟩ q]
    exact mul_comm _ _
  · rw [yb_chunk]
    refine congrArg₂ (· * ·) rfl (congrArg₂ (· + ·) (Finset.sum_congr rfl fun q _ => ?_) rfl)
    rw [mul_comm]
    refine congrArg₂ (· * ·) rfl ?_
    rw [Args.vb, lnRow, mean, mean]
    rfl

theorem out_at (b : Fin 8) (s : Fin 4096) (k : Fin 1024) : res_main_v255 V0 (ix3 b s k) = (args V0).out b s k := by
  pointwise [res_main_v255, res_main_v239]
  simp only [res_at]
  rfl

end Cert.MixerRefIdeal.Table

end
-- ==== Proof.MixValue.lean ====
/- The mixer: the kernel's two result arrays are the plain program's. -/
module

public import proofs.«01_k».proof.Proof.MixRef
public import proofs.«01_k».proof.Proof.MixWhole

@[expose] public section

set_option maxRecDepth 16384

noncomputable section

open Idealize.ShloMosaic Idealize.ShloMosaic.TcCoe Idealize.SL.Sem

namespace Cert.MixerRefIdeal.Table

open Cert.MixerRefIdeal Cert.MixerRefIdeal.Gen Cert.MixerRefIdeal.Value Cert.Spec Cert.MixerIdeal.Tile

variable (V0 : Valuation τ sig (Elt Ideal))

/-- The plain program's first result. -/
theorem ref0 : shapeCast S32768x1024 (res_main_v255 V0) shapeCasts_S8x4096x1024_S32768x1024 = whole0 (args V0) := by
  funext y
  idx_vars y
  pointwise []
  rw [out_at]
  refine whole0_at _ _ _ _ _ (Fin.isLt _) ?_ rfl
  show y0.val = _
  dsimp only
  omega

/-- The plain program's second result. -/
theorem ref1 : transpose S16x32768 [1, 0] (shapeCast S32768x16 (Host.dotGeneral (φ₂ := .f32) dot_S8x4096x1024_S1024x16_S8x4096x16_2_0_01_1_n_n none
    (res_main_v255 V0) (V0 (Proc.devRef .tc main_arg16) : FVec Ideal S1024x16 .f32)) shapeCasts_S8x4096x16_S32768x16) transposes_S32768x16_S16x32768_1_0 = whole1 (args V0) := by
  funext y
  idx_vars y
  pointwise []
  simp only [out_at]
  refine whole1_at (args V0) (ix2 y0 y1) ⟨y1.val / 4096, by omega⟩ (y1.val % 4096) y0 (by omega) ?_ rfl
  show y1.val = _
  dsimp only
  omega

end Cert.MixerRefIdeal.Table

namespace Cert.Proof.MixerClaims

open Cert.MixerIdeal Cert.MixerIdeal.Gen Cert.MixerIdeal.Value Cert.MixerRefIdeal.Table Cert.MixerIdeal.Tile

theorem same_args (a0 b0 : FVec Ideal S8x4096x1024 .f32) (a1 b1 : FVec Ideal S1024 .f32) (a2 b2 : FVec Ideal S1024 .f32) (a3 b3 : FVec Ideal S1024x4608 .f32) (a4 b4 : FVec Ideal S4608 .f32) (a5 b5 : FVec Ideal S4x128x128 .f32) (a6 b6 : FVec Ideal S512 .f32) (a7 b7 : FVec Ideal S1024 .f32) (a8 b8 : FVec Ideal S1024 .f32) (a9 b9 : FVec Ideal S8x128x128 .f32) (a10 b10 : FVec Ideal S8x128 .f32) (a11 b11 : FVec Ideal S512x1024 .f32) (a12 b12 : FVec Ideal S1024x1024 .f32) (a13 b13 : FVec Ideal S1024x1024 .f32) (a14 b14 : FVec Ideal S1024 .f32) (a15 b15 : FVec Ideal S1024 .f32) (a16 b16 : FVec Ideal S1024x16 .f32)
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) (e15 : a15 = b15) (e16 : a16 = b16) :
    argsOf a0 a1 a2 a3 a4 a5 a6 a7 a8 a9 a10 a11 a12 a13 a14 a15 a16 = argsOf b0 b1 b2 b3 b4 b5 b6 b7 b8 b9 b10 b11 b12 b13 b14 b15 b16 := by
  rw [e0, e1, e2, e3, e4, e5, e6, e7, e8, e9, e10, e11, e12, e13, e14, e15, e16]

theorem algebraic : Cert.algebraic_MixerIdeal_MixerRefIdeal := by
  intro m g m' g' _ hagree
  have ea : ∀ c, Cert.MixerRefIdeal.Table.args (StableHlo.launchContents m' c) = Cert.MixerIdeal.Tile.args m c := fun c => by
    obtain ⟨e0, e1, e2, e3, e4, e5, e6, e7, e8, e9, e10, e11, e12, e13, e14, e15, e16⟩ := hagree c
    exact same_args _ _ _ _ _ _ _ _ _ _ _ _ _ _ _ _ _ _ _ _ _ _ _ _ _ _ _ _ _ _ _ _ _ _ e0 e1 e2 e3 e4 e5 e6 e7 e8 e9 e10 e11 e12 e13 e14 e15 e16
  refine ⟨fun c => whole0 (Cert.MixerIdeal.Tile.args m c), fun c => whole1 (Cert.MixerIdeal.Tile.args m c), ?_, ?_⟩
  · refine θ_run_mono (Cert.MixerIdeal.Gen.run_main m g) fun r hr c => ?_
    exact ⟨(post19 m r hr c).trans (final0 m c), (post20 m r hr c).trans (final1 m c), kept_main_arg0 m r hr c, kept_main_arg1 m r hr c, kept_main_arg2 m r hr c, kept_main_arg3 m r hr c, kept_main_arg4 m r hr c, kept_main_arg5 m r hr c, kept_main_arg6 m r hr c, kept_main_arg7 m r hr c, kept_main_arg8 m r hr c, kept_main_arg9 m r hr c, kept_main_arg10 m r hr c, kept_main_arg11 m r hr c, kept_main_arg12 m r hr c, kept_main_arg13 m r hr c, kept_main_arg14 m r hr c, kept_main_arg15 m r hr c, kept_main_arg16 m r hr c⟩
  · refine θ_run_mono (Cert.MixerRefIdeal.Value.run m' g') fun r hr c => ?_
    obtain ⟨h0, h1, hk⟩ := hr c
    exact ⟨h0.trans ((ref0 _).trans (congrArg whole0 (ea c))), h1.trans ((ref1 _).trans (congrArg whole1 (ea c))), hk⟩

end Cert.Proof.MixerClaims

end
-- ==== Proof.MoeGather.lean ====
module

public import proofs.«01_k».proof.Defs
public import proofs.«01_k».proof.Proof.Gen.MoeIdeal.Launch
public import proofs.«01_k».proof.Proof.Gen.MoeIdeal.Skeleton
public import proofs.«01_k».proof.Proof.Gen.MoeIdeal.Loops
public import proofs.«01_k».proof.Proof.Gen.MoeIdeal.Points
public import proofs.«01_k».proof.Proof.Gen.MoeIdeal.Frame
public import Idealize.ShloMosaic.Lib.Tactic

@[expose] public section

noncomputable section

namespace Cert.Proof.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Eight times a token below 4096, as the body computes it in 32-bit words. -/
theorem times8 (v : BitVec 32) (h : v.toNat < 4096) : (Scalar.muli v 8#32).toNat = v.toNat * 8 := by
  show (v * 8#32).toNat = _
  rw [BitVec.toNat_mul]; simp; omega

theorem slab_inb (v : BitVec 32) (h : v.toNat < 4096) : ∀ a, (k0_off2 v) a + S1x8x128.size a ≤ S1x32768x128.size a := by
  have e : k0_off2 v = ![0, v.toNat * 8, 0] := by
    unfold k0_off2; show ![0, (Scalar.muli v 8#32).toNat, 0] = _; rw [times8 v h]
  intro a; rw [e]; fin_cases a
  · exact Nat.le_refl 1
  · show v.toNat * 8 + 8 ≤ 32768; omega
  · exact Nat.le_refl 128

theorem slab_mult (v : BitVec 32) (h : v.toNat < 4096) : 8 ∣ (k0_mult1 v).toNat := by
  show 8 ∣ (Scalar.muli v 8#32).toNat; rw [times8 v h]; omega

theorem gather_ok (i : grid0.Coords) (v : BitVec 32) (h : v.toNat < 4096) : k0_chk1 i v :=
  ⟨fun _ => slab_mult v h, fun _ => slab_inb v h⟩

variable (c : Dev nD) (i : grid0.Coords) (arg3 : Memref sig .tc .smem S1x1x512 .i32) (harg3 : arg3.IsWhole) (arg4 : Memref sig .tc .smem S1x1x512 .f32) (harg4 : arg4.IsWhole) (arg5 : Memref sig .tc .vmem S1x32768x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x32768x128 .f32) (harg9 : arg9.IsWhole) (arg10 : Memref sig .tc .vmem S512x1024 .bf16) (harg10 : arg10.IsWhole) (arg11 : Memref sig .tc .vmem S4160x128 .f32) (harg11 : arg11.IsWhole) (arg12 : Memref sig .tc .vmem S4160x128 .f32) (harg12 : arg12.IsWhole)

abbrev pts {s : Space} {S : Shape} {e : EltTy} (M : Memref sig .tc s S e) (f : Buf (Elt F) (M.view.loc (c : Thread nD τ))) : sProp 𝕄 :=
  M.view.loc (c : Thread nD τ) ↦[M.view.set]{fullShare} f

/-- The places the body reads and writes: a row of the slabs, a row of the tokens' block, a place of a tile, a word. -/
def rowAt (n : ℕ) (p : Fin 128) : S4160x128.Idx
  | 0 => ⟨n % 4160, Nat.mod_lt _ (by decide)⟩
  | 1 => p
def slabAt (n : ℕ) (p : Fin 128) : S1x32768x128.Idx
  | 0 => ⟨0, Nat.one_pos⟩
  | 1 => ⟨n % 32768, Nat.mod_lt _ (by decide)⟩
  | 2 => p
def tileAt (q : Fin 8) (p : Fin 128) : S8x128.Idx
  | 0 => q
  | 1 => p
def wordAt (j : ℕ) : S1x1x512.Idx
  | 0 => ⟨0, Nat.one_pos⟩
  | 1 => ⟨0, Nat.one_pos⟩
  | 2 => ⟨j % 512, Nat.mod_lt _ (by decide)⟩

theorem trip_word : ∀ (k : Fin 64) (u : Fin 8),
    (Scalar.indexCast (Scalar.addi (Scalar.muli (Scf.iv 0#32 1#32 k) 8#32) (BitVec.ofNat 32 u.val))).toNat = 8 * k.val + u.val := by
  decide

/-- A slab's store, read at a row of the slabs: the payload where the row is the store's, the earlier stores elsewhere. -/
theorem read_row {κ : Kind} {sp : Space} {e : EltTy} {Val : EltTy → Type} (v : View sig κ sp S4160x128 e) (f : v.ty.Contents Val)
    {off : Fin 2 → ℕ} (inb) (pos) (w : S8x128.Idx → Val e)
    (L : List (View.Piece Val S4160x128 e)) (j j' : ℕ) (hoff : off = ![j, 0]) (hj : j < 512) (hj' : j' < 512) (q : Fin 8) (p : Fin 128)
    (S : ℕ → Val e) (hw : w (tileAt q p) = S j) (R : Val e) (hR : v.read Val (v.writes Val f L) (rowAt (520 * q.val + j') p) = R) :
    v.read Val (v.writes Val f (⟨⟨⟨off, S8x128.size, ![520, 1], inb⟩, pos⟩, w⟩ :: L)) (rowAt (520 * q.val + j') p)
      = if j' = j then S j' else R := by
  subst hoff
  have hv : ∀ x : S8x128.Idx, ((⟨⟨![j, 0], S8x128.size, ![520, 1], inb⟩, pos⟩ : Rect S4160x128).emb x 0).val = j + 520 * (x 0).val := fun x => rfl
  have hv1 : ∀ x : S8x128.Idx, ((⟨⟨![j, 0], S8x128.size, ![520, 1], inb⟩, pos⟩ : Rect S4160x128).emb x 1).val = 0 + 1 * (x 1).val := fun x => rfl
  have hq := q.isLt
  by_cases h : j' = j
  · rw [if_pos h]
    have e : (⟨⟨![j, 0], S8x128.size, ![520, 1], inb⟩, pos⟩ : Rect S4160x128).emb (tileAt q p) = rowAt (520 * q.val + j') p := by
      funext a; apply Fin.ext
      fin_cases a
      · refine (hv (tileAt q p)).trans ?_
        show j + 520 * q.val = (520 * q.val + j') % 4160
        rw [Nat.mod_eq_of_lt (by omega)]; omega
      · refine (hv1 (tileAt q p)).trans ?_
        show 0 + 1 * p.val = p.val; omega
    have := View.read_writes_cons_emb v f (⟨⟨![j, 0], S8x128.size, ![520, 1], inb⟩, pos⟩ : Rect S4160x128) w L (tileAt q p)
    rw [e] at this
    exact (this.trans hw).trans (congrArg S h.symm)
  · rw [if_neg h, ← hR, View.writes_cons]
    refine View.read_slice_write_of_not_mem _ _ _ _ ?_
    rw [Rect.map_emb_univ]
    intro hm
    obtain ⟨x, hx⟩ := LoadRect.exists_idx_of_mem _ hm
    have h0 := congrArg Fin.val (congrFun hx 0)
    have h1 : j + 520 * (x 0).val = (520 * q.val + j') % 4160 := (hv x).symm.trans h0
    rw [Nat.mod_eq_of_lt (by omega)] at h1
    have hx0 : (x 0).val < 8 := (x 0).isLt
    omega

/-- The slab of a token that a gathered row copies. -/
theorem slab_payload (fi : Buf (Elt F) (arg3.view.loc (c : Thread nD τ))) (fh : Buf (Elt F) (arg5.view.loc (c : Thread nD τ)))
    (hidx : ∀ y, (arg3.view.read (Elt F) fi y).toNat < 4096) (j : ℕ) (hj : j < 512)
    (o3 : Fin 3 → ℕ) (ho3 : o3 = ![0, 0, j]) (inb3) (hf) (o5 : BitVec 32 → Fin 3 → ℕ)
    (ho5 : ∀ v, o5 v = ![0, (Scalar.indexCast (Scalar.muli v 8#32)).toNat, 0]) (inb5) (h1) (h2) (q : Fin 8) (p : Fin 128) :
    shapeCast S8x128 (shapeCast S8x128 (View.readAt (Elt F) arg5.view (Rect.unit (s := S1x32768x128)
        (o5 (View.readAt (Elt F) arg3.view (Rect.unit (s := S1x1x512) o3 S1x1x1.size inb3).toLoadRect fi (Shape.Idx.first hf))) S1x8x128.size inb5).toLoadRect fh) h1) h2 (tileAt q p)
      = arg5.view.read (Elt F) fh (slabAt ((arg3.view.read (Elt F) fi (wordAt j)).toNat * 8 + q.val) p) := by
  subst ho3
  have ew : View.readAt (Elt F) arg3.view (Rect.unit (s := S1x1x512) ![0, 0, j] S1x1x1.size inb3).toLoadRect fi (Shape.Idx.first hf)
      = arg3.view.read (Elt F) fi (wordAt j) := by
    rw [View.readAt_apply]
    congr 1
    funext a; apply Fin.ext
    fin_cases a
    · rfl
    · rfl
    · show j + 1 * 0 = j % 512; omega
  have hv := hidx (wordAt j)
  rw [← ew] at hv ⊢
  have e5 := ho5 (View.readAt (Elt F) arg3.view (Rect.unit (s := S1x1x512) ![0, 0, j] S1x1x1.size inb3).toLoadRect fi (Shape.Idx.first hf))
  have e8 : (Scalar.indexCast (Scalar.muli (View.readAt (Elt F) arg3.view (Rect.unit (s := S1x1x512) ![0, 0, j] S1x1x1.size inb3).toLoadRect fi (Shape.Idx.first hf)) 8#32)).toNat = _ := times8 _ hv
  rw [e8] at e5
  generalize o5 _ = off at e5 inb5 ⊢
  subst e5
  show arg5.view.read (Elt F) fh ((Rect.unit (s := S1x32768x128) _ S1x8x128.size inb5).toLoadRect.idx (Shape.reshapeEquiv _ (Shape.reshapeEquiv _ (tileAt q p)))) = _
  congr 1
  rw [Shape.reshapeEquiv_self, Shape.reshapeEquiv_cons_one]
  have hq := q.isLt
  funext a; apply Fin.ext
  fin_cases a
  · rfl
  · show (View.readAt (Elt F) arg3.view (Rect.unit (s := S1x1x512) ![0, 0, j] S1x1x1.size inb3).toLoadRect fi (Shape.Idx.first hf)).toNat * 8 + 1 * q.val = (_ + q.val) % 32768
    rw [Nat.mod_eq_of_lt (by omega)]; omega
  · show 0 + 1 * p.val = p.val; omega

theorem gather_trip (k0_h2 : k0_cond2 i = 1#1) (fi : Buf (Elt F) (arg3.view.loc (c : Thread nD τ))) (fh : Buf (Elt F) (arg5.view.loc (c : Thread nD τ)))
    (hidx : ∀ y, (arg3.view.read (Elt F) fi y).toNat < 4096) (g : Buf (Elt F) (arg11.view.loc (c : Thread nD τ))) (k : Fin k0_t1_loop.trips) :
    iprop(pts c arg3 fi ∗ pts c arg5 fh ∗ pts c arg11 g) ⊢ wp frame (wpE (defs₀ (F := F)) Variants.none (c : Thread nD τ) none) Set.univ
      (k0_t1_body (F := F) i arg3 harg3 arg4 harg4 arg5 harg5 arg6 harg6 arg7 harg7 arg8 harg8 arg9 harg9 arg10 harg10 arg11 harg11 arg12 harg12 k0_h2 k ())
      (fun _ => iprop(pts c arg3 fi ∗ pts c arg5 fh ∗ ∃ g', pts c arg11 g' ∗ ⌜∀ (j : ℕ) (q : Fin 8) (p : Fin 128), j < 512 →
        arg11.view.read (Elt F) g' (rowAt (520 * q.val + j) p) = if 8 * k.val ≤ j ∧ j < 8 * k.val + 8 then arg5.view.read (Elt F) fh (slabAt ((arg3.view.read (Elt F) fi (wordAt j)).toNat * 8 + q.val) p) else arg11.view.read (Elt F) g (rowAt (520 * q.val + j) p)⌝)) := by
  iintro ⟨H3, H5, H11⟩
  sl_unfold [k0_t1_body]
  sl_exec (disch := first | exact gather_ok _ _ (hidx _))
  sl_step
  isplitl [H3]; · iexact H3
  isplitl [H5]; · iexact H5
  iexists _
  isplitl [H11]; · iexact H11
  ipureintro
  intro j q p hj
  have hk : k.val < 64 := k.isLt
  have tw := trip_word ⟨k.val, hk⟩
  let T : ℕ → Elt F .f32 := (fun j => arg5.view.read (Elt F) fh (slabAt ((arg3.view.read (Elt F) fi (wordAt j)).toNat * 8 + q.val) p))
  have P := fun (o5 : BitVec 32 → Fin 3 → ℕ) ho5 (u : Fin 8) o3 ho3 inb3 hf inb5 h1 h2 =>
    slab_payload c arg3 arg5 fi fh hidx (8 * k.val + u.val) (by have := u.isLt; omega) o3 ho3 inb3 hf o5 ho5 inb5 h1 h2 q p
  refine (read_row _ _ _ _ _ _ (8 * k.val + 7) j (congrArg (fun n => (![n, 0] : Fin 2 → ℕ)) (tw 7)) (by omega) hj q p T
    (P k0_off23 (fun _ => rfl) 7 _ (congrArg (fun n => (![0, 0, n] : Fin 3 → ℕ)) (tw 7)) _ _ _ _ _) _ (read_row _ _ _ _ _ _ (8 * k.val + 6) j (congrArg (fun n => (![n, 0] : Fin 2 → ℕ)) (tw 6)) (by omega) hj q p T
    (P k0_off20 (fun _ => rfl) 6 _ (congrArg (fun n => (![0, 0, n] : Fin 3 → ℕ)) (tw 6)) _ _ _ _ _) _ (read_row _ _ _ _ _ _ (8 * k.val + 5) j (congrArg (fun n => (![n, 0] : Fin 2 → ℕ)) (tw 5)) (by omega) hj q p T
    (P k0_off17 (fun _ => rfl) 5 _ (congrArg (fun n => (![0, 0, n] : Fin 3 → ℕ)) (tw 5)) _ _ _ _ _) _ (read_row _ _ _ _ _ _ (8 * k.val + 4) j (congrArg (fun n => (![n, 0] : Fin 2 → ℕ)) (tw 4)) (by omega) hj q p T
    (P k0_off14 (fun _ => rfl) 4 _ (congrArg (fun n => (![0, 0, n] : Fin 3 → ℕ)) (tw 4)) _ _ _ _ _) _ (read_row _ _ _ _ _ _ (8 * k.val + 3) j (congrArg (fun n => (![n, 0] : Fin 2 → ℕ)) (tw 3)) (by omega) hj q p T
    (P k0_off11 (fun _ => rfl) 3 _ (congrArg (fun n => (![0, 0, n] : Fin 3 → ℕ)) (tw 3)) _ _ _ _ _) _ (read_row _ _ _ _ _ _ (8 * k.val + 2) j (congrArg (fun n => (![n, 0] : Fin 2 → ℕ)) (tw 2)) (by omega) hj q p T
    (P k0_off8 (fun _ => rfl) 2 _ (congrArg (fun n => (![0, 0, n] : Fin 3 → ℕ)) (tw 2)) _ _ _ _ _) _ (read_row _ _ _ _ _ _ (8 * k.val + 1) j (congrArg (fun n => (![n, 0] : Fin 2 → ℕ)) (tw 1)) (by omega) hj q p T
    (P k0_off5 (fun _ => rfl) 1 _ (congrArg (fun n => (![0, 0, n] : Fin 3 → ℕ)) (tw 1)) _ _ _ _ _) _ (read_row _ _ _ _ _ _ (8 * k.val + 0) j (congrArg (fun n => (![n, 0] : Fin 2 → ℕ)) (tw 0)) (by omega) hj q p T
    (P k0_off2 (fun _ => rfl) 0 _ (congrArg (fun n => (![0, 0, n] : Fin 3 → ℕ)) (tw 0)) _ _ _ _ _) _ rfl)))))))).trans ?_
  split_ifs <;> first | rfl | (exfalso; omega)

end Cert.Proof.Experts
-- ==== Proof.MoeScatter.lean ====
module

public import Idealize.ShloMosaic.Lib.WritesUnit
public import proofs.«01_k».proof.Defs
public import proofs.«01_k».proof.Proof.Gen.MoeIdeal.Launch
public import proofs.«01_k».proof.Proof.Gen.MoeIdeal.Skeleton
public import proofs.«01_k».proof.Proof.Gen.MoeIdeal.Loops
public import proofs.«01_k».proof.Proof.Gen.MoeIdeal.Points
public import proofs.«01_k».proof.Proof.Gen.MoeIdeal.Frame
public import Idealize.ShloMosaic.Lib.Tactic
public import proofs.«01_k».proof.Proof.MoeGather

@[expose] public section

noncomputable section

namespace Cert.Proof.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem scatter_ok (i : grid0.Coords) (v : BitVec 32) (h : v.toNat < 4096) : k0_chk9 i v :=
  ⟨fun _ => slab_mult v h, fun _ => slab_inb v h, fun _ => slab_inb v h⟩
theorem scatter_ok' (i : grid0.Coords) (v : BitVec 32) (h : v.toNat < 4096) : k0_chk16 i v :=
  ⟨fun _ => slab_mult v h, fun _ => slab_inb v h⟩

def slabTile (q : Fin 8) (p : Fin 128) : S1x8x128.Idx
  | 0 => ⟨0, Nat.one_pos⟩
  | 1 => q
  | 2 => p

/-- A slab's store into the tokens' block, read at a token: the payload at the store's token, the earlier stores elsewhere. -/
theorem read_slab {κ : Kind} {sp : Space} {e : EltTy} {Val : EltTy → Type} (v : View sig κ sp S1x32768x128 e) (f : v.ty.Contents Val)
    {off : Fin 3 → ℕ} (inb) (w : S1x8x128.Idx → Val e)
    (L : List (View.Piece Val S1x32768x128 e)) (r s : ℕ) (hoff : off = ![0, r * 8, 0]) (hr : r < 4096) (hs : s < 4096) (q : Fin 8) (p : Fin 128)
    (S R : Val e) (hw : w (slabTile q p) = S) (hR : v.read Val (v.writes Val f L) (slabAt (s * 8 + q.val) p) = R) :
    v.read Val (v.writes Val f (⟨Rect.unit (s := S1x32768x128) off S1x8x128.size inb, w⟩ :: L)) (slabAt (s * 8 + q.val) p)
      = if s = r then S else R := by
  have hq := q.isLt
  by_cases h : s = r
  · rw [if_pos h, ← hw]
    refine View.read_writes_cons_unit_of_mem v f inb w L _ (slabTile q p) hoff ?_
    intro a
    fin_cases a
    · rfl
    · show (s * 8 + q.val) % 32768 = r * 8 + q.val
      rw [Nat.mod_eq_of_lt (by omega), h]
    · show p.val = 0 + p.val; omega
  · rw [if_neg h, ← hR]
    refine View.read_writes_cons_unit_of_not_mem v f inb w L _ hoff 1 ?_
    show (s * 8 + q.val) % 32768 < r * 8 ∨ r * 8 + 8 ≤ (s * 8 + q.val) % 32768
    rw [Nat.mod_eq_of_lt (by omega)]; omega

variable (c : Dev nD) (i : grid0.Coords) (arg3 : Memref sig .tc .smem S1x1x512 .i32) (harg3 : arg3.IsWhole) (arg4 : Memref sig .tc .smem S1x1x512 .f32) (harg4 : arg4.IsWhole) (arg5 : Memref sig .tc .vmem S1x32768x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x32768x128 .f32) (harg9 : arg9.IsWhole) (arg10 : Memref sig .tc .vmem S512x1024 .bf16) (harg10 : arg10.IsWhole) (arg11 : Memref sig .tc .vmem S4160x128 .f32) (harg11 : arg11.IsWhole) (arg12 : Memref sig .tc .vmem S4160x128 .f32) (harg12 : arg12.IsWhole)

/-- Where a trip stores a token's slab. -/
theorem slab_row (fi : Buf (Elt F) (arg3.view.loc (c : Thread nD τ)))
    (hidx : ∀ y, (arg3.view.read (Elt F) fi y).toNat < 4096) (j : ℕ) (hj : j < 512)
    (o5 : BitVec 32 → Fin 3 → ℕ) (ho5 : ∀ v, o5 v = ![0, (Scalar.indexCast (Scalar.muli v 8#32)).toNat, 0])
    (o3 : Fin 3 → ℕ) (ho3 : o3 = ![0, 0, j]) (inb3) (hf) :
    o5 (View.readAt (Elt F) arg3.view (Rect.unit (s := S1x1x512) o3 S1x1x1.size inb3).toLoadRect fi (Shape.Idx.first hf))
      = ![0, (arg3.view.read (Elt F) fi (wordAt j)).toNat * 8, 0] := by
  subst ho3
  have ew : View.readAt (Elt F) arg3.view (Rect.unit (s := S1x1x512) ![0, 0, j] S1x1x1.size inb3).toLoadRect fi (Shape.Idx.first hf)
      = arg3.view.read (Elt F) fi (wordAt j) := by
    rw [View.readAt_apply]
    congr 1
    funext a; apply Fin.ext
    fin_cases a
    · rfl
    · rfl
    · show j + 1 * 0 = j % 512; omega
  rw [ew, ho5]
  exact congrArg (fun n => (![0, n, 0] : Fin 3 → ℕ)) (times8 _ (hidx (wordAt j)))

/-- The eight updates of a trip, the last first: at a token's word the update, elsewhere what was there. -/
def eight {α : Type} (r : ℕ → ℕ) (T : ℕ → α) (R : α) (k s : ℕ) : α :=
  if s = r (8 * k + 7) then T (8 * k + 7) else if s = r (8 * k + 6) then T (8 * k + 6)
  else if s = r (8 * k + 5) then T (8 * k + 5) else if s = r (8 * k + 4) then T (8 * k + 4)
  else if s = r (8 * k + 3) then T (8 * k + 3) else if s = r (8 * k + 2) then T (8 * k + 2)
  else if s = r (8 * k + 1) then T (8 * k + 1) else if s = r (8 * k + 0) then T (8 * k + 0) else R

theorem eight_hit {α : Type} (r : ℕ → ℕ) (T : ℕ → α) (R : α) (k : ℕ) (hk : k < 64)
    (hd : ∀ j j', j < 512 → j' < 512 → r j = r j' → j = j') (j : ℕ) (h : 8 * k ≤ j) (h' : j < 8 * k + 8) :
    eight r T R k (r j) = T j := by
  have e : ∀ u, u < 8 → r j = r (8 * k + u) → j = 8 * k + u := fun u hu he => hd _ _ (by omega) (by omega) he
  unfold eight
  split_ifs with h7 h6 h5 h4 h3 h2 h1 h0
  · rw [← e 7 (by omega) h7]
  · rw [← e 6 (by omega) h6]
  · rw [← e 5 (by omega) h5]
  · rw [← e 4 (by omega) h4]
  · rw [← e 3 (by omega) h3]
  · rw [← e 2 (by omega) h2]
  · rw [← e 1 (by omega) h1]
  · rw [← e 0 (by omega) h0]
  · exfalso
    obtain ⟨u, hu, rfl⟩ : ∃ u, u < 8 ∧ j = 8 * k + u := ⟨j - 8 * k, by omega, by omega⟩
    interval_cases u <;> contradiction

theorem eight_miss {α : Type} (r : ℕ → ℕ) (T : ℕ → α) (R : α) (k s : ℕ)
    (h : ∀ j, 8 * k ≤ j → j < 8 * k + 8 → s ≠ r j) : eight r T R k s = R := by
  have e : ∀ u, u < 8 → s ≠ r (8 * k + u) := fun u hu => h _ (by omega) (by omega)
  unfold eight
  rw [if_neg (e 7 (by omega)), if_neg (e 6 (by omega)), if_neg (e 5 (by omega)), if_neg (e 4 (by omega)),
    if_neg (e 3 (by omega)), if_neg (e 2 (by omega)), if_neg (e 1 (by omega)), if_neg (e 0 (by omega))]

/-- What a token's slab becomes: its contents plus the expert's row by its gate. -/
abbrev put (a y g : F .f32) : F .f32 := FloatOps.addf a (FloatOps.mulf y g)

theorem put_payload (fi : Buf (Elt F) (arg3.view.loc (c : Thread nD τ))) (fg : Buf (Elt F) (arg4.view.loc (c : Thread nD τ)))
    (fy : Buf (Elt F) (arg12.view.loc (c : Thread nD τ))) (g : Buf (Elt F) (arg9.view.loc (c : Thread nD τ)))
    (hidx : ∀ y, (arg3.view.read (Elt F) fi y).toNat < 4096) (j : ℕ) (hj : j < 512)
    (o5 : BitVec 32 → Fin 3 → ℕ) (ho5 : ∀ v, o5 v = ![0, (Scalar.indexCast (Scalar.muli v 8#32)).toNat, 0])
    (o3 : Fin 3 → ℕ) (ho3 : o3 = ![0, 0, j]) (o4 : Fin 3 → ℕ) (ho4 : o4 = ![0, 0, j]) (o12 : Fin 2 → ℕ) (ho12 : o12 = ![j, 0])
    (inb3) (hf) (inb4) (hf4) (inb12) (inb5) (h1) (h2) (q : Fin 8) (p : Fin 128) :
    shapeCast S1x8x128 (addf (shapeCast S8x128 (View.readAt (Elt F) arg9.view (Rect.unit (s := S1x32768x128)
        (o5 (View.readAt (Elt F) arg3.view (Rect.unit (s := S1x1x512) o3 S1x1x1.size inb3).toLoadRect fi (Shape.Idx.first hf))) S1x8x128.size inb5).toLoadRect g) h1)
      (mulf (View.readAt (Elt F) arg12.view (⟨o12, S8x128.size, ![520, 1], inb12⟩ : LoadRect S4160x128) fy)
        (Idealize.ShloMosaic.broadcast S8x128 (View.readAt (Elt F) arg4.view (Rect.unit (s := S1x1x512) o4 S1x1x1.size inb4).toLoadRect fg (Shape.Idx.first hf4))))) h2 (slabTile q p)
      = put (F := F) (arg9.view.read (Elt F) g (slabAt ((arg3.view.read (Elt F) fi (wordAt j)).toNat * 8 + q.val) p))
          (arg12.view.read (Elt F) fy (rowAt (520 * q.val + j) p)) (arg4.view.read (Elt F) fg (wordAt j)) := by
  subst ho3 ho4 ho12
  have ew : View.readAt (Elt F) arg3.view (Rect.unit (s := S1x1x512) ![0, 0, j] S1x1x1.size inb3).toLoadRect fi (Shape.Idx.first hf)
      = arg3.view.read (Elt F) fi (wordAt j) := by
    rw [View.readAt_apply]
    congr 1
    funext a; apply Fin.ext
    fin_cases a
    · rfl
    · rfl
    · show j + 1 * 0 = j % 512; omega
  have ew4 : View.readAt (Elt F) arg4.view (Rect.unit (s := S1x1x512) ![0, 0, j] S1x1x1.size inb4).toLoadRect fg (Shape.Idx.first hf4)
      = arg4.view.read (Elt F) fg (wordAt j) := by
    rw [View.readAt_apply]
    congr 1
    funext a; apply Fin.ext
    fin_cases a
    · rfl
    · rfl
    · show j + 1 * 0 = j % 512; omega
  have hv := hidx (wordAt j)
  have hq := q.isLt
  rw [ew4]
  rw [← ew] at hv ⊢
  have e5 := ho5 (View.readAt (Elt F) arg3.view (Rect.unit (s := S1x1x512) ![0, 0, j] S1x1x1.size inb3).toLoadRect fi (Shape.Idx.first hf))
  have e8 : (Scalar.indexCast (Scalar.muli (View.readAt (Elt F) arg3.view (Rect.unit (s := S1x1x512) ![0, 0, j] S1x1x1.size inb3).toLoadRect fi (Shape.Idx.first hf)) 8#32)).toNat = _ := times8 _ hv
  rw [e8] at e5
  generalize o5 _ = off at e5 inb5 ⊢
  subst e5
  have er : Shape.reshapeEquiv (s := S8x128) (s' := S1x8x128) h2 (slabTile q p) = tileAt q p := by
    rw [← Equiv.eq_symm_apply, Shape.reshapeEquiv_symm, Shape.reshapeEquiv_cons_one]
    funext a; fin_cases a <;> rfl
  show FloatOps.addf (arg9.view.read (Elt F) g ((Rect.unit (s := S1x32768x128) _ S1x8x128.size inb5).toLoadRect.idx (Shape.reshapeEquiv _ (Shape.reshapeEquiv _ (slabTile q p)))))
    (FloatOps.mulf (arg12.view.read (Elt F) fy ((⟨![j, 0], S8x128.size, ![520, 1], inb12⟩ : LoadRect S4160x128).idx (Shape.reshapeEquiv _ (slabTile q p)))) _) = _
  rw [er]
  congr 1
  · congr 1
    rw [Shape.reshapeEquiv_cons_one]
    funext a; apply Fin.ext
    fin_cases a
    · rfl
    · show (View.readAt (Elt F) arg3.view (Rect.unit (s := S1x1x512) ![0, 0, j] S1x1x1.size inb3).toLoadRect fi (Shape.Idx.first hf)).toNat * 8 + 1 * q.val = (_ + q.val) % 32768
      rw [Nat.mod_eq_of_lt (by omega)]; omega
    · show 0 + 1 * p.val = p.val; omega
  · refine congrArg₂ _ (congrArg _ ?_) rfl
    funext a; apply Fin.ext
    fin_cases a
    · show j + 520 * q.val = (520 * q.val + j) % 4160
      omega
    · show 0 + 1 * p.val = p.val; omega

theorem scatter_trip (k0_h5 : k0_cond5 i = 1#1) (fi : Buf (Elt F) (arg3.view.loc (c : Thread nD τ))) (fg : Buf (Elt F) (arg4.view.loc (c : Thread nD τ)))
    (fy : Buf (Elt F) (arg12.view.loc (c : Thread nD τ)))
    (hidx : ∀ y, (arg3.view.read (Elt F) fi y).toNat < 4096)
    (g : Buf (Elt F) (arg9.view.loc (c : Thread nD τ))) (k : Fin k0_t2_loop.trips) :
    iprop(pts c arg3 fi ∗ pts c arg4 fg ∗ pts c arg12 fy ∗ pts c arg9 g) ⊢ wp frame (wpE (defs₀ (F := F)) Variants.none (c : Thread nD τ) none) Set.univ
      (k0_t2_body (F := F) i arg3 harg3 arg4 harg4 arg5 harg5 arg6 harg6 arg7 harg7 arg8 harg8 arg9 harg9 arg10 harg10 arg11 harg11 arg12 harg12 k0_h5 k ())
      (fun _ => iprop(pts c arg3 fi ∗ pts c arg4 fg ∗ pts c arg12 fy ∗ ∃ g', pts c arg9 g' ∗ ⌜∀ (q : Fin 8) (p : Fin 128) (s : ℕ), s < 4096 →
        arg9.view.read (Elt F) g' (slabAt (s * 8 + q.val) p) = eight (fun j => (arg3.view.read (Elt F) fi (wordAt j)).toNat)
          (fun j => put (F := F) (arg9.view.read (Elt F) g (slabAt ((arg3.view.read (Elt F) fi (wordAt j)).toNat * 8 + q.val) p))
              (arg12.view.read (Elt F) fy (rowAt (520 * q.val + j) p)) (arg4.view.read (Elt F) fg (wordAt j)))
          (arg9.view.read (Elt F) g (slabAt (s * 8 + q.val) p)) k.val s⌝)) := by
  iintro ⟨H3, H4, H12, H9⟩
  sl_unfold [k0_t2_body]
  sl_exec (disch := first | exact scatter_ok _ _ (hidx _) | exact scatter_ok' _ _ (hidx _))
  sl_step
  isplitl [H3]; · iexact H3
  isplitl [H4]; · iexact H4
  isplitl [H12]; · iexact H12
  iexists _
  isplitl [H9]; · iexact H9
  ipureintro
  intro q p s hs
  have hk : k.val < 64 := k.isLt
  have tw := trip_word ⟨k.val, hk⟩
  let r : ℕ → ℕ := fun j => (arg3.view.read (Elt F) fi (wordAt j)).toNat
  let T : ℕ → Elt F .f32 := fun j => put (F := F) (arg9.view.read (Elt F) g (slabAt (r j * 8 + q.val) p))
    (arg12.view.read (Elt F) fy (rowAt (520 * q.val + j) p)) (arg4.view.read (Elt F) fg (wordAt j))
  have hr : ∀ j, r j < 4096 := fun j => hidx _
  have W := fun (o5 : BitVec 32 → Fin 3 → ℕ) ho5 (u : Fin 8) o3 ho3 inb3 hf =>
    slab_row c arg3 fi hidx (8 * k.val + u.val) (by have := u.isLt; omega) o5 ho5 o3 ho3 inb3 hf
  have P := fun (o5 : BitVec 32 → Fin 3 → ℕ) ho5 (u : Fin 8) o3 ho3 o4 ho4 o12 ho12 inb3 hf inb4 hf4 inb12 inb5 h1 h2 =>
    put_payload c arg3 arg4 arg9 arg12 fi fg fy g hidx (8 * k.val + u.val) (by have := u.isLt; omega) o5 ho5 o3 ho3 o4 ho4 o12 ho12 inb3 hf inb4 hf4 inb12 inb5 h1 h2 q p
  have W3 := fun u => congrArg (fun n => (![0, 0, n] : Fin 3 → ℕ)) (tw u)
  have W2 := fun u => congrArg (fun n => (![n, 0] : Fin 2 → ℕ)) (tw u)
  exact read_slab _ _ _ _ _ (r (8 * k.val + 7)) s (W k0_off49 (fun _ => rfl) 7 _ (W3 7) _ _) (hr _) hs q p (T (8 * k.val + 7))
    _ (P k0_off49 (fun _ => rfl) 7 _ (W3 7) _ (W3 7) _ (W2 7) _ _ _ _ _ _ _ _) (read_slab _ _ _ _ _ (r (8 * k.val + 6)) s (W k0_off56 (fun _ => rfl) 6 _ (W3 6) _ _) (hr _) hs q p (T (8 * k.val + 6))
    _ (P k0_off46 (fun _ => rfl) 6 _ (W3 6) _ (W3 6) _ (W2 6) _ _ _ _ _ _ _ _) (read_slab _ _ _ _ _ (r (8 * k.val + 5)) s (W k0_off55 (fun _ => rfl) 5 _ (W3 5) _ _) (hr _) hs q p (T (8 * k.val + 5))
    _ (P k0_off43 (fun _ => rfl) 5 _ (W3 5) _ (W3 5) _ (W2 5) _ _ _ _ _ _ _ _) (read_slab _ _ _ _ _ (r (8 * k.val + 4)) s (W k0_off54 (fun _ => rfl) 4 _ (W3 4) _ _) (hr _) hs q p (T (8 * k.val + 4))
    _ (P k0_off40 (fun _ => rfl) 4 _ (W3 4) _ (W3 4) _ (W2 4) _ _ _ _ _ _ _ _) (read_slab _ _ _ _ _ (r (8 * k.val + 3)) s (W k0_off53 (fun _ => rfl) 3 _ (W3 3) _ _) (hr _) hs q p (T (8 * k.val + 3))
    _ (P k0_off37 (fun _ => rfl) 3 _ (W3 3) _ (W3 3) _ (W2 3) _ _ _ _ _ _ _ _) (read_slab _ _ _ _ _ (r (8 * k.val + 2)) s (W k0_off52 (fun _ => rfl) 2 _ (W3 2) _ _) (hr _) hs q p (T (8 * k.val + 2))
    _ (P k0_off34 (fun _ => rfl) 2 _ (W3 2) _ (W3 2) _ (W2 2) _ _ _ _ _ _ _ _) (read_slab _ _ _ _ _ (r (8 * k.val + 1)) s (W k0_off51 (fun _ => rfl) 1 _ (W3 1) _ _) (hr _) hs q p (T (8 * k.val + 1))
    _ (P k0_off31 (fun _ => rfl) 1 _ (W3 1) _ (W3 1) _ (W2 1) _ _ _ _ _ _ _ _) (read_slab _ _ _ _ _ (r (8 * k.val + 0)) s (W k0_off50 (fun _ => rfl) 0 _ (W3 0) _ _) (hr _) hs q p (T (8 * k.val + 0))
    _ (P k0_off28 (fun _ => rfl) 0 _ (W3 0) _ (W3 0) _ (W2 0) _ _ _ _ _ _ _ _) rfl)))))))
end Cert.Proof.Experts
-- ==== Proof.MoeLoops.lean ====
module

public import Idealize.ShloMosaic.Lib.WritesUnit
public import proofs.«01_k».proof.Defs
public import proofs.«01_k».proof.Proof.Gen.MoeIdeal.Launch
public import proofs.«01_k».proof.Proof.Gen.MoeIdeal.Skeleton
public import proofs.«01_k».proof.Proof.Gen.MoeIdeal.Loops
public import proofs.«01_k».proof.Proof.Gen.MoeIdeal.Points
public import proofs.«01_k».proof.Proof.Gen.MoeIdeal.Frame
public import Idealize.ShloMosaic.Lib.Tactic
public import proofs.«01_k».proof.Proof.MoeScatter

@[expose] public section

noncomputable section

namespace Cert.Proof.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .smem S1x1x512 .i32) (harg3 : arg3.IsWhole) (arg4 : Memref sig .tc .smem S1x1x512 .f32) (harg4 : arg4.IsWhole) (arg5 : Memref sig .tc .vmem S1x32768x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x32768x128 .f32) (harg9 : arg9.IsWhole) (arg10 : Memref sig .tc .vmem S512x1024 .bf16) (harg10 : arg10.IsWhole) (arg11 : Memref sig .tc .vmem S4160x128 .f32) (harg11 : arg11.IsWhole) (arg12 : Memref sig .tc .vmem S4160x128 .f32) (harg12 : arg12.IsWhole)

/-- An expert's gathered element: the row of the sequence its `j`-th word names. -/
abbrev rowOf (fi : Buf (Elt F) (arg3.view.loc (c : Thread nD τ))) (fh : Buf (Elt F) (arg5.view.loc (c : Thread nD τ))) (j : ℕ) (q : Fin 8) (p : Fin 128) : F .f32 :=
  arg5.view.read (Elt F) fh (slabAt ((arg3.view.read (Elt F) fi (wordAt j)).toNat * 8 + q.val) p)

/-- The gather's invariant: the rows of the words already met are in place. -/
abbrev gatherInv (fi : Buf (Elt F) (arg3.view.loc (c : Thread nD τ))) (fh : Buf (Elt F) (arg5.view.loc (c : Thread nD τ))) (k : ℕ) : sProp 𝕄 :=
  iprop(⌜∀ y, (arg3.view.read (Elt F) fi y).toNat < 4096⌝ ∗ pts c arg3 fi ∗ pts c arg5 fh ∗ ∃ g', pts c arg11 g' ∗
    ⌜∀ (j : ℕ) (q : Fin 8) (p : Fin 128), j < 512 → j < 8 * k → arg11.view.read (Elt F) g' (rowAt (520 * q.val + j) p) = rowOf c arg3 arg5 fi fh j q p⌝)

theorem gather_step (k0_h2 : k0_cond2 i = 1#1) (fi : Buf (Elt F) (arg3.view.loc (c : Thread nD τ))) (fh : Buf (Elt F) (arg5.view.loc (c : Thread nD τ))) (k : Fin k0_t1_loop.trips) :
    gatherInv c arg3 arg5 arg11 fi fh k.val ⊢ wp frame (wpE (defs₀ (F := F)) Variants.none (c : Thread nD τ) none) Set.univ
      (k0_t1_body (F := F) i arg3 harg3 arg4 harg4 arg5 harg5 arg6 harg6 arg7 harg7 arg8 harg8 arg9 harg9 arg10 harg10 arg11 harg11 arg12 harg12 k0_h2 k ())
      (fun _ => gatherInv c arg3 arg5 arg11 fi fh (k.val + 1)) := by
  unfold gatherInv
  iintro ⟨%hidx, H3, H5, %g, H11, %hg⟩
  iapply (wp_wand_r Idealize.ShloMosaic.frame (wpE (defs₀ (F := F)) Variants.none (c : Thread nD τ) none) Set.univ)
  isplitl [H3 H5 H11]
  · iapply gather_trip c i arg3 harg3 arg4 harg4 arg5 harg5 arg6 harg6 arg7 harg7 arg8 harg8 arg9 harg9 arg10 harg10 arg11 harg11 arg12 harg12 k0_h2 fi fh hidx g k
    isplitl [H3]; · iexact H3
    isplitl [H5]; · iexact H5
    iexact H11
  · iintro %_ ⟨H3, H5, %g', H11, %hg'⟩
    isplitr; · ipureintro; exact hidx
    isplitl [H3]; · iexact H3
    isplitl [H5]; · iexact H5
    iexists g'
    isplitl [H11]; · iexact H11
    ipureintro
    intro j q p hj hk
    rw [hg' j q p hj]
    split_ifs with h
    · rfl
    · exact hg j q p hj (by omega)

set_option warn.classDefReducibility false in
set_option backward.proofsInPublic true in
@[sl_loop] def gatherLoop (k0_h2 : k0_cond2 i = 1#1) (fi : Buf (Elt F) (arg3.view.loc (c : Thread nD τ))) (fh : Buf (Elt F) (arg5.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 k0_h2 where
  inv k _ := gatherInv c arg3 arg5 arg11 fi fh k
  step k _ := gather_step c i arg3 harg3 arg4 harg4 arg5 harg5 arg6 harg6 arg7 harg7 arg8 harg8 arg9 harg9 arg10 harg10 arg11 harg11 arg12 harg12 k0_h2 fi fh k

/-- A token's element after the first `n` words of an expert: each word that names the token adds its row times its gate. -/
def folded (r : ℕ → ℕ) (Y G : ℕ → F .f32) (R : F .f32) (s : ℕ) : ℕ → F .f32
  | 0 => R
  | n + 1 => if s = r n then put (F := F) (folded r Y G R s n) (Y n) (G n) else folded r Y G R s n

theorem folded_miss (r : ℕ → ℕ) (Y G : ℕ → F .f32) (R : F .f32) (s a : ℕ) : ∀ n, (∀ j, a ≤ j → j < a + n → s ≠ r j) →
    folded r Y G R s (a + n) = folded r Y G R s a
  | 0, _ => rfl
  | n + 1, h => by
    show folded r Y G R s ((a + n) + 1) = _
    rw [folded, if_neg (h _ (by omega) (by omega))]
    exact folded_miss r Y G R s a n fun j h1 h2 => h j h1 (by omega)

theorem folded_hit (r : ℕ → ℕ) (Y G : ℕ → F .f32) (R : F .f32) (s a n j : ℕ) (h1 : a ≤ j) (h2 : j < a + n) (hj : s = r j)
    (h : ∀ j', a ≤ j' → j' < a + n → s = r j' → j' = j) :
    folded r Y G R s (a + n) = put (F := F) (folded r Y G R s a) (Y j) (G j) := by
  have e1 : folded r Y G R s j = folded r Y G R s a := by
    have := folded_miss r Y G R s a (j - a) fun j' h3 h4 e => by have := h j' h3 (by omega) e; omega
    rwa [show a + (j - a) = j by omega] at this
  have e2 : folded r Y G R s (a + n) = folded r Y G R s (j + 1) := by
    have := folded_miss r Y G R s (j + 1) (a + n - (j + 1)) fun j' h3 h4 e => by have := h j' (by omega) (by omega) e; omega
    rwa [show j + 1 + (a + n - (j + 1)) = a + n by omega] at this
  rw [e2, folded, if_pos hj, e1]

theorem folded_eight (r : ℕ → ℕ) (Y G : ℕ → F .f32) (R : ℕ → F .f32) (k : ℕ) (hk : k < 64)
    (hd : ∀ j j', j < 512 → j' < 512 → r j = r j' → j = j') (s : ℕ) :
    eight r (fun j => put (F := F) (folded r Y G (R (r j)) (r j) (8 * k)) (Y j) (G j)) (folded r Y G (R s) s (8 * k)) k s
      = folded r Y G (R s) s (8 * (k + 1)) := by
  by_cases h : ∃ j, 8 * k ≤ j ∧ j < 8 * k + 8 ∧ s = r j
  · obtain ⟨j, h1, h2, rfl⟩ := h
    rw [eight_hit r _ _ k hk hd j h1 h2]
    exact (folded_hit r Y G (R (r j)) (r j) (8 * k) 8 j h1 h2 rfl fun j' h3 h4 e => (hd _ _ (by omega) (by omega) e).symm).symm
  · have h' : ∀ j, 8 * k ≤ j → j < 8 * k + 8 → s ≠ r j := fun j h1 h2 e => h ⟨j, h1, h2, e⟩
    rw [eight_miss r _ _ k s h']
    exact (folded_miss r Y G (R s) s (8 * k) 8 h').symm

/-- The scatter's invariant: the tokens' block with the words already met folded in. -/
abbrev scatterInv (fi : Buf (Elt F) (arg3.view.loc (c : Thread nD τ))) (fg : Buf (Elt F) (arg4.view.loc (c : Thread nD τ)))
    (fy : Buf (Elt F) (arg12.view.loc (c : Thread nD τ))) (g : Buf (Elt F) (arg9.view.loc (c : Thread nD τ))) (k : ℕ) : sProp 𝕄 :=
  iprop(pts c arg3 fi ∗ pts c arg4 fg ∗ pts c arg12 fy ∗ ∃ g', pts c arg9 g' ∗
    ⌜∀ (q : Fin 8) (p : Fin 128) (s : ℕ), s < 4096 → arg9.view.read (Elt F) g' (slabAt (s * 8 + q.val) p)
      = folded (F := F) (fun j => (arg3.view.read (Elt F) fi (wordAt j)).toNat) (fun j => arg12.view.read (Elt F) fy (rowAt (520 * q.val + j) p))
          (fun j => arg4.view.read (Elt F) fg (wordAt j)) (arg9.view.read (Elt F) g (slabAt (s * 8 + q.val) p)) s (8 * k)⌝)

theorem scatter_loop (k0_h5 : k0_cond5 i = 1#1) (fi : Buf (Elt F) (arg3.view.loc (c : Thread nD τ))) (fg : Buf (Elt F) (arg4.view.loc (c : Thread nD τ)))
    (fy : Buf (Elt F) (arg12.view.loc (c : Thread nD τ))) (g : Buf (Elt F) (arg9.view.loc (c : Thread nD τ)))
    (hidx : ∀ y, (arg3.view.read (Elt F) fi y).toNat < 4096)
    (hd : ∀ j j', j < 512 → j' < 512 → (arg3.view.read (Elt F) fi (wordAt j)).toNat = (arg3.view.read (Elt F) fi (wordAt j')).toNat → j = j') :
    iprop(pts c arg3 fi ∗ pts c arg4 fg ∗ pts c arg12 fy ∗ pts c arg9 g) ⊢ wp frame (wpE (defs₀ (F := F)) Variants.none (c : Thread nD τ) none) Set.univ
      (Scf.Loop.for k0_t2_loop (k0_t2_ok i k0_h5) ⟨⟩ (k0_t2_body (F := F) i arg3 harg3 arg4 harg4 arg5 harg5 arg6 harg6 arg7 harg7 arg8 harg8 arg9 harg9 arg10 harg10 arg11 harg11 arg12 harg12 k0_h5))
      (fun _ => scatterInv c arg3 arg4 arg9 arg12 fi fg fy g 64) := by
  have e : scatterInv c arg3 arg4 arg9 arg12 fi fg fy g 64 = scatterInv c arg3 arg4 arg9 arg12 fi fg fy g k0_t2_loop.trips := rfl
  refine BIBase.Entails.trans ?_ (Scf.wp_for Idealize.ShloMosaic.frame (wpE (defs₀ (F := F)) Variants.none (c : Thread nD τ) none) Set.univ _ _ _ (k0_t2_ok i k0_h5) PUnit.unit _
    (fun k _ => scatterInv c arg3 arg4 arg9 arg12 fi fg fy g k) ?_)
  · iintro ⟨H3, H4, H12, H9⟩
    isplitl
    · unfold scatterInv
      isplitl [H3]; · iexact H3
      isplitl [H4]; · iexact H4
      isplitl [H12]; · iexact H12
      iexists g
      isplitl [H9]; · iexact H9
      ipureintro
      intro q p s hs
      rfl
    · iintro %_ H
      iexact H
  · intro k _
    unfold scatterInv
    iintro ⟨H3, H4, H12, %g1, H9, %hg⟩
    iapply (wp_wand_r Idealize.ShloMosaic.frame (wpE (defs₀ (F := F)) Variants.none (c : Thread nD τ) none) Set.univ)
    isplitl [H3 H4 H12 H9]
    · iapply scatter_trip c i arg3 harg3 arg4 harg4 arg5 harg5 arg6 harg6 arg7 harg7 arg8 harg8 arg9 harg9 arg10 harg10 arg11 harg11 arg12 harg12 k0_h5 fi fg fy hidx g1 k
      isplitl [H3]; · iexact H3
      isplitl [H4]; · iexact H4
      isplitl [H12]; · iexact H12
      iexact H9
    · iintro %_ ⟨H3, H4, H12, %g', H9, %hg'⟩
      isplitl [H3]; · iexact H3
      isplitl [H4]; · iexact H4
      isplitl [H12]; · iexact H12
      iexists g'
      isplitl [H9]; · iexact H9
      ipureintro
      intro q p s hs
      rw [hg' q p s hs, hg q p s hs]
      refine Eq.trans ?_ (folded_eight (F := F) _ _ _ (fun s => arg9.view.read (Elt F) g (slabAt (s * 8 + q.val) p)) k.val k.isLt hd s)
      congr 1
      funext j
      rw [hg q p _ (hidx _)]
end Cert.Proof.Experts
-- ==== Proof.MoePart.lean ====
module

public import Idealize.ShloMosaic.Lib.WritesUnit
public import proofs.«01_k».proof.Defs
public import proofs.«01_k».proof.Proof.Gen.MoeIdeal.Launch
public import proofs.«01_k».proof.Proof.Gen.MoeIdeal.Skeleton
public import proofs.«01_k».proof.Proof.Gen.MoeIdeal.Loops
public import proofs.«01_k».proof.Proof.Gen.MoeIdeal.Points
public import proofs.«01_k».proof.Proof.Gen.MoeIdeal.Frame
public import Idealize.ShloMosaic.Lib.Tactic
public import proofs.«01_k».proof.Proof.MoeLoops

@[expose] public section

noncomputable section

namespace Cert.Proof.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def cellAt (j : ℕ) (q : Fin 8) (p : Fin 128) : S512x1024.Idx
  | 0 => ⟨j % 512, Nat.mod_lt _ (by decide)⟩
  | 1 => ⟨128 * q.val + p.val, by have := q.isLt; have := p.isLt; show 128 * q.val + p.val < 1024; omega⟩

def colTile (x : S512x1024.Idx) : S512x128.Idx
  | 0 => x 0
  | 1 => ⟨(x 1).val % 128, Nat.mod_lt _ (by decide)⟩

def rowTile (j : ℕ) (p : Fin 128) : S512x128.Idx
  | 0 => ⟨j % 512, Nat.mod_lt _ (by decide)⟩
  | 1 => p

/-- Reading a buffer in which 128 columns were stored last. -/
theorem read_cols {κ : Kind} {sp : Space} {e : EltTy} {Val : EltTy → Type} (v : View sig κ sp S512x1024 e) (f : v.ty.Contents Val)
    {off : Fin 2 → ℕ} (inb) (w : S512x128.Idx → Val e) (L : List (View.Piece Val S512x1024 e)) (x : S512x1024.Idx) (T : Val e)
    (u : ℕ) (hoff : off = ![0, 128 * u]) (hw : (x 1).val / 128 = u → w (colTile x) = T)
    (hR : (x 1).val / 128 ≠ u → v.read Val (v.writes Val f L) x = T) :
    v.read Val (v.writes Val f (⟨Rect.unit (s := S512x1024) off S512x128.size inb, w⟩ :: L)) x = T := by
  by_cases h : (x 1).val / 128 = u
  · rw [← hw h]
    refine View.read_writes_cons_unit_of_mem v f inb w L _ (colTile x) hoff ?_
    intro a
    fin_cases a
    · show (x 0).val = 0 + (x 0).val; omega
    · show (x 1).val = 128 * u + (x 1).val % 128; omega
  · rw [← hR h]
    refine View.read_writes_cons_unit_of_not_mem v f inb w L _ hoff 1 ?_
    show (x 1).val < 128 * u ∨ 128 * u + 128 ≤ (x 1).val
    omega

/-- Reading a buffer in which a band of 512 rows was stored last. -/
theorem read_band {κ : Kind} {sp : Space} {e : EltTy} {Val : EltTy → Type} (v : View sig κ sp S4160x128 e) (f : v.ty.Contents Val)
    {off : Fin 2 → ℕ} (inb) (w : S512x128.Idx → Val e) (L : List (View.Piece Val S4160x128 e)) (j : ℕ) (hj : j < 512) (q : Fin 8) (p : Fin 128) (T : Val e)
    (u : ℕ) (hoff : off = ![520 * u, 0]) (hw : q.val = u → w (rowTile j p) = T)
    (hR : q.val ≠ u → v.read Val (v.writes Val f L) (rowAt (520 * q.val + j) p) = T) :
    v.read Val (v.writes Val f (⟨Rect.unit (s := S4160x128) off S512x128.size inb, w⟩ :: L)) (rowAt (520 * q.val + j) p) = T := by
  have hq := q.isLt
  by_cases h : q.val = u
  · rw [← hw h]
    refine View.read_writes_cons_unit_of_mem v f inb w L _ (rowTile j p) hoff ?_
    intro a
    fin_cases a
    · show (520 * q.val + j) % 4160 = 520 * u + j % 512; omega
    · show p.val = 0 + p.val; omega
  · rw [← hR h]
    refine View.read_writes_cons_unit_of_not_mem v f inb w L _ hoff 0 ?_
    show (520 * q.val + j) % 4160 < 520 * u ∨ 520 * u + 512 ≤ (520 * q.val + j) % 4160
    omega

theorem read_all {κ : Kind} {sp : Space} {e : EltTy} {Val : EltTy → Type} {s : Shape} (v : View sig κ sp s e) (f : v.ty.Contents Val)
    (off : Fin s.rank → ℕ) (inb) (h : ∀ a, off a = 0) :
    View.readAt Val v (Rect.unit (s := s) off s.size inb).toLoadRect f = v.read Val f := by
  funext y
  rw [View.readAt_apply]
  congr 1
  funext a; apply Fin.ext
  show off a + 1 * (y a).val = (y a).val
  rw [h a]; omega

theorem read_stored {κ : Kind} {sp : Space} {e : EltTy} {Val : EltTy → Type} {s : Shape} (v : View sig κ sp s e) (f : v.ty.Contents Val)
    (off : Fin s.rank → ℕ) (inb) (w : s.Idx → Val e) (L) (h : ∀ a, off a = 0) (y : s.Idx) :
    v.read Val (v.writes Val f (⟨Rect.unit (s := s) off s.size inb, w⟩ :: L)) y = w y :=
  View.read_writes_cons_unit_of_mem v f inb w L y y rfl fun a => by rw [h a, Nat.zero_add]

theorem zero2 : ∀ a, (![0, 0] : Fin 2 → ℕ) a = 0 := by decide
theorem zero3 : ∀ a, (![0, 0, 0] : Fin 3 → ℕ) a = 0 := by decide

/-- An expert's gathered tile, rounded as the kernel rounds it. -/
abbrev gathered (c : Dev nD) (arg3 : Memref sig .tc .smem S1x1x512 .i32) (arg5 : Memref sig .tc .vmem S1x32768x128 .f32)
    (fi : Buf (Elt F) (arg3.view.loc (c : Thread nD τ))) (fh : Buf (Elt F) (arg5.view.loc (c : Thread nD τ))) : FVec F S512x1024 .bf16 :=
  truncf .bf16 (fun x : S512x1024.Idx => rowOf c arg3 arg5 fi fh (x 0).val ⟨(x 1).val / 128, by have : (x 1).val < 1024 := (x 1).isLt; omega⟩ ⟨(x 1).val % 128, Nat.mod_lt _ (by decide)⟩) bitsLt_bf16_f32

variable (c : Dev nD) (i : grid0.Coords) (arg3 : Memref sig .tc .smem S1x1x512 .i32) (harg3 : arg3.IsWhole) (arg4 : Memref sig .tc .smem S1x1x512 .f32) (harg4 : arg4.IsWhole) (arg5 : Memref sig .tc .vmem S1x32768x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x32768x128 .f32) (harg9 : arg9.IsWhole) (arg10 : Memref sig .tc .vmem S512x1024 .bf16) (harg10 : arg10.IsWhole) (arg11 : Memref sig .tc .vmem S4160x128 .f32) (harg11 : arg11.IsWhole) (arg12 : Memref sig .tc .vmem S4160x128 .f32) (harg12 : arg12.IsWhole)

theorem gather_payload (g : Buf (Elt F) (arg11.view.loc (c : Thread nD τ))) (X : ℕ → Fin 8 → Fin 128 → F .f32)
    (hg : ∀ (j : ℕ) (q : Fin 8) (p : Fin 128), j < 512 → arg11.view.read (Elt F) g (rowAt (520 * q.val + j) p) = X j q p)
    (off : Fin 2 → ℕ) (inb) (x : S512x1024.Idx) (u : ℕ) (hoff : off = ![520 * u, 0]) (hu : (x 1).val / 128 = u) (h : S512x128.ShapeCasts S512x128) :
    shapeCast S512x128 (s := S512x128) (truncf .bf16 (View.readAt (Elt F) arg11.view (Rect.unit (s := S4160x128) off S512x128.size inb).toLoadRect g) bitsLt_bf16_f32) h (colTile x)
      = (truncf .bf16 (fun x : S512x1024.Idx => X (x 0).val ⟨(x 1).val / 128, by have : (x 1).val < 1024 := (x 1).isLt; omega⟩ ⟨(x 1).val % 128, Nat.mod_lt _ (by decide)⟩) bitsLt_bf16_f32 : FVec F S512x1024 .bf16) x := by
  have h0 : (x 0).val < 512 := (x 0).isLt
  have h1 : (x 1).val < 1024 := (x 1).isLt
  subst hoff
  show FloatOps.truncf _ _ (arg11.view.read (Elt F) g ((Rect.unit (s := S4160x128) _ S512x128.size inb).toLoadRect.idx (Shape.reshapeEquiv _ (colTile x)))) = FloatOps.truncf _ _ (X _ _ _)
  rw [← hg _ _ _ h0, Shape.reshapeEquiv_self]
  congr 2
  funext a; apply Fin.ext
  fin_cases a
  · show 520 * u + 1 * (x 0).val = (520 * ((x 1).val / 128) + (x 0).val) % 4160
    omega
  · show 0 + 1 * ((x 1).val % 128) = (x 1).val % 128
    omega

theorem band_payload (y : FVec F S512x1024 .f32) (off : Fin 2 → ℕ) (hs) (h : S512x128.ShapeCasts S512x128) (j : ℕ) (hj : j < 512) (q : Fin 8) (p : Fin 128) (u : ℕ) (hoff : off = ![0, 128 * u]) (hu : q.val = u) :
    shapeCast S512x128 (extractStridedSlice S512x128 off y hs) h (rowTile j p) = y (cellAt j q p) := by
  subst hoff hu
  show y _ = y _
  congr 1
  rw [Shape.reshapeEquiv_self]
  funext a; apply Fin.ext
  fin_cases a
  · show 0 + j % 512 = j % 512; omega
  · show 128 * q.val + p.val = 128 * q.val + p.val; rfl

theorem sum_payload (y : FVec F S512x1024 .f32) (f12 : Buf (Elt F) (arg12.view.loc (c : Thread nD τ))) (off : Fin 2 → ℕ) (hs) (h : S512x128.ShapeCasts S512x128) (off' : Fin 2 → ℕ) (inb)
    (j : ℕ) (hj : j < 512) (q : Fin 8) (p : Fin 128) (u : ℕ) (hoff : off = ![0, 128 * u]) (hoff' : off' = ![520 * u, 0]) (hu : q.val = u) :
    shapeCast S512x128 (s := S512x128) (addf (View.readAt (Elt F) arg12.view (Rect.unit (s := S4160x128) off' S512x128.size inb).toLoadRect f12) (extractStridedSlice S512x128 off y hs)) h (rowTile j p)
      = FloatOps.addf (arg12.view.read (Elt F) f12 (rowAt (520 * q.val + j) p)) (y (cellAt j q p)) := by
  have hq := q.isLt
  rw [← band_payload y off hs h j hj q p u hoff hu]
  subst hoff' hu
  show FloatOps.addf (arg12.view.read (Elt F) f12 ((Rect.unit (s := S4160x128) _ S512x128.size inb).toLoadRect.idx (Shape.reshapeEquiv _ (rowTile j p)))) _ = FloatOps.addf _ _
  refine congrArg₂ _ (congrArg _ ?_) rfl
  rw [Shape.reshapeEquiv_self]
  funext a; apply Fin.ext
  fin_cases a
  · show 520 * q.val + 1 * (j % 512) = (520 * q.val + j) % 4160; omega
  · show 0 + 1 * p.val = p.val; omega

/-- The expert's rows of one chunk of its hidden units. -/
abbrev chunk (x : FVec F S512x1024 .bf16) (f6 : Buf (Elt F) (arg6.view.loc (c : Thread nD τ))) (f7 : Buf (Elt F) (arg7.view.loc (c : Thread nD τ))) (f8 : Buf (Elt F) (arg8.view.loc (c : Thread nD τ))) : FVec F S512x1024 .f32 :=
  k0_pay42 x (arg6.view.read (Elt F) f6) (arg7.view.read (Elt F) f7) (arg8.view.read (Elt F) f8)

/-- The condition "not the expert's first chunk", as the kernel computes it. -/
abbrev laterChunk (i : grid0.Coords) : Prop := Scalar.cmpi .ne (Scalar.extui (Scalar.cmpi .sgt (BitVec.ofNat 32 (i 2).val) 0#32)) 0#32 = 1#1

theorem later_iff (i : grid0.Coords) : laterChunk i ↔ ¬ k0_cond2 i = 1#1 := by
  unfold laterChunk k0_cond2
  generalize i 2 = f
  revert f
  decide

theorem first_chunk (i : grid0.Coords) (h : k0_cond1 i = 1#1) : k0_cond2 i = 1#1 := by
  revert h
  unfold k0_cond1 k0_cond2
  generalize i 2 = f
  generalize i 1 = e
  revert f e
  decide

theorem part10_later (h1 : ¬ k0_cond1 i = 1#1) (h2 : ¬ k0_cond2 i = 1#1) (h4 : laterChunk i)
    (f6 : Buf (Elt F) (arg6.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f12 : Buf (Elt F) (arg12.view.loc (c : Thread nD τ))) :
    iprop(pts c arg6 f6 ∗ pts c arg7 f7 ∗ pts c arg8 f8 ∗ pts c arg10 f10 ∗ pts c arg12 f12)
      ⊢ wp frame (wpE (defs₀ (F := F)) Variants.none (c : Thread nD τ) none) Set.univ
      (k0_part10 (F := F) i arg3 harg3 arg4 harg4 arg5 harg5 arg6 harg6 arg7 harg7 arg8 harg8 arg9 harg9 arg10 harg10 arg11 harg11 arg12 harg12)
      (fun _ => iprop(pts c arg6 f6 ∗ pts c arg7 f7 ∗ pts c arg8 f8 ∗ pts c arg10 f10 ∗ ∃ g, pts c arg12 g ∗
        ⌜∀ (j : ℕ) (q : Fin 8) (p : Fin 128), j < 512 → arg12.view.read (Elt F) g (rowAt (520 * q.val + j) p)
          = FloatOps.addf (arg12.view.read (Elt F) f12 (rowAt (520 * q.val + j) p)) (chunk c arg6 arg7 arg8 (arg10.view.read (Elt F) f10) f6 f7 f8 (cellAt j q p))⌝)) := by
  have h3 : ¬ Scalar.cmpi .ne (Scalar.extui (Scalar.cmpi .eq (BitVec.ofNat 32 (i 2).val) 0#32)) 0#32 = 1#1 := h2
  iintro ⟨H6, H7, H8, H10, H12⟩
  rw [k0_part10_eq_skeleton]
  unfold k0_part10_skel
  sl_exec
  sl_step
  isplitl [H6]; · iexact H6
  isplitl [H7]; · iexact H7
  isplitl [H8]; · iexact H8
  isplitl [H10]; · iexact H10
  iexists _
  isplitl [H12]; · iexact H12
  ipureintro
  intro j q p hj
  have hq := q.isLt
  refine Eq.trans (read_band _ _ _ _ _ j hj q p _ 7 rfl (sum_payload c arg12 _ f12 _ _ _ _ _ j hj q p 7 rfl rfl) fun _ => (read_band _ _ _ _ _ j hj q p _ 6 rfl (sum_payload c arg12 _ f12 _ _ _ _ _ j hj q p 6 rfl rfl) fun _ => (read_band _ _ _ _ _ j hj q p _ 5 rfl (sum_payload c arg12 _ f12 _ _ _ _ _ j hj q p 5 rfl rfl) fun _ => (read_band _ _ _ _ _ j hj q p _ 4 rfl (sum_payload c arg12 _ f12 _ _ _ _ _ j hj q p 4 rfl rfl) fun _ => (read_band _ _ _ _ _ j hj q p _ 3 rfl (sum_payload c arg12 _ f12 _ _ _ _ _ j hj q p 3 rfl rfl) fun _ => (read_band _ _ _ _ _ j hj q p _ 2 rfl (sum_payload c arg12 _ f12 _ _ _ _ _ j hj q p 2 rfl rfl) fun _ => (read_band _ _ _ _ _ j hj q p _ 1 rfl (sum_payload c arg12 _ f12 _ _ _ _ _ j hj q p 1 rfl rfl) fun _ => (read_band _ _ _ _ _ j hj q p _ 0 rfl (sum_payload c arg12 _ f12 _ _ _ _ _ j hj q p 0 rfl rfl) fun _ => by omega)))))))) (congrArg _ (congrFun (congr (congr (congr (congrArg k0_pay42 (read_all arg10.view f10 ![0, 0] inb_S512x1024_S512x1024_0_0 zero2))
      (read_all arg6.view f6 ![0, 0, 0] inb_S1x1024x512_S1x1024x512_0_0_0 zero3)) (read_all arg7.view f7 ![0, 0, 0] inb_S1x1024x512_S1x1024x512_0_0_0 zero3))
      (read_all arg8.view f8 ![0, 0, 0] inb_S1x512x1024_S1x512x1024_0_0_0 zero3)) _))

theorem part10_first (h1 : ¬ k0_cond1 i = 1#1) (h2 : k0_cond2 i = 1#1) (h4 : ¬ laterChunk i)
    (fi : Buf (Elt F) (arg3.view.loc (c : Thread nD τ))) (fh : Buf (Elt F) (arg5.view.loc (c : Thread nD τ))) (hidx : ∀ y, (arg3.view.read (Elt F) fi y).toNat < 4096)
    (f11 : Buf (Elt F) (arg11.view.loc (c : Thread nD τ)))
    (f6 : Buf (Elt F) (arg6.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f12 : Buf (Elt F) (arg12.view.loc (c : Thread nD τ))) :
    iprop(pts c arg3 fi ∗ pts c arg5 fh ∗ pts c arg11 f11 ∗ pts c arg6 f6 ∗ pts c arg7 f7 ∗ pts c arg8 f8 ∗ pts c arg10 f10 ∗ pts c arg12 f12)
      ⊢ wp frame (wpE (defs₀ (F := F)) Variants.none (c : Thread nD τ) none) Set.univ
      (k0_part10 (F := F) i arg3 harg3 arg4 harg4 arg5 harg5 arg6 harg6 arg7 harg7 arg8 harg8 arg9 harg9 arg10 harg10 arg11 harg11 arg12 harg12)
      (fun _ => iprop(pts c arg3 fi ∗ pts c arg5 fh ∗ (∃ g11, pts c arg11 g11) ∗ pts c arg6 f6 ∗ pts c arg7 f7 ∗ pts c arg8 f8
        ∗ (∃ g10, pts c arg10 g10 ∗ ⌜arg10.view.read (Elt F) g10 = gathered c arg3 arg5 fi fh⌝) ∗ ∃ g, pts c arg12 g ∗
        ⌜∀ (j : ℕ) (q : Fin 8) (p : Fin 128), j < 512 → arg12.view.read (Elt F) g (rowAt (520 * q.val + j) p)
          = chunk c arg6 arg7 arg8 (gathered c arg3 arg5 fi fh) f6 f7 f8 (cellAt j q p)⌝)) := by
  have h3 : Scalar.cmpi .ne (Scalar.extui (Scalar.cmpi .eq (BitVec.ofNat 32 (i 2).val) 0#32)) 0#32 = 1#1 := h2
  iintro ⟨H3, H5, H11, H6, H7, H8, H10, H12⟩
  ihave HG : (gatherInv c arg3 arg5 arg11 fi fh 0) $$ [H3 H5 H11]
  · unfold gatherInv
    isplitr; · ipureintro; exact hidx
    isplitl [H3]; · iexact H3
    isplitl [H5]; · iexact H5
    iexists f11
    isplitl [H11]; · iexact H11
    ipureintro
    intro j q p _ h
    omega
  icases HG with ⟨%hidx', H3, H5, %g11, H11, %hg11⟩
  rw [k0_part10_eq_skeleton]
  unfold k0_part10_skel
  sl_exec
  sl_step
  have hg := fun (j : ℕ) (q : Fin 8) (p : Fin 128) (hj : j < 512) => hL4 j q p hj (show j < 512 from hj)
  isplitl [H3]; · iexact H3
  isplitl [H5]; · iexact H5
  isplitl [H11]; · iexists _; iexact H11
  isplitl [H6]; · iexact H6
  isplitl [H7]; · iexact H7
  isplitl [H8]; · iexact H8
  isplitl [H10]
  · iexists _
    isplitl [H10]; · iexact H10
    ipureintro
    refine funext fun x => ?_
    have h1 : (x 1).val < 1024 := (x 1).isLt
    exact read_cols _ _ _ _ _ x _ 7 rfl (fun hu => gather_payload c arg11 _ _ hg _ _ x 7 rfl hu _) fun _ => (read_cols _ _ _ _ _ x _ 6 rfl (fun hu => gather_payload c arg11 _ _ hg _ _ x 6 rfl hu _) fun _ => (read_cols _ _ _ _ _ x _ 5 rfl (fun hu => gather_payload c arg11 _ _ hg _ _ x 5 rfl hu _) fun _ => (read_cols _ _ _ _ _ x _ 4 rfl (fun hu => gather_payload c arg11 _ _ hg _ _ x 4 rfl hu _) fun _ => (read_cols _ _ _ _ _ x _ 3 rfl (fun hu => gather_payload c arg11 _ _ hg _ _ x 3 rfl hu _) fun _ => (read_cols _ _ _ _ _ x _ 2 rfl (fun hu => gather_payload c arg11 _ _ hg _ _ x 2 rfl hu _) fun _ => (read_cols _ _ _ _ _ x _ 1 rfl (fun hu => gather_payload c arg11 _ _ hg _ _ x 1 rfl hu _) fun _ => (read_cols _ _ _ _ _ x _ 0 rfl (fun hu => gather_payload c arg11 _ _ hg _ _ x 0 rfl hu _) fun _ => by omega)))))))
  iexists _
  isplitl [H12]; · iexact H12
  ipureintro
  intro j q p hj
  have hq := q.isLt
  unfold chunk
  refine Eq.trans (read_band _ _ _ _ _ j hj q p _ 7 rfl (band_payload _ _ _ _ j hj q p 7 rfl) fun _ => (read_band _ _ _ _ _ j hj q p _ 6 rfl (band_payload _ _ _ _ j hj q p 6 rfl) fun _ => (read_band _ _ _ _ _ j hj q p _ 5 rfl (band_payload _ _ _ _ j hj q p 5 rfl) fun _ => (read_band _ _ _ _ _ j hj q p _ 4 rfl (band_payload _ _ _ _ j hj q p 4 rfl) fun _ => (read_band _ _ _ _ _ j hj q p _ 3 rfl (band_payload _ _ _ _ j hj q p 3 rfl) fun _ => (read_band _ _ _ _ _ j hj q p _ 2 rfl (band_payload _ _ _ _ j hj q p 2 rfl) fun _ => (read_band _ _ _ _ _ j hj q p _ 1 rfl (band_payload _ _ _ _ j hj q p 1 rfl) fun _ => (read_band _ _ _ _ _ j hj q p _ 0 rfl (band_payload _ _ _ _ j hj q p 0 rfl) fun _ => by omega)))))))) (congrFun (congr (congr (congr (congrArg k0_pay42 ((read_all arg10.view _ ![0, 0] inb_S512x1024_S512x1024_0_0 zero2).trans (funext fun x => ?_)))
      (read_all arg6.view f6 ![0, 0, 0] inb_S1x1024x512_S1x1024x512_0_0_0 zero3)) (read_all arg7.view f7 ![0, 0, 0] inb_S1x1024x512_S1x1024x512_0_0_0 zero3))
      (read_all arg8.view f8 ![0, 0, 0] inb_S1x512x1024_S1x512x1024_0_0_0 zero3)) _)
  have h1 : (x 1).val < 1024 := (x 1).isLt
  exact read_cols _ _ _ _ _ x _ 7 rfl (fun hu => gather_payload c arg11 _ _ hg _ _ x 7 rfl hu _) fun _ => (read_cols _ _ _ _ _ x _ 6 rfl (fun hu => gather_payload c arg11 _ _ hg _ _ x 6 rfl hu _) fun _ => (read_cols _ _ _ _ _ x _ 5 rfl (fun hu => gather_payload c arg11 _ _ hg _ _ x 5 rfl hu _) fun _ => (read_cols _ _ _ _ _ x _ 4 rfl (fun hu => gather_payload c arg11 _ _ hg _ _ x 4 rfl hu _) fun _ => (read_cols _ _ _ _ _ x _ 3 rfl (fun hu => gather_payload c arg11 _ _ hg _ _ x 3 rfl hu _) fun _ => (read_cols _ _ _ _ _ x _ 2 rfl (fun hu => gather_payload c arg11 _ _ hg _ _ x 2 rfl hu _) fun _ => (read_cols _ _ _ _ _ x _ 1 rfl (fun hu => gather_payload c arg11 _ _ hg _ _ x 1 rfl hu _) fun _ => (read_cols _ _ _ _ _ x _ 0 rfl (fun hu => gather_payload c arg11 _ _ hg _ _ x 0 rfl hu _) fun _ => by omega)))))))

theorem part10_zero (h1 : k0_cond1 i = 1#1) (h2 : k0_cond2 i = 1#1) (h4 : ¬ laterChunk i)
    (fi : Buf (Elt F) (arg3.view.loc (c : Thread nD τ))) (fh : Buf (Elt F) (arg5.view.loc (c : Thread nD τ))) (hidx : ∀ y, (arg3.view.read (Elt F) fi y).toNat < 4096)
    (f9 : Buf (Elt F) (arg9.view.loc (c : Thread nD τ))) (f11 : Buf (Elt F) (arg11.view.loc (c : Thread nD τ)))
    (f6 : Buf (Elt F) (arg6.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f12 : Buf (Elt F) (arg12.view.loc (c : Thread nD τ))) :
    iprop(pts c arg9 f9 ∗ pts c arg3 fi ∗ pts c arg5 fh ∗ pts c arg11 f11 ∗ pts c arg6 f6 ∗ pts c arg7 f7 ∗ pts c arg8 f8 ∗ pts c arg10 f10 ∗ pts c arg12 f12)
      ⊢ wp frame (wpE (defs₀ (F := F)) Variants.none (c : Thread nD τ) none) Set.univ
      (k0_part10 (F := F) i arg3 harg3 arg4 harg4 arg5 harg5 arg6 harg6 arg7 harg7 arg8 harg8 arg9 harg9 arg10 harg10 arg11 harg11 arg12 harg12)
      (fun _ => iprop((∃ g9, pts c arg9 g9 ∗ ⌜∀ y, arg9.view.read (Elt F) g9 y = Scalar.ofBits .f32 0x00000000#32⌝) ∗ pts c arg3 fi ∗ pts c arg5 fh ∗ (∃ g11, pts c arg11 g11) ∗ pts c arg6 f6 ∗ pts c arg7 f7 ∗ pts c arg8 f8
        ∗ (∃ g10, pts c arg10 g10 ∗ ⌜arg10.view.read (Elt F) g10 = gathered c arg3 arg5 fi fh⌝) ∗ ∃ g, pts c arg12 g ∗
        ⌜∀ (j : ℕ) (q : Fin 8) (p : Fin 128), j < 512 → arg12.view.read (Elt F) g (rowAt (520 * q.val + j) p)
          = chunk c arg6 arg7 arg8 (gathered c arg3 arg5 fi fh) f6 f7 f8 (cellAt j q p)⌝)) := by
  have h3 : Scalar.cmpi .ne (Scalar.extui (Scalar.cmpi .eq (BitVec.ofNat 32 (i 2).val) 0#32)) 0#32 = 1#1 := h2
  iintro ⟨H9, H3, H5, H11, H6, H7, H8, H10, H12⟩
  ihave HG : (gatherInv c arg3 arg5 arg11 fi fh 0) $$ [H3 H5 H11]
  · unfold gatherInv
    isplitr; · ipureintro; exact hidx
    isplitl [H3]; · iexact H3
    isplitl [H5]; · iexact H5
    iexists f11
    isplitl [H11]; · iexact H11
    ipureintro
    intro j q p _ h
    omega
  icases HG with ⟨%hidx', H3, H5, %g11, H11, %hg11⟩
  rw [k0_part10_eq_skeleton]
  unfold k0_part10_skel
  sl_exec
  sl_step
  isplitl [H9]
  · iexists _
    isplitl [H9]; · iexact H9
    ipureintro
    intro y
    refine (read_stored arg9.view arg9.view.junk _ _ _ _ ?_ y).trans ?_
    · exact zero3
    · rfl
  have hg := fun (j : ℕ) (q : Fin 8) (p : Fin 128) (hj : j < 512) => hL4 j q p hj (show j < 512 from hj)
  isplitl [H3]; · iexact H3
  isplitl [H5]; · iexact H5
  isplitl [H11]; · iexists _; iexact H11
  isplitl [H6]; · iexact H6
  isplitl [H7]; · iexact H7
  isplitl [H8]; · iexact H8
  isplitl [H10]
  · iexists _
    isplitl [H10]; · iexact H10
    ipureintro
    refine funext fun x => ?_
    have h1 : (x 1).val < 1024 := (x 1).isLt
    exact read_cols _ _ _ _ _ x _ 7 rfl (fun hu => gather_payload c arg11 _ _ hg _ _ x 7 rfl hu _) fun _ => (read_cols _ _ _ _ _ x _ 6 rfl (fun hu => gather_payload c arg11 _ _ hg _ _ x 6 rfl hu _) fun _ => (read_cols _ _ _ _ _ x _ 5 rfl (fun hu => gather_payload c arg11 _ _ hg _ _ x 5 rfl hu _) fun _ => (read_cols _ _ _ _ _ x _ 4 rfl (fun hu => gather_payload c arg11 _ _ hg _ _ x 4 rfl hu _) fun _ => (read_cols _ _ _ _ _ x _ 3 rfl (fun hu => gather_payload c arg11 _ _ hg _ _ x 3 rfl hu _) fun _ => (read_cols _ _ _ _ _ x _ 2 rfl (fun hu => gather_payload c arg11 _ _ hg _ _ x 2 rfl hu _) fun _ => (read_cols _ _ _ _ _ x _ 1 rfl (fun hu => gather_payload c arg11 _ _ hg _ _ x 1 rfl hu _) fun _ => (read_cols _ _ _ _ _ x _ 0 rfl (fun hu => gather_payload c arg11 _ _ hg _ _ x 0 rfl hu _) fun _ => by omega)))))))
  iexists _
  isplitl [H12]; · iexact H12
  ipureintro
  intro j q p hj
  have hq := q.isLt
  unfold chunk
  refine Eq.trans (read_band _ _ _ _ _ j hj q p _ 7 rfl (band_payload _ _ _ _ j hj q p 7 rfl) fun _ => (read_band _ _ _ _ _ j hj q p _ 6 rfl (band_payload _ _ _ _ j hj q p 6 rfl) fun _ => (read_band _ _ _ _ _ j hj q p _ 5 rfl (band_payload _ _ _ _ j hj q p 5 rfl) fun _ => (read_band _ _ _ _ _ j hj q p _ 4 rfl (band_payload _ _ _ _ j hj q p 4 rfl) fun _ => (read_band _ _ _ _ _ j hj q p _ 3 rfl (band_payload _ _ _ _ j hj q p 3 rfl) fun _ => (read_band _ _ _ _ _ j hj q p _ 2 rfl (band_payload _ _ _ _ j hj q p 2 rfl) fun _ => (read_band _ _ _ _ _ j hj q p _ 1 rfl (band_payload _ _ _ _ j hj q p 1 rfl) fun _ => (read_band _ _ _ _ _ j hj q p _ 0 rfl (band_payload _ _ _ _ j hj q p 0 rfl) fun _ => by omega)))))))) (congrFun (congr (congr (congr (congrArg k0_pay42 ((read_all arg10.view _ ![0, 0] inb_S512x1024_S512x1024_0_0 zero2).trans (funext fun x => ?_)))
      (read_all arg6.view f6 ![0, 0, 0] inb_S1x1024x512_S1x1024x512_0_0_0 zero3)) (read_all arg7.view f7 ![0, 0, 0] inb_S1x1024x512_S1x1024x512_0_0_0 zero3))
      (read_all arg8.view f8 ![0, 0, 0] inb_S1x512x1024_S1x512x1024_0_0_0 zero3)) _)
  have h1 : (x 1).val < 1024 := (x 1).isLt
  exact read_cols _ _ _ _ _ x _ 7 rfl (fun hu => gather_payload c arg11 _ _ hg _ _ x 7 rfl hu _) fun _ => (read_cols _ _ _ _ _ x _ 6 rfl (fun hu => gather_payload c arg11 _ _ hg _ _ x 6 rfl hu _) fun _ => (read_cols _ _ _ _ _ x _ 5 rfl (fun hu => gather_payload c arg11 _ _ hg _ _ x 5 rfl hu _) fun _ => (read_cols _ _ _ _ _ x _ 4 rfl (fun hu => gather_payload c arg11 _ _ hg _ _ x 4 rfl hu _) fun _ => (read_cols _ _ _ _ _ x _ 3 rfl (fun hu => gather_payload c arg11 _ _ hg _ _ x 3 rfl hu _) fun _ => (read_cols _ _ _ _ _ x _ 2 rfl (fun hu => gather_payload c arg11 _ _ hg _ _ x 2 rfl hu _) fun _ => (read_cols _ _ _ _ _ x _ 1 rfl (fun hu => gather_payload c arg11 _ _ hg _ _ x 1 rfl hu _) fun _ => (read_cols _ _ _ _ _ x _ 0 rfl (fun hu => gather_payload c arg11 _ _ hg _ _ x 0 rfl hu _) fun _ => by omega)))))))

end Cert.Proof.Experts
-- ==== Proof.MoeBody.lean ====
/- One grid point of the experts kernel: the triple of its body in each of the four cases of its conditionals. -/
module

public import Idealize.ShloMosaic.Lib.WritesUnit
public import proofs.«01_k».proof.Defs
public import proofs.«01_k».proof.Proof.Gen.MoeIdeal.Launch
public import proofs.«01_k».proof.Proof.Gen.MoeIdeal.Skeleton
public import proofs.«01_k».proof.Proof.Gen.MoeIdeal.Loops
public import proofs.«01_k».proof.Proof.Gen.MoeIdeal.Points
public import proofs.«01_k».proof.Proof.Gen.MoeIdeal.Frame
public import Idealize.ShloMosaic.Lib.Tactic
public import proofs.«01_k».proof.Proof.MoePart

@[expose] public section

noncomputable section

namespace Cert.Proof.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows of the hidden state the words name, one per word, as the matrix the products read. -/
def vgath (ix : Vec F S1x1x512 .i32) (hh : Vec F S1x32768x128 .f32) : FVec F S512x1024 .bf16 :=
  truncf .bf16 (fun x : S512x1024.Idx => hh (slabAt ((ix (wordAt (x 0).val)).toNat * 8 + (x 1).val / 128) ⟨(x 1).val % 128, Nat.mod_lt _ (by decide)⟩)) bitsLt_bf16_f32

/-- The accumulator after the rows of `Y`, each scaled by its gate, are added in the words' order. -/
def vput (ix : Vec F S1x1x512 .i32) (gt : Vec F S1x1x512 .f32) (Y : FVec F S512x1024 .f32) (A : Vec F S1x32768x128 .f32) : Vec F S1x32768x128 .f32 :=
  fun y => folded (F := F) (fun j => (ix (wordAt j)).toNat) (fun j => Y (cellAt j ⟨(y 1).val % 8, Nat.mod_lt _ (by decide)⟩ (y 2))) (fun j => gt (wordAt j)) (A y) ((y 1).val / 8) 512

/-- The accumulator at the start of a batch row. -/
def vzero : Vec F S1x32768x128 .f32 := fun _ => Scalar.ofBits .f32 0x00000000#32

theorem folded_congr (r : ℕ → ℕ) (Y Y' G : ℕ → F .f32) (R : F .f32) (s : ℕ) : ∀ n, (∀ j, j < n → Y j = Y' j) →
    folded (F := F) r Y G R s n = folded (F := F) r Y' G R s n
  | 0, _ => rfl
  | n + 1, h => by
    unfold folded
    rw [folded_congr r Y Y' G R s n fun j hj => h j (by omega), h n (by omega)]

theorem slab_split (y : S1x32768x128.Idx) : slabAt ((y 1).val / 8 * 8 + (y 1).val % 8) (y 2) = y := by
  funext a
  have h1 : (y 1).val < 32768 := (y 1).isLt
  have h0 : (y 0).val < 1 := (y 0).isLt
  refine Fin.ext ?_
  fin_cases a
  · show 0 = (y 0).val
    omega
  · show ((y 1).val / 8 * 8 + (y 1).val % 8) % 32768 = (y 1).val
    omega
  · rfl

variable (c : Dev nD) (i : grid0.Coords) (arg3 : Memref sig .tc .smem S1x1x512 .i32) (harg3 : arg3.IsWhole) (arg4 : Memref sig .tc .smem S1x1x512 .f32) (harg4 : arg4.IsWhole) (arg5 : Memref sig .tc .vmem S1x32768x128 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x32768x128 .f32) (harg9 : arg9.IsWhole) (arg10 : Memref sig .tc .vmem S512x1024 .bf16) (harg10 : arg10.IsWhole) (arg11 : Memref sig .tc .vmem S4160x128 .f32) (harg11 : arg11.IsWhole) (arg12 : Memref sig .tc .vmem S4160x128 .f32) (harg12 : arg12.IsWhole)

/-- Where the expert's chunk is not the last one the body ends with its first part. -/
theorem body_short (h5 : ¬ k0_cond5 i = 1#1) (P Q : sProp 𝕄)
    (h : P ⊢ wp frame (wpE (defs₀ (F := F)) Variants.none (c : Thread nD τ) none) Set.univ
      (k0_part10 (F := F) i arg3 harg3 arg4 harg4 arg5 harg5 arg6 harg6 arg7 harg7 arg8 harg8 arg9 harg9 arg10 harg10 arg11 harg11 arg12 harg12) (fun _ => Q)) :
    P ⊢ wp frame (wpE (defs₀ (F := F)) Variants.none (c : Thread nD τ) none) Set.univ
      (cc0_moe (F := F) i arg3 harg3 arg4 harg4 arg5 harg5 arg6 harg6 arg7 harg7 arg8 harg8 arg9 harg9 arg10 harg10 arg11 harg11 arg12 harg12) (fun _ => Q) := by
  rw [cc0_moe_eq_skeleton]
  unfold cc0_moe_skel
  rw [wp_bind]
  refine BIBase.Entails.trans h ?_
  iintro H
  iapply (wp_wand_r Idealize.ShloMosaic.frame (wpE (defs₀ (F := F)) Variants.none (c : Thread nD τ) none) Set.univ)
  isplitl [H]; · iexact H
  iintro %v HQ
  rw [dif_neg h5]
  sl_exec
  sl_step
  iexact HQ

/-- On the last chunk the scatter loop follows the first part. -/
theorem body_long (h5 : k0_cond5 i = 1#1) (P R Q : sProp 𝕄)
    (h : P ⊢ wp frame (wpE (defs₀ (F := F)) Variants.none (c : Thread nD τ) none) Set.univ
      (k0_part10 (F := F) i arg3 harg3 arg4 harg4 arg5 harg5 arg6 harg6 arg7 harg7 arg8 harg8 arg9 harg9 arg10 harg10 arg11 harg11 arg12 harg12) (fun _ => R))
    (hl : R ⊢ wp frame (wpE (defs₀ (F := F)) Variants.none (c : Thread nD τ) none) Set.univ
      (Scf.Loop.for k0_t2_loop (k0_t2_ok i h5) ⟨⟩ (k0_t2_body (F := F) i arg3 harg3 arg4 harg4 arg5 harg5 arg6 harg6 arg7 harg7 arg8 harg8 arg9 harg9 arg10 harg10 arg11 harg11 arg12 harg12 h5)) (fun _ => Q)) :
    P ⊢ wp frame (wpE (defs₀ (F := F)) Variants.none (c : Thread nD τ) none) Set.univ
      (cc0_moe (F := F) i arg3 harg3 arg4 harg4 arg5 harg5 arg6 harg6 arg7 harg7 arg8 harg8 arg9 harg9 arg10 harg10 arg11 harg11 arg12 harg12) (fun _ => Q) := by
  rw [cc0_moe_eq_skeleton]
  unfold cc0_moe_skel
  rw [wp_bind]
  refine BIBase.Entails.trans h ?_
  iintro H
  iapply (wp_wand_r Idealize.ShloMosaic.frame (wpE (defs₀ (F := F)) Variants.none (c : Thread nD τ) none) Set.univ)
  isplitl [H]; · iexact H
  iintro %v HR
  rw [dif_pos h5, wp_bind]
  ihave HL := hl $$ HR
  iapply (wp_wand_r Idealize.ShloMosaic.frame (wpE (defs₀ (F := F)) Variants.none (c : Thread nD τ) none) Set.univ)
  isplitl [HL]; · iexact HL
  iintro %w HQ
  sl_exec
  sl_step
  iexact HQ

/-- What the point leaves in the gathered rows, in the partial sums and in the accumulator. -/
def nextX (ix : Vec F S1x1x512 .i32) (hh : Vec F S1x32768x128 .f32) (X : FVec F S512x1024 .bf16) : FVec F S512x1024 .bf16 :=
  if k0_cond2 i = 1#1 then vgath ix hh else X
def nextY (X : FVec F S512x1024 .bf16) (wg wu : Vec F S1x1024x512 .bf16) (wd : Vec F S1x512x1024 .bf16) (Y : FVec F S512x1024 .f32) : FVec F S512x1024 .f32 :=
  if k0_cond2 i = 1#1 then k0_pay42 X wg wu wd else fun x => FloatOps.addf (Y x) (k0_pay42 X wg wu wd x)
def nextA (ix : Vec F S1x1x512 .i32) (gt : Vec F S1x1x512 .f32) (Y : FVec F S512x1024 .f32) (A : Vec F S1x32768x128 .f32) : Vec F S1x32768x128 .f32 :=
  if k0_cond5 i = 1#1 then vput ix gt Y A else if k0_cond1 i = 1#1 then vzero else A

theorem last_chunk (h : k0_cond5 i = 1#1) : ¬ k0_cond2 i = 1#1 := by
  revert h
  unfold k0_cond2 k0_cond5
  have : ∀ a : Fin 4, Scalar.cmpi .ne (Scalar.extui (Scalar.cmpi .eq (BitVec.ofNat 32 a.val) 3#32)) 0#32 = 1#1 →
      ¬ Scalar.cmpi .ne (Scalar.extui (Scalar.cmpi .eq (BitVec.ofNat 32 a.val) 0#32)) 0#32 = 1#1 := by decide
  exact this (i 2)

theorem body_point (fi : Buf (Elt F) (arg3.view.loc (c : Thread nD τ))) (fg : Buf (Elt F) (arg4.view.loc (c : Thread nD τ))) (fh : Buf (Elt F) (arg5.view.loc (c : Thread nD τ)))
    (hidx : ∀ y, (arg3.view.read (Elt F) fi y).toNat < 4096)
    (hd : ∀ j j', j < 512 → j' < 512 → (arg3.view.read (Elt F) fi (wordAt j)).toNat = (arg3.view.read (Elt F) fi (wordAt j')).toNat → j = j')
    (f6 : Buf (Elt F) (arg6.view.loc (c : Thread nD τ))) (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (X : FVec F S512x1024 .bf16) (hX : ¬ k0_cond2 i = 1#1 → arg10.view.read (Elt F) f10 = X)
    (Y : FVec F S512x1024 .f32) (hY : ¬ k0_cond2 i = 1#1 → ∀ (j : ℕ) (q : Fin 8) (p : Fin 128), j < 512 → arg12.view.read (Elt F) f12 (rowAt (520 * q.val + j) p) = Y (cellAt j q p)) :
    iprop(pts c arg3 fi ∗ pts c arg4 fg ∗ pts c arg5 fh ∗ pts c arg6 f6 ∗ pts c arg7 f7 ∗ pts c arg8 f8 ∗ pts c arg9 f9 ∗ pts c arg10 f10 ∗ pts c arg11 f11 ∗ pts c arg12 f12)
      ⊢ wp frame (wpE (defs₀ (F := F)) Variants.none (c : Thread nD τ) none) Set.univ
      (cc0_moe (F := F) i arg3 harg3 arg4 harg4 arg5 harg5 arg6 harg6 arg7 harg7 arg8 harg8 arg9 harg9 arg10 harg10 arg11 harg11 arg12 harg12)
      (fun _ => iprop(pts c arg3 fi ∗ pts c arg4 fg ∗ pts c arg5 fh ∗ pts c arg6 f6 ∗ pts c arg7 f7 ∗ pts c arg8 f8
        ∗ (∃ g9, pts c arg9 g9 ∗ ⌜arg9.view.read (Elt F) g9 = nextA i (arg3.view.read (Elt F) fi) (arg4.view.read (Elt F) fg)
            (nextY i (nextX i (arg3.view.read (Elt F) fi) (arg5.view.read (Elt F) fh) X) (arg6.view.read (Elt F) f6) (arg7.view.read (Elt F) f7) (arg8.view.read (Elt F) f8) Y) (arg9.view.read (Elt F) f9)⌝)
        ∗ (∃ g10, pts c arg10 g10 ∗ ⌜arg10.view.read (Elt F) g10 = nextX i (arg3.view.read (Elt F) fi) (arg5.view.read (Elt F) fh) X⌝)
        ∗ (∃ g11, pts c arg11 g11)
        ∗ ∃ g12, pts c arg12 g12 ∗ ⌜∀ (j : ℕ) (q : Fin 8) (p : Fin 128), j < 512 → arg12.view.read (Elt F) g12 (rowAt (520 * q.val + j) p)
            = nextY i (nextX i (arg3.view.read (Elt F) fi) (arg5.view.read (Elt F) fh) X) (arg6.view.read (Elt F) f6) (arg7.view.read (Elt F) f7) (arg8.view.read (Elt F) f8) Y (cellAt j q p)⌝)) := by
  unfold nextA nextY nextX
  by_cases h2 : k0_cond2 i = 1#1
  · have h5 : ¬ k0_cond5 i = 1#1 := fun h => last_chunk i h h2
    have h4 : ¬ laterChunk i := fun h => (later_iff i).mp h h2
    rw [if_neg h5, if_pos h2, if_pos h2]
    refine body_short c i arg3 harg3 arg4 harg4 arg5 harg5 arg6 harg6 arg7 harg7 arg8 harg8 arg9 harg9 arg10 harg10 arg11 harg11 arg12 harg12 h5 _ _ ?_
    by_cases h1 : k0_cond1 i = 1#1
    · rw [if_pos h1]
      iintro ⟨H3, H4, H5, H6, H7, H8, H9, H10, H11, H12⟩
      iapply (wp_wand_r Idealize.ShloMosaic.frame (wpE (defs₀ (F := F)) Variants.none (c : Thread nD τ) none) Set.univ)
      isplitl [H3 H5 H6 H7 H8 H9 H10 H11 H12]
      · iapply part10_zero c i arg3 harg3 arg4 harg4 arg5 harg5 arg6 harg6 arg7 harg7 arg8 harg8 arg9 harg9 arg10 harg10 arg11 harg11 arg12 harg12 h1 h2 h4 fi fh hidx f9 f11 f6 f7 f8 f10 f12
        isplitl [H9]; · iexact H9
        isplitl [H3]; · iexact H3
        isplitl [H5]; · iexact H5
        isplitl [H11]; · iexact H11
        isplitl [H6]; · iexact H6
        isplitl [H7]; · iexact H7
        isplitl [H8]; · iexact H8
        isplitl [H10]; · iexact H10
        iexact H12
      iintro %_ ⟨⟨%g9, H9, %h9⟩, H3, H5, H11, H6, H7, H8, ⟨%g10, H10, %h10⟩, %g12, H12, %h12⟩
      isplitl [H3]; · iexact H3
      isplitl [H4]; · iexact H4
      isplitl [H5]; · iexact H5
      isplitl [H6]; · iexact H6
      isplitl [H7]; · iexact H7
      isplitl [H8]; · iexact H8
      isplitl [H9]
      · iexists g9
        isplitl [H9]; · iexact H9
        ipureintro
        exact funext h9
      isplitl [H10]
      · iexists g10
        isplitl [H10]; · iexact H10
        ipureintro
        exact h10
      isplitl [H11]; · iexact H11
      iexists g12
      isplitl [H12]; · iexact H12
      ipureintro
      exact h12
    · rw [if_neg h1]
      iintro ⟨H3, H4, H5, H6, H7, H8, H9, H10, H11, H12⟩
      iapply (wp_wand_r Idealize.ShloMosaic.frame (wpE (defs₀ (F := F)) Variants.none (c : Thread nD τ) none) Set.univ)
      isplitl [H3 H5 H6 H7 H8 H10 H11 H12]
      · iapply part10_first c i arg3 harg3 arg4 harg4 arg5 harg5 arg6 harg6 arg7 harg7 arg8 harg8 arg9 harg9 arg10 harg10 arg11 harg11 arg12 harg12 h1 h2 h4 fi fh hidx f11 f6 f7 f8 f10 f12
        isplitl [H3]; · iexact H3
        isplitl [H5]; · iexact H5
        isplitl [H11]; · iexact H11
        isplitl [H6]; · iexact H6
        isplitl [H7]; · iexact H7
        isplitl [H8]; · iexact H8
        isplitl [H10]; · iexact H10
        iexact H12
      iintro %_ ⟨H3, H5, H11, H6, H7, H8, ⟨%g10, H10, %h10⟩, %g12, H12, %h12⟩
      isplitl [H3]; · iexact H3
      isplitl [H4]; · iexact H4
      isplitl [H5]; · iexact H5
      isplitl [H6]; · iexact H6
      isplitl [H7]; · iexact H7
      isplitl [H8]; · iexact H8
      isplitl [H9]
      · iexists f9
        isplitl [H9]; · iexact H9
        ipureintro
        rfl
      isplitl [H10]
      · iexists g10
        isplitl [H10]; · iexact H10
        ipureintro
        exact h10
      isplitl [H11]; · iexact H11
      iexists g12
      isplitl [H12]; · iexact H12
      ipureintro
      exact h12
  · have h1 : ¬ k0_cond1 i = 1#1 := fun h => h2 (first_chunk i h)
    have h4 : laterChunk i := (later_iff i).mpr h2
    rw [if_neg h1, if_neg h2, if_neg h2]
    have hp : iprop(pts c arg3 fi ∗ pts c arg4 fg ∗ pts c arg5 fh ∗ pts c arg6 f6 ∗ pts c arg7 f7 ∗ pts c arg8 f8 ∗ pts c arg9 f9 ∗ pts c arg10 f10 ∗ pts c arg11 f11 ∗ pts c arg12 f12)
        ⊢ wp frame (wpE (defs₀ (F := F)) Variants.none (c : Thread nD τ) none) Set.univ
        (k0_part10 (F := F) i arg3 harg3 arg4 harg4 arg5 harg5 arg6 harg6 arg7 harg7 arg8 harg8 arg9 harg9 arg10 harg10 arg11 harg11 arg12 harg12)
        (fun _ => iprop(pts c arg3 fi ∗ pts c arg4 fg ∗ pts c arg5 fh ∗ pts c arg6 f6 ∗ pts c arg7 f7 ∗ pts c arg8 f8 ∗ pts c arg9 f9 ∗ pts c arg10 f10 ∗ pts c arg11 f11
          ∗ ∃ g, pts c arg12 g ∗ ⌜∀ (j : ℕ) (q : Fin 8) (p : Fin 128), j < 512 → arg12.view.read (Elt F) g (rowAt (520 * q.val + j) p)
            = FloatOps.addf (Y (cellAt j q p)) (chunk c arg6 arg7 arg8 X f6 f7 f8 (cellAt j q p))⌝)) := by
      iintro ⟨H3, H4, H5, H6, H7, H8, H9, H10, H11, H12⟩
      iapply (wp_wand_r Idealize.ShloMosaic.frame (wpE (defs₀ (F := F)) Variants.none (c : Thread nD τ) none) Set.univ)
      isplitl [H6 H7 H8 H10 H12]
      · iapply part10_later c i arg3 harg3 arg4 harg4 arg5 harg5 arg6 harg6 arg7 harg7 arg8 harg8 arg9 harg9 arg10 harg10 arg11 harg11 arg12 harg12 h1 h2 h4 f6 f7 f8 f10 f12
        isplitl [H6]; · iexact H6
        isplitl [H7]; · iexact H7
        isplitl [H8]; · iexact H8
        isplitl [H10]; · iexact H10
        iexact H12
      iintro %_ ⟨H6, H7, H8, H10, %g12, H12, %h12⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists g12
      isplitl [H12]; · iexact H12
      ipureintro
      intro j q p hj
      rw [h12 j q p hj, hY h2 j q p hj, hX h2]
    by_cases h5 : k0_cond5 i = 1#1
    · rw [if_pos h5]
      refine body_long c i arg3 harg3 arg4 harg4 arg5 harg5 arg6 harg6 arg7 harg7 arg8 harg8 arg9 harg9 arg10 harg10 arg11 harg11 arg12 harg12 h5 _ _ _ hp ?_
      iintro ⟨H3, H4, H5, H6, H7, H8, H9, H10, H11, %g12, H12, %h12⟩
      iapply (wp_wand_r Idealize.ShloMosaic.frame (wpE (defs₀ (F := F)) Variants.none (c : Thread nD τ) none) Set.univ)
      isplitl [H3 H4 H12 H9]
      · iapply scatter_loop c i arg3 harg3 arg4 harg4 arg5 harg5 arg6 harg6 arg7 harg7 arg8 harg8 arg9 harg9 arg10 harg10 arg11 harg11 arg12 harg12 h5 fi fg g12 f9 hidx hd
        isplitl [H3]; · iexact H3
        isplitl [H4]; · iexact H4
        isplitl [H12]; · iexact H12
        iexact H9
      unfold scatterInv
      iintro %_ ⟨H3, H4, H12, %g9, H9, %h9⟩
      isplitl [H3]; · iexact H3
      isplitl [H4]; · iexact H4
      isplitl [H5]; · iexact H5
      isplitl [H6]; · iexact H6
      isplitl [H7]; · iexact H7
      isplitl [H8]; · iexact H8
      isplitl [H9]
      · iexists g9
        isplitl [H9]; · iexact H9
        ipureintro
        funext y
        have hs : (y 1).val / 8 < 4096 := by
          have : (y 1).val < 32768 := (y 1).isLt
          omega
        have e := h9 ⟨(y 1).val % 8, Nat.mod_lt _ (by decide)⟩ (y 2) ((y 1).val / 8) hs
        rw [slab_split] at e
        rw [e]
        exact folded_congr _ _ _ _ _ _ 512 fun j hj => h12 j _ _ hj
      isplitl [H10]
      · iexists f10
        isplitl [H10]; · iexact H10
        ipureintro
        exact hX h2
      isplitl [H11]; · iexists f11; iexact H11
      iexists g12
      isplitl [H12]; · iexact H12
      ipureintro
      exact h12
    · rw [if_neg h5]
      refine body_short c i arg3 harg3 arg4 harg4 arg5 harg5 arg6 harg6 arg7 harg7 arg8 harg8 arg9 harg9 arg10 harg10 arg11 harg11 arg12 harg12 h5 _ _ (BIBase.Entails.trans hp ?_)
      iintro H
      iapply (wp_wand_r Idealize.ShloMosaic.frame (wpE (defs₀ (F := F)) Variants.none (c : Thread nD τ) none) Set.univ)
      isplitl [H]; · iexact H
      iintro %_ ⟨H3, H4, H5, H6, H7, H8, H9, H10, H11, %g12, H12, %h12⟩
      isplitl [H3]; · iexact H3
      isplitl [H4]; · iexact H4
      isplitl [H5]; · iexact H5
      isplitl [H6]; · iexact H6
      isplitl [H7]; · iexact H7
      isplitl [H8]; · iexact H8
      isplitl [H9]
      · iexists f9
        isplitl [H9]; · iexact H9
        ipureintro
        rfl
      isplitl [H10]
      · iexists f10
        isplitl [H10]; · iexact H10
        ipureintro
        exact hX h2
      isplitl [H11]; · iexists f11; iexact H11
      iexists g12
      isplitl [H12]; · iexact H12
      ipureintro
      exact h12

end Cert.Proof.Experts

end
-- ==== Proof.MoeRun.lean ====
/- The experts kernel over its whole grid: what each point leaves behind, the run, and the frame. -/
module

public import Idealize.ShloMosaic.Lib.WritesUnit
public import proofs.«01_k».proof.Defs
public import proofs.«01_k».proof.Proof.Gen.MoeIdeal.Launch
public import proofs.«01_k».proof.Proof.Gen.MoeIdeal.Skeleton
public import proofs.«01_k».proof.Proof.Gen.MoeIdeal.Loops
public import proofs.«01_k».proof.Proof.Gen.MoeIdeal.Points
public import proofs.«01_k».proof.Proof.Gen.MoeIdeal.Frame
public import Idealize.ShloMosaic.Lib.Tactic
public import Idealize.ShloMosaic.Lib.Pipeline.TableIdle
public import Idealize.ShloMosaic.Lib.Pipeline.FrameBody
public import Idealize.ShloMosaic.Lib.Pipeline.FrameSuffix
public import proofs.«01_k».proof.Proof.MoeBody

@[expose] public section

noncomputable section

namespace Cert.Proof.Experts

open Cert.MoeIdeal Cert.MoeIdeal.Gen
open Idealize.ShloMosaic
open Idealize.ShloMosaic.Pipeline (Dat Cfg Window BodyObligation)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the kernel keeps between grid points: the gathered rows, the partial sums, the accumulator. -/
structure Kept (F : FTy → Type) where
  X : FVec F S512x1024 .bf16
  Y : FVec F S512x1024 .f32
  A : Vec F S1x32768x128 .f32

/-- One grid point's effect on what is kept. -/
def step (c : Dev nD) (t : Fin cfg0.N) (k : Kept F) : Kept F where
  X := nextX (grid0.coords t) (iblk m c 0 t) (iblk m c 2 t) k.X
  Y := nextY (grid0.coords t) (nextX (grid0.coords t) (iblk m c 0 t) (iblk m c 2 t) k.X) (iblk m c 3 t) (iblk m c 4 t) (iblk m c 5 t) k.Y
  A := nextA (grid0.coords t) (iblk m c 0 t) (iblk m c 1 t)
    (nextY (grid0.coords t) (nextX (grid0.coords t) (iblk m c 0 t) (iblk m c 2 t) k.X) (iblk m c 3 t) (iblk m c 4 t) (iblk m c 5 t) k.Y) k.A

def pt (n : ℕ) : Fin cfg0.N := ⟨n % 512, Nat.mod_lt _ (by decide)⟩

/-- What is kept after the first `n` grid points. -/
def kept (c : Dev nD) : ℕ → Kept F
  | 0 => ⟨fun _ => Scalar.ofBits .bf16 0x0000#16, fun _ => Scalar.ofBits .f32 0x00000000#32, vzero⟩
  | n + 1 => step m c (pt n) (kept c n)

theorem pt_val (t : Fin cfg0.N) : pt t.val = t := Fin.ext (Nat.mod_eq_of_lt t.isLt)

theorem cond1_iff : ∀ t : Fin cfg0.N, k0_cond1 (grid0.coords t) = 1#1 ↔ t.val % 64 = 0 :=
  (by decide +kernel : ∀ t : Fin grid0.N, k0_cond1 (grid0.coords t) = 1#1 ↔ t.val % 64 = 0)
theorem cond2_iff : ∀ t : Fin cfg0.N, k0_cond2 (grid0.coords t) = 1#1 ↔ t.val % 4 = 0 :=
  (by decide +kernel : ∀ t : Fin grid0.N, k0_cond2 (grid0.coords t) = 1#1 ↔ t.val % 4 = 0)
theorem cond5_iff : ∀ t : Fin cfg0.N, k0_cond5 (grid0.coords t) = 1#1 ↔ t.val % 4 = 3 :=
  (by decide +kernel : ∀ t : Fin grid0.N, k0_cond5 (grid0.coords t) = 1#1 ↔ t.val % 4 = 3)
theorem idle_iff : ∀ t : Fin cfg0.N, cfg0.idle 6 (cfg0.grid.coords t) = true ↔ (t.val % 64 ≠ 0 ∧ t.val % 4 ≠ 3) :=
  (by decide +kernel : ∀ t : Fin grid0.N, idle0 6 (grid0.coords t) = true ↔ (t.val % 64 ≠ 0 ∧ t.val % 4 ≠ 3))

/-- The words of every block name rows of the sequence, no row twice. -/
def Words : Prop := ∀ (c : Dev nD) (t : Fin cfg0.N), (∀ y : S1x1x512.Idx, (iblk m c 0 t y : BitVec 32).toNat < 4096)
  ∧ ∀ j j', j < 512 → j' < 512 → (iblk m c 0 t (wordAt j) : BitVec 32).toNat = (iblk m c 0 t (wordAt j') : BitVec 32).toNat → j = j'

/-- What holds of the kernel's three scratch buffers between grid points. -/
def between (c : Dev nD) (n : ℕ) : sProp 𝕄 :=
  iprop((∃ f10, pts c (Memref.whole cc0_scratch0) f10 ∗ ⌜n % 4 ≠ 0 → (Memref.whole cc0_scratch0).view.read (Elt F) f10 = (kept m c n).X⌝)
    ∗ (∃ f11, pts c (Memref.whole cc0_scratch1) f11)
    ∗ (∃ f12, pts c (Memref.whole cc0_scratch2) f12 ∗ ⌜n % 4 ≠ 0 → ∀ (j : ℕ) (q : Fin 8) (p : Fin 128), j < 512 →
        (Memref.whole cc0_scratch2).view.read (Elt F) f12 (rowAt (520 * q.val + j) p) = (kept m c n).Y (cellAt j q p)⌝)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (kept m c (t.val + 1)).A
  Φ t := between m c t.val
  q _ := fullShare
  owed _ := 0

theorem A_eq (c : Dev nD) (w : Fin cfg0.W) : (dats m 0 c).A w = V m c (Pipeline.arrRef spec0 w) := by
  dsimp only [dats]
theorem after6 (c : Dev nD) (t : Fin cfg0.N) : (dats m 0 c).after 6 t = (kept m c (t.val + 1)).A := by dsimp only [dats]

theorem fresh_iff (n : ℕ) (h : n ≤ cfg0.N) : cfg0.fresh 6 n = decide (n % 64 = 0) := by
  refine cfg0.fresh_tab 6 (fun n => decide (n % 64 = 0)) rfl (fun t => ?_) n h
  have e1 := flush0_6 t
  have e2 := idle_iff t
  cases hf : (cfg0.win 6).flush t <;> cases hi : cfg0.idle 6 (cfg0.grid.coords t) <;> rw [hf] at e1 <;> rw [hi] at e2 <;>
    simp only [Bool.false_or, Bool.true_or, Bool.false_and, Bool.true_and, Bool.false_eq_true, false_iff, true_iff, decide_eq_true_eq, decide_eq_false_iff_not, decide_eq_decide] at * <;> omega

theorem kept_step (c : Dev nD) (t : Fin cfg0.N) : kept m c (t.val + 1) = step m c t (kept m c t.val) := by
  show step m c (pt t.val) _ = _
  rw [pt_val]

/-- At an idle point the accumulator stays. -/
theorem kept_idle (c : Dev nD) (t : Fin cfg0.N) (h : cfg0.idle 6 (cfg0.grid.coords t) = true) : (kept m c (t.val + 1)).A = (kept m c t.val).A := by
  have e := (idle_iff t).mp h
  rw [kept_step]
  show nextA _ _ _ _ _ = _
  unfold nextA
  rw [if_neg (fun h => e.2 ((cond5_iff t).mp h)), if_neg (fun h => e.1 ((cond1_iff t).mp h))]

theorem before6 (c : Dev nD) (t : Fin cfg0.N) (d) : (dats m 0 c).before 6 t d = if t.val % 64 = 0 then d else (kept m c t.val).A := by
  rw [(dats m 0 c).before_out_traj 6 rfl (fun _ _ => rfl) (fun t ht hi _ => ?_) t.val t rfl d, fresh_iff _ (Nat.le_of_lt t.isLt)]
  · by_cases h : t.val % 64 = 0
    · simp only [h, decide_true, if_true]
    · simp only [h, decide_false, if_false, Bool.false_eq_true]
      rw [after6]
      congr 2
      show t.val - 1 + 1 = t.val
      omega
  · rw [after6, after6, kept_idle m c t hi]
    congr 2
    show t.val = t.val - 1 + 1
    omega

/-- What the obligation asks of the result's buffer after point `t`. -/
def outPost (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

theorem outPost_of (c : Dev nD) (t : Fin cfg0.N) : owns (c : Thread nD τ) (st0_6 t) fullShare ((kept m c (t.val + 1)).A) ⊢ outPost m c t := by
  unfold outPost
  cases hi : cfg0.idle 6 (cfg0.grid.coords t)
  · dsimp only
    rw [after6]
  · dsimp only
    cases hf : (cfg0.win 6).flush t
    · dsimp only
      have e := (idle_iff t).mp hi
      iintro H
      iexists (kept m c t.val).A
      rw [before6, if_neg e.1, kept_idle m c t hi]
      iexact H
    · dsimp only
      rw [after6]

def bodyPre (c : Dev nD) (t : Fin cfg0.N) : sProp 𝕄 :=
  iprop(between m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop(between m c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ outPost m c t)

/-- A point that starts a batch row does not read the accumulator it finds. -/
theorem nextA_start (i : grid0.Coords) (h1 : k0_cond1 i = 1#1) (ix : Vec F S1x1x512 .i32) (gt : Vec F S1x1x512 .f32) (Y : FVec F S512x1024 .f32) (A A' : Vec F S1x32768x128 .f32) :
    nextA i ix gt Y A = nextA i ix gt Y A' := by
  unfold nextA
  rw [if_neg (fun h => last_chunk i h (first_chunk i h1)), if_neg (fun h => last_chunk i h (first_chunk i h1)), if_pos h1, if_pos h1]

set_option maxHeartbeats 4000000 in
theorem sound_body (hw : Words m) (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl]
  simp only [before0_0_of m (dats m 0 c) rfl (fun _ => rfl), before0_1_of m (dats m 0 c) rfl (fun _ => rfl), before0_2_of m (dats m 0 c) rfl (fun _ => rfl),
    before0_3_of m (dats m 0 c) rfl (fun _ => rfl), before0_4_of m (dats m 0 c) rfl (fun _ => rfl), before0_5_of m (dats m 0 c) rfl (fun _ => rfl), before6]
  unfold between owns
  iintro ⟨⟨⟨%f10, H10, %h10⟩, ⟨%f11, H11⟩, ⟨%f12, H12, %h12⟩, Hr⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  have hw0 := (hw c t).1
  have hw1 := (hw c t).2
  have k2 := cond2_iff t
  iapply (wp_wand_r Idealize.ShloMosaic.frame (wpE (defs₀ (F := F)) Variants.none (c : Thread nD τ) none) Set.univ)
  isplitl [H0 H1 H2 H3 H4 H5 H6 H10 H11 H12]
  · iapply body_point c (grid0.coords t) _ _ _ _ _ _ _ _ _ _ _ _ _ _ _ _ _ _ _ _ f0 f1 f2 (by rw [e0]; exact hw0) (by rw [e0]; exact hw1) f3 f4 f5 f6 f10 f11 f12
      (kept m c t.val).X (fun h => h10 fun h' => h (k2.mpr h')) (kept m c t.val).Y (fun h => h12 fun h' => h (k2.mpr h'))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    iexact H12
  rw [e0, e1, e2, e3, e4, e5]
  iintro %_ ⟨H0, H1, H2, H3, H4, H5, ⟨%g6, H6, %h6⟩, ⟨%g10, H10, %hg10⟩, H11, %g12, H12, %hg12⟩
  isplitl [H10 H11 H12 Hr]
  · isplitl [H10]
    · iexists g10
      isplitl [H10]; · iexact H10
      ipureintro
      intro _
      rw [kept_step]
      exact hg10
    isplitl [H11]; · iexact H11
    isplitl [H12]
    · iexists g12
      isplitl [H12]; · iexact H12
      ipureintro
      intro _
      rw [kept_step]
      exact hg12
    iexact Hr
  isplitl [HW]
  · iexists W
    isplitr
    · ipureintro; exact fun _ _ => Or.inl trivial
    iexact HW
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iapply outPost_of m c t
  unfold owns
  iexists g6
  isplitr
  · ipureintro
    rw [h6, e6, kept_step]
    by_cases h : t.val % 64 = 0
    · exact nextA_start _ ((cond1_iff t).mpr h) _ _ _ _ _
    · rw [if_neg h]
      rfl
  iexact H6

theorem defs₀_row (t : Fin cfg0.N) :
    defs₀ (F := F) .tc cfg0.body (cfg0.bodyArgs t (cfg0.slots t)) = bodyAt0 t := by
  unfold defs₀; rw [Defs.onTc_tc]

theorem body_obligation (hw : Words m) (c : Dev nD) : BodyObligation (dats (F := F) m 0 c) (defs₀ (F := F)) Variants.none () Set.univ := fun t => by
  rw [bigSep_W0, bigSep_W0, defs₀_row]
  exact triple_restated (sound_body m hw c t) rfl .rfl fun _ => .rfl

theorem pts_whole (c : Dev nD) (b : Ref sig .tc) (f : Buf (Elt F) ((c : Thread nD τ).loc b)) :
    (pts c (Memref.whole b) f : sProp 𝕄) = iprop(((c : Thread nD τ).loc b) ↦{fullShare} f) := by
  unfold pts
  simp only [Memref.view_whole, View.set_whole]

theorem pts_to (c : Dev nD) (b : Ref sig .tc) (f : Buf (Elt F) ((c : Thread nD τ).loc b)) :
    (pts c (Memref.whole b) f : sProp 𝕄) ⊢ iprop(((c : Thread nD τ).loc b) ↦{fullShare} f) := by
  rw [pts_whole]

theorem enter (c : Dev nD) : (Pipeline.ΦA spec0 c : sProp 𝕄) ⊢ between m c 0 := by
  unfold Pipeline.ΦA between
  rw [scopedRest0_eq]
  iintro ⟨⟨⟨%f0, H0⟩, ⟨%f1, H1⟩, ⟨%f2, H2⟩⟩, Hr⟩
  isplitl [H0]
  · iexists f0
    isplitl [H0]
    · rw [pts_whole]; iexact H0
    ipureintro; intro h; exact absurd rfl h
  isplitl [H1]
  · iexists f1
    rw [pts_whole]; iexact H1
  isplitl [H2]
  · iexists f2
    isplitl [H2]
    · rw [pts_whole]; iexact H2
    ipureintro; intro h; exact absurd rfl h
  iexact Hr

theorem leave (c : Dev nD) (n : ℕ) : between m c n ⊢ (Pipeline.ΦA spec0 c : sProp 𝕄) := by
  unfold Pipeline.ΦA between
  rw [scopedRest0_eq]
  iintro ⟨⟨%f0, H0, -⟩, ⟨%f1, H1⟩, ⟨%f2, H2, -⟩, Hr⟩
  ihave K0 := (pts_to c cc0_scratch0 f0) $$ H0
  ihave K1 := (pts_to c cc0_scratch1 f1) $$ H1
  ihave K2 := (pts_to c cc0_scratch2 f2) $$ H2
  isplitl [K0 K1 K2]
  · isplitl [K0]; · iexists f0; iexact K0
    isplitl [K1]; · iexists f1; iexact K1
    iexists f2; iexact K2
  iexact Hr

set_option backward.isDefEq.respectTransparency.types false in
theorem run_main (hw : Words m) : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m hw c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => enter m c) (hout := fun c => leave m c _)

end Cert.Proof.Experts

end
-- ==== Proof.MoeBlocks.lean ====
/- The experts kernel's blocks, as entries of the argument arrays, and what the precondition says of the words. -/
module

public import proofs.«01_k».proof.Proof.MoeRun
public import Idealize.ShloMosaic.Lib.Pipeline.ValueKit
public import Idealize.ShloMosaic.Lib.ReduceAll
public import Idealize.ShloMosaic.Lib.WordCmp

@[expose] public section

set_option maxRecDepth 16384

noncomputable section

namespace Cert.Proof.Experts

open Cert.MoeIdeal Cert.MoeIdeal.Gen
open Idealize.ShloMosaic Idealize.ShloMosaic.TcCoe Idealize.SL.Sem
open Idealize.ShloMosaic.Pipeline (Dat)

variable {F : FTy → Type} [FloatOps F] (m : (ℓ : Loc nD τ sig) → Buf (Elt F) ℓ)

theorem idx0 : ∀ t : Fin cfg0.N, win0_0.index t = ![t.val / 4, 0, 0] ∧ win0_1.index t = ![t.val / 4, 0, 0] ∧ win0_2.index t = ![t.val / 64, 0, 0]
    ∧ win0_6.index t = ![t.val / 64, 0, 0] :=
  (by decide +kernel : ∀ t : Fin grid0.N, _)
theorem idx1 : ∀ t : Fin cfg0.N, win0_3.index t = ![t.val / 4 % 16, 0, t.val % 4] ∧ win0_4.index t = ![t.val / 4 % 16, 0, t.val % 4]
    ∧ win0_5.index t = ![t.val / 4 % 16, t.val % 4, 0] :=
  (by decide +kernel : ∀ t : Fin grid0.N, _)

/- What the host leaves in the kernel's operands. -/
theorem V_words (c : Dev nD) : V m c main_v4 = shapeCast S128x1x512 (m ((c : Thread nD τ).loc main_arg1)) shapeCasts_S8x16x512_S128x1x512 := by
  show StableHlo.after (List.flatten [hostOps0]) _ (Proc.devRef .tc main_v4) = _
  simp only [hostOps0, List.flatten_cons, List.flatten_nil, List.append_nil, List.cons_append, List.nil_append, StableHlo.after_cons, StableHlo.after_nil]
  after_results_simp
  rfl

theorem V_gates (c : Dev nD) : V m c main_v5 = shapeCast S128x1x512 (m ((c : Thread nD τ).loc main_arg2)) shapeCasts_S8x16x512_S128x1x512 := by
  show StableHlo.after (List.flatten [hostOps0]) _ (Proc.devRef .tc main_v5) = _
  simp only [hostOps0, List.flatten_cons, List.flatten_nil, List.append_nil, List.cons_append, List.nil_append, StableHlo.after_cons, StableHlo.after_nil]
  after_results_simp
  rfl

theorem V_hidden (c : Dev nD) : V m c main_v0 = shapeCast S8x32768x128 (m ((c : Thread nD τ).loc main_arg0)) shapeCasts_S8x4096x1024_S8x32768x128 := by
  show StableHlo.after (List.flatten [hostOps0]) _ (Proc.devRef .tc main_v0) = _
  simp only [hostOps0, List.flatten_cons, List.flatten_nil, List.append_nil, List.cons_append, List.nil_append, StableHlo.after_cons, StableHlo.after_nil]
  after_results_simp
  rfl

theorem V_gatew (c : Dev nD) : V m c main_v1 = (truncf .bf16 · bitsLt_bf16_f32) (m ((c : Thread nD τ).loc main_arg3)) := by
  show StableHlo.after (List.flatten [hostOps0]) _ (Proc.devRef .tc main_v1) = _
  simp only [hostOps0, List.flatten_cons, List.flatten_nil, List.append_nil, List.cons_append, List.nil_append, StableHlo.after_cons, StableHlo.after_nil]
  after_results_simp

theorem V_upw (c : Dev nD) : V m c main_v2 = (truncf .bf16 · bitsLt_bf16_f32) (m ((c : Thread nD τ).loc main_arg4)) := by
  show StableHlo.after (List.flatten [hostOps0]) _ (Proc.devRef .tc main_v2) = _
  simp only [hostOps0, List.flatten_cons, List.flatten_nil, List.append_nil, List.cons_append, List.nil_append, StableHlo.after_cons, StableHlo.after_nil]
  after_results_simp

theorem V_downw (c : Dev nD) : V m c main_v3 = (truncf .bf16 · bitsLt_bf16_f32) (m ((c : Thread nD τ).loc main_arg5)) := by
  show StableHlo.after (List.flatten [hostOps0]) _ (Proc.devRef .tc main_v3) = _
  simp only [hostOps0, List.flatten_cons, List.flatten_nil, List.append_nil, List.cons_append, List.nil_append, StableHlo.after_cons, StableHlo.after_nil]
  after_results_simp

theorem t_lt (t : Fin cfg0.N) : t.val < 512 := t.isLt

/-- Four chunks of the hidden width for each of sixteen experts for each of eight batches: an index of the stored block is the batch's and the expert's. -/
theorem pair_at {α : Type} (x : S8x16x512.Idx → α) (t : Fin cfg0.N) (b : Fin 8) (e : Fin 16) (hb : b.val = t.val / 64) (he : e.val = t.val / 4 % 16) (j : Fin 512)
    (E : S128x1x512.Idx) (h0 : (E 0).val = t.val / 4) (h2 : (E 2).val = j.val) :
    shapeCast S128x1x512 x shapeCasts_S8x16x512_S128x1x512 E = x (ix3 b e j) := by
  refine shapeCast_apply _ _ _ _ ?_
  have l := Shape.rowMajor_val_three (ix3 b e j : S8x16x512.Idx)
  have r := Shape.rowMajor_val_three E
  have h1 : (E 1).val < 1 := (E 1).isLt
  have l' : (S8x16x512.rowMajor (ix3 b e j)).val = (b.val * 16 + e.val) * 512 + j.val := l
  have r' : (S128x1x512.rowMajor E).val = ((E 0).val * 1 + (E 1).val) * 512 + (E 2).val := r
  omega

theorem word_at (c : Dev nD) (t : Fin cfg0.N) (b : Fin 8) (e : Fin 16) (hb : b.val = t.val / 64) (he : e.val = t.val / 4 % 16) (j : Fin 512) :
    iblk m c 0 t (ix3 0 0 j) = m ((c : Thread nD τ).loc main_arg1) (ix3 b e j) := by
  blk_simp [iblk, idx0 t]
  rw [V_words]
  have hE : (win0_0.blk t).view.emb (ix3 0 0 j) = ix3 ⟨t.val / 4, by have := t_lt t; omega⟩ 0 j := by
    blk_ext [idx0 t]
  exact pair_at _ t b e hb he j _ (by rw [hE]; rfl) (by rw [hE]; rfl)

theorem gate_at (c : Dev nD) (t : Fin cfg0.N) (b : Fin 8) (e : Fin 16) (hb : b.val = t.val / 64) (he : e.val = t.val / 4 % 16) (j : Fin 512) :
    iblk m c 1 t (ix3 0 0 j) = m ((c : Thread nD τ).loc main_arg2) (ix3 b e j) := by
  blk_simp [iblk, idx0 t]
  rw [V_gates]
  have hE : (win0_1.blk t).view.emb (ix3 0 0 j) = ix3 ⟨t.val / 4, by have := t_lt t; omega⟩ 0 j := by
    blk_ext [idx0 t]
  exact pair_at _ t b e hb he j _ (by rw [hE]; rfl) (by rw [hE]; rfl)

theorem slab_at {α : Type} (x : S8x4096x1024.Idx → α) (b : Fin 8) (n : Fin 4096) (k : Fin 1024) (r : Fin 32768) (p : Fin 128)
    (hr : r.val = n.val * 8 + k.val / 128) (hp : p.val = k.val % 128) :
    shapeCast S8x32768x128 x shapeCasts_S8x4096x1024_S8x32768x128 (ix3 b r p) = x (ix3 b n k) := by
  refine shapeCast_apply _ _ _ _ ?_
  have l : (S8x4096x1024.rowMajor (ix3 b n k)).val = (b.val * 4096 + n.val) * 1024 + k.val := Shape.rowMajor_val_three (ix3 b n k : S8x4096x1024.Idx)
  have r' : (S8x32768x128.rowMajor (ix3 b r p)).val = (b.val * 32768 + r.val) * 128 + p.val := Shape.rowMajor_val_three (ix3 b r p : S8x32768x128.Idx)
  omega

theorem hidden_at (c : Dev nD) (t : Fin cfg0.N) (b : Fin 8) (hb : b.val = t.val / 64) (n : Fin 4096) (k : Fin 1024) (r : Fin 32768) (p : Fin 128)
    (hr : r.val = n.val * 8 + k.val / 128) (hp : p.val = k.val % 128) :
    iblk m c 2 t (ix3 0 r p) = m ((c : Thread nD τ).loc main_arg0) (ix3 b n k) := by
  blk_simp [iblk, idx0 t]
  rw [V_hidden]
  have hE : (win0_2.blk t).view.emb (ix3 0 r p) = ix3 b r p := by
    blk_ext [idx0 t]
  rw [hE]
  exact slab_at _ b n k r p hr hp

theorem gatew_at (c : Dev nD) (t : Fin cfg0.N) (e : Fin 16) (he : e.val = t.val / 4 % 16) (k : Fin 1024) (q : Fin 512) (l : Fin 2048) (hl : l.val = 512 * (t.val % 4) + q.val) :
    iblk m c 3 t (ix3 0 k q) = FloatOps.truncf .bf16 bitsLt_bf16_f32 (m ((c : Thread nD τ).loc main_arg3) (ix3 e k l)) := by
  blk_simp [iblk, idx1 t]
  rw [V_gatew]
  have hE : (win0_3.blk t).view.emb (ix3 0 k q) = ix3 e k l := by
    blk_ext [idx1 t]
  rw [hE]; rfl

theorem upw_at (c : Dev nD) (t : Fin cfg0.N) (e : Fin 16) (he : e.val = t.val / 4 % 16) (k : Fin 1024) (q : Fin 512) (l : Fin 2048) (hl : l.val = 512 * (t.val % 4) + q.val) :
    iblk m c 4 t (ix3 0 k q) = FloatOps.truncf .bf16 bitsLt_bf16_f32 (m ((c : Thread nD τ).loc main_arg4) (ix3 e k l)) := by
  blk_simp [iblk, idx1 t]
  rw [V_upw]
  have hE : (win0_4.blk t).view.emb (ix3 0 k q) = ix3 e k l := by
    blk_ext [idx1 t]
  rw [hE]; rfl

theorem downw_at (c : Dev nD) (t : Fin cfg0.N) (e : Fin 16) (he : e.val = t.val / 4 % 16) (k : Fin 1024) (q : Fin 512) (l : Fin 2048) (hl : l.val = 512 * (t.val % 4) + q.val) :
    iblk m c 5 t (ix3 0 q k) = FloatOps.truncf .bf16 bitsLt_bf16_f32 (m ((c : Thread nD τ).loc main_arg5) (ix3 e l k)) := by
  blk_simp [iblk, idx1 t]
  rw [V_downw]
  have hE : (win0_5.blk t).view.emb (ix3 0 q k) = ix3 e l k := by
    blk_ext [idx1 t]
  rw [hE]; rfl

end Cert.Proof.Experts

end
-- ==== Proof.MoeWords.lean ====
/- The experts kernel's words: the precondition says they name positions of the sequence, an expert's positions once. -/
module

public import proofs.«01_k».proof.Proof.MoeBlocks
public import proofs.«01_k».proof.Pre_tokens_of_the_sequence

@[expose] public section

set_option maxRecDepth 16384

noncomputable section

namespace Cert.Proof.Experts

open Cert.MoeIdeal Cert.MoeIdeal.Gen
open Idealize.ShloMosaic Idealize.ShloMosaic.TcCoe Idealize.SL.Sem

variable {F : FTy → Type} [FloatOps F]

theorem both {x y : BitVec 1} (h : IntOp.andi x y = 1#1) : x = 1#1 ∧ y = 1#1 := by
  revert x y; decide

/-- A word that is at least 0 and below 4096 as a signed number is below 4096. -/
theorem word_small (v : BitVec 32) (h0 : IntOp.cmpi .sge v 0#32 = 1#1) (h1 : IntOp.cmpi .slt v 4096#32 = 1#1) : v.toNat < 4096 := by
  rw [WordCmp.cmpi_sge_eq, WordCmp.ofBool_eq_one_iff, decide_eq_true_iff] at h0
  rw [WordCmp.cmpi_slt_eq, WordCmp.ofBool_eq_one_iff, decide_eq_true_iff] at h1
  have e0 : (0#32).toInt = 0 := by decide
  have e1 : (4096#32).toInt = 4096 := by decide
  rw [e0] at h0; rw [e1] at h1
  have := v.isLt
  rw [BitVec.toInt_eq_toNat_cond] at h0 h1
  split at h0 <;> simp_all <;> omega

/- The words and the places spread over pairs of places. -/
theorem spread_row [Cert.Pre_tokens_of_the_sequence.Facts] (w : IVec S8x16x512 32) (β : Fin 8) (ε : Fin 16) (j j' : Fin 512) :
    broadcastInDim Cert.Pre_tokens_of_the_sequence.S8x16x512x512 ![0, 1, 2, 3] Cert.Pre_tokens_of_the_sequence.Facts.bcast_S8x16x512x1_S8x16x512x512_0_1_2_3
      (broadcastInDim Cert.Pre_tokens_of_the_sequence.S8x16x512x1 ![0, 1, 2] Cert.Pre_tokens_of_the_sequence.Facts.bcast_S8x16x512_S8x16x512x1_0_1_2 w) (ix4 β ε j j') = w (ix3 β ε j) := by
  refine congrArg w ?_; funext a; fin_cases a <;> rfl
theorem spread_col [Cert.Pre_tokens_of_the_sequence.Facts] (w : IVec S8x16x512 32) (β : Fin 8) (ε : Fin 16) (j j' : Fin 512) :
    broadcastInDim Cert.Pre_tokens_of_the_sequence.S8x16x512x512 ![0, 1, 2, 3] Cert.Pre_tokens_of_the_sequence.Facts.bcast_S8x16x1x512_S8x16x512x512_0_1_2_3
      (broadcastInDim Cert.Pre_tokens_of_the_sequence.S8x16x1x512 ![0, 1, 3] Cert.Pre_tokens_of_the_sequence.Facts.bcast_S8x16x512_S8x16x1x512_0_1_3 w) (ix4 β ε j j') = w (ix3 β ε j') := by
  refine congrArg w ?_; funext a; fin_cases a <;> rfl
abbrev differ [Cert.Pre_tokens_of_the_sequence.Facts] : IVec Cert.Pre_tokens_of_the_sequence.S512x512 1 :=
  noti (cmpi .ne (broadcastInDim Cert.Pre_tokens_of_the_sequence.S512x512 ![0, 1] Cert.Pre_tokens_of_the_sequence.Facts.bcast_S512x1_S512x512_0_1 (broadcastInDim Cert.Pre_tokens_of_the_sequence.S512x1 ![0] Cert.Pre_tokens_of_the_sequence.Facts.bcast_S512_S512x1_0 (iotaInDim Cert.Pre_tokens_of_the_sequence.S512 32 0)))
    (broadcastInDim Cert.Pre_tokens_of_the_sequence.S512x512 ![0, 1] Cert.Pre_tokens_of_the_sequence.Facts.bcast_S1x512_S512x512_0_1 (broadcastInDim Cert.Pre_tokens_of_the_sequence.S1x512 ![1] Cert.Pre_tokens_of_the_sequence.Facts.bcast_S512_S1x512_1 (iotaInDim Cert.Pre_tokens_of_the_sequence.S512 32 0))))
theorem differ_at [Cert.Pre_tokens_of_the_sequence.Facts] (β : Fin 8) (ε : Fin 16) (j j' : Fin 512) :
    broadcastInDim Cert.Pre_tokens_of_the_sequence.S8x16x512x512 ![0, 1, 2, 3] Cert.Pre_tokens_of_the_sequence.Facts.bcast_S1x1x512x512_S8x16x512x512_0_1_2_3
      (broadcastInDim Cert.Pre_tokens_of_the_sequence.S1x1x512x512 ![2, 3] Cert.Pre_tokens_of_the_sequence.Facts.bcast_S512x512_S1x1x512x512_2_3 differ) (ix4 β ε j j')
      = ~~~ (IntOp.cmpi .ne (BitVec.ofNat 32 j.val) (BitVec.ofNat 32 j'.val)) := by
  rfl

/-- What the precondition says of the words of one batch and one expert. -/
theorem decode [Cert.Pre_tokens_of_the_sequence.Facts] (h : FVec F S8x4096x1024 .f32) (w : IVec S8x16x512 32) (g : FVec F S8x16x512 .f32)
    (a b : FVec F S16x1024x2048 .f32) (d : FVec F S16x2048x1024 .f32)
    (hp : Cert.Pre_tokens_of_the_sequence.fn (F := F) h w g a b d = fun _ => 1#1) (β : Fin 8) (ε : Fin 16) :
    (∀ j : Fin 512, (w (ix3 β ε j)).toNat < 4096) ∧ ∀ j j' : Fin 512, w (ix3 β ε j) = w (ix3 β ε j') → j = j' := by
  have h0 := congrFun hp (fun a => a.elim0)
  obtain ⟨hr, hd⟩ := both h0
  constructor
  · intro j
    have := Host.reduce_andi_all _ _ _ _ _ hr (ix3 β ε j)
    obtain ⟨p, q⟩ := both this
    exact word_small _ p q
  · intro j j' e
    have := Host.reduce_andi_all _ _ _ _ _ hd (ix4 β ε j j')
    have this : IntOp.ori (IntOp.cmpi .ne (w (ix3 β ε j)) (w (ix3 β ε j'))) (~~~ (IntOp.cmpi .ne (BitVec.ofNat 32 j.val) (BitVec.ofNat 32 j'.val))) = 1#1 := by
      rw [← spread_row w β ε j j', ← spread_col w β ε j j', ← differ_at β ε j j']
      exact this
    rw [e] at this
    by_contra hne
    have hv : ¬ BitVec.ofNat 32 j.val = BitVec.ofNat 32 j'.val := by
      have := j.isLt; have := j'.isLt
      rw [WordCmp.ofNat_eq_ofNat_iff (by omega) (by omega)]
      exact fun h => hne (Fin.ext h)
    rw [WordCmp.cmpi_ne_eq, WordCmp.cmpi_ne_eq, decide_eq_false (by simp), decide_eq_true (by exact hv)] at this
    exact absurd this (by decide)

end Cert.Proof.Experts

end
-- ==== Proof.MoeFrame.lean ====
/- The experts kernel leaves its arguments unchanged and its semaphores at zero. -/
module

public import proofs.«01_k».proof.Proof.MoeWords

@[expose] public section

set_option maxRecDepth 16384

noncomputable section

namespace Cert.Proof.Experts

open Cert.MoeIdeal Cert.MoeIdeal.Gen
open Idealize.ShloMosaic Idealize.ShloMosaic.TcCoe Idealize.SL.Sem

variable {F : FTy → Type} [FloatOps F] (m : (ℓ : Loc nD τ sig) → Buf (Elt F) ℓ) (ρ : Dev nD → PrngReg)

instance preFacts : Cert.Pre_tokens_of_the_sequence.Facts where
  bcast_S512_S512x1_0 := by decide
  bcast_S512_S1x512_1 := by decide
  bcast_S512x1_S512x512_0_1 := by decide
  bcast_S1x512_S512x512_0_1 := by decide
  bcast_S_S8x16x512 := by decide
  reducesTo_S8x16x512_S_d0_1_2 := by decide
  h_S_ := by decide
  bcast_S8x16x512_S8x16x512x1_0_1_2 := by decide
  bcast_S8x16x512_S8x16x1x512_0_1_3 := by decide
  bcast_S8x16x512x1_S8x16x512x512_0_1_2_3 := by decide
  bcast_S8x16x1x512_S8x16x512x512_0_1_2_3 := by decide
  bcast_S512x512_S1x1x512x512_2_3 := by decide
  bcast_S1x1x512x512_S8x16x512x512_0_1_2_3 := by decide
  reducesTo_S8x16x512x512_S_d0_1_2_3 := by decide

/-- The precondition on a device's arguments. -/
def Holds [Cert.Pre_tokens_of_the_sequence.Facts] : Prop :=
  ∀ c : Dev nD, Cert.Pre_tokens_of_the_sequence.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = fun _ => 1#1

theorem wordAt_ix (j : Fin 512) : wordAt j.val = ix3 0 0 j := by
  funext a; fin_cases a <;> first | rfl | exact Fin.ext (Nat.mod_eq_of_lt j.isLt)

theorem words_of [Cert.Pre_tokens_of_the_sequence.Facts] (h : Holds m) : Words m := by
  intro c t
  have ht := t_lt t
  have hd := decode _ _ _ _ _ _ (h c) ⟨t.val / 64, by omega⟩ ⟨t.val / 4 % 16, by omega⟩
  have hw := word_at m c t ⟨t.val / 64, by omega⟩ ⟨t.val / 4 % 16, by omega⟩ rfl rfl
  constructor
  · intro y
    have e : y = ix3 0 0 (y 2) := by
      funext a; fin_cases a <;> first | rfl | exact Subsingleton.elim (α := Fin 1) _ _
    exact ((congrArg (fun z => BitVec.toNat (iblk m c 0 t z)) e).trans (congrArg BitVec.toNat (hw (y 2)))).trans_lt (hd.1 (y 2))
  · intro j j' hj hj' e
    have a := hw ⟨j, hj⟩
    have b := hw ⟨j', hj'⟩
    rw [← wordAt_ix ⟨j, hj⟩] at a
    rw [← wordAt_ix ⟨j', hj'⟩] at b
    have e' := BitVec.eq_of_toNat_eq e
    exact congrArg Fin.val (hd.2 ⟨j, hj⟩ ⟨j', hj'⟩ (a.symm.trans (e'.trans b)))

theorem frame_run (hw : Words m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c)⟩, h.2⟩) (run_main m ρ hw)

end Cert.Proof.Experts

end
-- ==== Proof.MoeSame.lean ====
/- The experts kernel as written and its idealized text are one program; the frame carries over. -/
module

public import proofs.«01_k».proof.Defs
public import proofs.«01_k».proof.Proof.MoeFrame
public import proofs.«01_k».proof.Proof.Gen.Moe

@[expose] public section

set_option maxRecDepth 65536
set_option maxHeartbeats 4000000

namespace Cert.Proof.Experts
open Idealize.ShloMosaic Idealize.ShloMosaic.TcCoe Idealize.SL.Sem

theorem same_main : Cert.Moe.main (F := Bits) = Cert.MoeIdeal.main (F := Bits) := rfl
theorem same_bodies : Cert.Moe.defs₀ (F := Bits) = Cert.MoeIdeal.defs₀ (F := Bits) := by
  unfold Cert.Moe.defs₀ Cert.MoeIdeal.defs₀
  congr 1
  funext l a
  match l, a with
  | ⟨0, _⟩, (t, s) => rfl
theorem same_defs : Cert.Moe.defs (F := Bits) = Cert.MoeIdeal.defs (F := Bits) :=
  congrArg (Pipeline.defs (Cert.MoeIdeal.pcfgs (F := Bits))) same_bodies

theorem frame_moe : Cert.quiescent_Moe := by
  intro m ρ h
  have r := frame_run (F := Bits) m ρ (words_of m h)
  rw [← same_defs, ← same_main] at r
  exact r

end Cert.Proof.Experts
-- ==== Proof.MoeRef.lean ====
/- The plain experts layer, entry by entry. -/
module

public import proofs.«01_k».proof.Proof.Gen.MoeRefIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.Proof.ExpertsRef

open Cert.MoeRefIdeal Cert.MoeRefIdeal.Gen

variable (h : FVec Ideal S8x4096x1024 .f32) (w : IVec S8x16x512 32) (gt : FVec Ideal S8x16x512 .f32)
  (wg wu : FVec Ideal S16x1024x2048 .f32) (wd : FVec Ideal S16x2048x1024 .f32)

/-- The position of the sequence that place `j` of expert `e` takes. -/
def tok (b : Fin 8) (e : Fin 16) (j : Fin 512) : ℕ := (w (ix3 b e j)).toNat
/-- The row it takes. -/
def row (b : Fin 8) (e : Fin 16) (j : Fin 512) (k : Fin 1024) : EReal :=
  if hs : tok w b e j < 4096 then h (ix3 b ⟨tok w b e j, hs⟩ k) else 0
/-- A projection of the rows. -/
def proj (W : FVec Ideal S16x1024x2048 .f32) (b : Fin 8) (e : Fin 16) (j : Fin 512) (l : Fin 2048) : EReal :=
  ∑ k : Fin 1024, row h w b e j k * W (ix3 e k l)
def silu (x : EReal) : EReal := x * Ideal.div 1 (1 + Ideal.exp (-x))
def hid (b : Fin 8) (e : Fin 16) (j : Fin 512) (l : Fin 2048) : EReal := silu (proj h w wg b e j l) * proj h w wu b e j l
/-- The expert's rows. -/
def down (b : Fin 8) (e : Fin 16) (j : Fin 512) (d : Fin 1024) : EReal := ∑ l : Fin 2048, hid h w wg wu b e j l * wd (ix3 e l d)
/-- A position's result: what every place that took it gives back. -/
def result (b : Fin 8) (s : ℕ) (d : Fin 1024) : EReal :=
  ∑ e : Fin 16, ∑ j : Fin 512, if tok w b e j = s then down h w wg wu wd b e j d * gt (ix3 b e j) else 0

def chosen : FVec Ideal S8x16x512x4096 .f32 :=
  uitofp .f32 (cmpi .eq (broadcastInDim S8x16x512x4096 ![0, 1, 2, 3] bcast_S8x16x512x1_S8x16x512x4096_0_1_2_3 (broadcastInDim S8x16x512x1 ![0, 1, 2] bcast_S8x16x512_S8x16x512x1_0_1_2 w))
    (broadcastInDim S8x16x512x4096 ![0, 1, 2, 3] bcast_S1x1x1x4096_S8x16x512x4096_0_1_2_3 (broadcastInDim S1x1x1x4096 ![3] bcast_S4096_S1x1x1x4096_3 (iotaInDim S4096 32 0))))

theorem chosen_at (b : Fin 8) (e : Fin 16) (j : Fin 512) (s : Fin 4096) : chosen w (ix4 b e j s) = if tok w b e j = s.val then 1 else 0 := by
  pointwise [chosen]
  have hs := s.isLt
  have e2 : (BitVec.ofNat 32 s.val).toNat = s.val := by rw [BitVec.toNat_ofNat]; omega
  rw [WordCmp.cmpi_eq_eq_toNat, e2, tok]
  by_cases hc : (w (ix3 b e j)).toNat = s.val
  · rw [if_pos hc, decide_eq_true hc]
    show (((1 : ℕ) : ℝ) : EReal) = 1
    simp
  · rw [if_neg hc, decide_eq_false hc]
    show (((0 : ℕ) : ℝ) : EReal) = 0
    simp

theorem rows_at (b : Fin 8) (e : Fin 16) (j : Fin 512) (k : Fin 1024) :
    (Host.dotGeneral (φ₂ := .f32) dot_S8x16x512x4096_S8x4096x1024_S8x16x512x1024_3_1_12_2_0_0 none (chosen w) h) (ix4 b e j k) = row h w b e j k := by
  pointwise []
  simp only [chosen_at, ite_mul, one_mul, zero_mul]
  rw [row]
  split
  · rename_i hs
    rw [Finset.sum_eq_single (⟨tok w b e j, hs⟩ : Fin 4096) (fun x _ hx => if_neg fun hc => hx (Fin.ext hc.symm)) (fun hx => absurd (Finset.mem_univ _) hx)]
    exact if_pos rfl
  · rename_i hs
    exact Finset.sum_eq_zero fun x _ => if_neg fun hc : tok w b e j = x.val => hs (by rw [hc]; exact x.isLt)

def projs (W : FVec Ideal S16x1024x2048 .f32) : FVec Ideal S8x16x512x2048 .f32 :=
  transpose S8x16x512x2048 [2, 0, 3, 1] (Host.dotGeneral (φ₂ := .f32) dot_S16x1024x2048_S8x16x512x1024_S16x2048x8x512_1_3_2_02_0_1 none W
    (Host.dotGeneral (φ₂ := .f32) dot_S8x16x512x4096_S8x4096x1024_S8x16x512x1024_3_1_12_2_0_0 none (chosen w) h)) transposes_S16x2048x8x512_S8x16x512x2048_2_0_3_1

theorem projs_at (W : FVec Ideal S16x1024x2048 .f32) (b : Fin 8) (e : Fin 16) (j : Fin 512) (l : Fin 2048) : projs h w W (ix4 b e j l) = proj h w W b e j l := by
  have hr := rows_at h w b e j
  pointwise at hr
  pointwise [projs]
  simp only [proj, ← hr]
  exact Finset.sum_congr rfl fun x _ => mul_comm _ _

def hids : FVec Ideal S8x16x512x2048 .f32 :=
  mulf (mulf (projs h w wg) (Host.divf (broadcastInDim S8x16x512x2048 ![] bcast_S_S8x16x512x2048 (constant S_ .f32 0x3F800000#32))
    (addf (broadcastInDim S8x16x512x2048 ![] bcast_S_S8x16x512x2048 (constant S_ .f32 0x3F800000#32)) (Host.exp (Host.negf (projs h w wg)))))) (projs h w wu)

theorem hids_at (b : Fin 8) (e : Fin 16) (j : Fin 512) (l : Fin 2048) : hids h w wg wu (ix4 b e j l) = hid h w wg wu b e j l := by
  pointwise [hids]
  simp only [projs_at]
  rfl

def backs : FVec Ideal S8x16x512x1024 .f32 :=
  mulf (transpose S8x16x512x1024 [2, 0, 3, 1] (Host.dotGeneral (φ₂ := .f32) dot_S16x2048x1024_S8x16x512x2048_S16x1024x8x512_1_3_2_02_0_1 none wd (hids h w wg wu)) transposes_S16x1024x8x512_S8x16x512x1024_2_0_3_1)
    (broadcastInDim S8x16x512x1024 ![0, 1, 2, 3] bcast_S8x16x512x1_S8x16x512x1024_0_1_2_3 (broadcastInDim S8x16x512x1 ![0, 1, 2] bcast_S8x16x512_S8x16x512x1_0_1_2 gt))

theorem backs_at (b : Fin 8) (e : Fin 16) (j : Fin 512) (d : Fin 1024) :
    backs h w gt wg wu wd (ix4 b e j d) = down h w wg wu wd b e j d * gt (ix3 b e j) := by
  pointwise [backs]
  simp only [hids_at, down]
  exact congrArg (· * gt (ix3 b e j)) (Finset.sum_congr rfl fun x _ => mul_comm _ _)

def whole : FVec Ideal S8x4096x1024 .f32 :=
  Host.dotGeneral (φ₂ := .f32) dot_S8x16x512x4096_S8x16x512x1024_S8x4096x1024_21_21_3_3_0_0 none (chosen w) (backs h w gt wg wu wd)

theorem whole_at (b : Fin 8) (s : Fin 4096) (d : Fin 1024) : whole h w gt wg wu wd (ix3 b s d) = result h w gt wg wu wd b s.val d := by
  pointwise [whole]
  simp only [chosen_at, backs_at, ite_mul, one_mul, zero_mul]
  exact Finset.sum_comm

end Cert.Proof.ExpertsRef

end
-- ==== Proof.MoeValue.lean ====
/- What the experts kernel keeps between grid points, entry by entry. -/
module

public import proofs.«01_k».proof.Proof.MoeFrame
public import proofs.«01_k».proof.Proof.MoeRef

@[expose] public section

set_option maxRecDepth 16384

noncomputable section

namespace Cert.Proof.Experts

open Cert.MoeIdeal Cert.MoeIdeal.Gen Cert.Proof.ExpertsRef
open Idealize.ShloMosaic Idealize.ShloMosaic.TcCoe Idealize.SL.Sem

/-- One chunk of an expert's hidden width, from the rows and the chunk's weights. -/
theorem pay_at (X : FVec Ideal S512x1024 .bf16) (wg wu : Vec Ideal S1x1024x512 .bf16) (wd : Vec Ideal S1x512x1024 .bf16) (j : Fin 512) (d : Fin 1024) :
    k0_pay42 (F := Ideal) X wg wu wd (ix2 j d)
      = ∑ q : Fin 512, silu (∑ k : Fin 1024, X (ix2 j k) * wg (ix3 0 k q)) * (∑ k : Fin 1024, X (ix2 j k) * wu (ix3 0 k q)) * wd (ix3 0 q d) := by
  pointwise [k0_pay42, silu]
  rfl

/-- The loop over the words adds every row whose word names the slab. -/
theorem folded_sum (r : ℕ → ℕ) (Y G : ℕ → EReal) (R : EReal) (s : ℕ) : ∀ n,
    folded (F := Ideal) r Y G R s n = R + ∑ j ∈ Finset.range n, if r j = s then Y j * G j else 0
  | 0 => by rw [Finset.sum_range_zero, add_zero]; rfl
  | n + 1 => by
    rw [Finset.sum_range_succ, ← add_assoc, ← folded_sum r Y G R s n, folded]
    by_cases h : s = r n
    · rw [if_pos h, if_pos h.symm]; rfl
    · rw [if_neg h, if_neg (fun e => h e.symm), add_zero]

/-- A sum over the hidden width is the sum of its four chunks' sums. -/
theorem four_chunks (f : Fin 2048 → EReal) :
    (∑ l : Fin 2048, f l) = ∑ g : Fin 4, ∑ q : Fin 512, f ⟨512 * g.val + q.val, by omega⟩ := by
  rw [← Fintype.sum_prod_type' (f := fun (g : Fin 4) (q : Fin 512) => f ⟨512 * g.val + q.val, by omega⟩)]
  refine (Fintype.sum_equiv (finProdFinEquiv (m := 4) (n := 512)) _ _ fun x => ?_).symm
  exact congrArg f (Fin.ext (by simp [finProdFinEquiv, add_comm]))

variable (m : (ℓ : Loc nD τ sig) → Buf (Elt Ideal) ℓ) (c : Dev nD)

/- A device's arguments. -/
abbrev aH : FVec Ideal S8x4096x1024 .f32 := m ((c : Thread nD τ).loc main_arg0)
abbrev aW : IVec S8x16x512 32 := m ((c : Thread nD τ).loc main_arg1)
abbrev aT : FVec Ideal S8x16x512 .f32 := m ((c : Thread nD τ).loc main_arg2)
abbrev aG : FVec Ideal S16x1024x2048 .f32 := m ((c : Thread nD τ).loc main_arg3)
abbrev aU : FVec Ideal S16x1024x2048 .f32 := m ((c : Thread nD τ).loc main_arg4)
abbrev aD : FVec Ideal S16x2048x1024 .f32 := m ((c : Thread nD τ).loc main_arg5)

theorem word_tok (t : Fin cfg0.N) (b : Fin 8) (e : Fin 16) (hb : b.val = t.val / 64) (he : e.val = t.val / 4 % 16) (j : Fin 512) :
    (iblk m c 0 t (wordAt j.val) : BitVec 32).toNat = tok (aW m c) b e j := by
  rw [tok, wordAt_ix]
  exact congrArg BitVec.toNat (word_at m c t b e hb he j)

theorem gathered_at (hw : Words m) (t : Fin cfg0.N) (b : Fin 8) (e : Fin 16) (hb : b.val = t.val / 64) (he : e.val = t.val / 4 % 16) (j : Fin 512) (k : Fin 1024) :
    vgath (F := Ideal) (iblk m c 0 t) (iblk m c 2 t) (ix2 j k) = row (aH m c) (aW m c) b e j k := by
  have hs : tok (aW m c) b e j < 4096 := by
    rw [← word_tok m c t b e hb he j]; exact (hw c t).1 _
  show iblk m c 2 t (slabAt ((iblk m c 0 t (wordAt j.val) : BitVec 32).toNat * 8 + k.val / 128) ⟨k.val % 128, _⟩) = _
  rw [word_tok m c t b e hb he j, row, dif_pos hs]
  have hk := k.isLt
  have e1 : slabAt (tok (aW m c) b e j * 8 + k.val / 128) ⟨k.val % 128, Nat.mod_lt _ (by decide)⟩
      = ix3 0 ⟨tok (aW m c) b e j * 8 + k.val / 128, by omega⟩ ⟨k.val % 128, Nat.mod_lt _ (by decide)⟩ := by
    funext a; fin_cases a <;> first | rfl | exact Fin.ext (Nat.mod_eq_of_lt (by omega))
  rw [e1]
  exact hidden_at m c t b hb ⟨_, hs⟩ k _ _ rfl rfl

theorem pt_at (n : ℕ) (h : n < 512) : (pt n).val = n := Nat.mod_eq_of_lt h

/-- The rows an expert works on stay those it gathered at its first chunk. -/
theorem keptX (n : ℕ) (hn : n < 128) : ∀ f, f < 4 → (kept m c (4 * n + f + 1)).X = vgath (F := Ideal) (iblk m c 0 (pt (4 * n))) (iblk m c 2 (pt (4 * n)))
  | 0, _ => by
    show nextX (grid0.coords (pt (4 * n))) _ _ _ = _
    rw [nextX, if_pos ((cond2_iff _).2 (by rw [pt_at _ (by omega)]; omega))]
  | f + 1, h => by
    show nextX (grid0.coords (pt (4 * n + f + 1))) _ _ _ = _
    rw [nextX, if_neg (fun e => by have := (cond2_iff _).1 e; rw [pt_at _ (by omega)] at this; omega)]
    exact keptX n hn f (by omega)

/-- The part of an expert's rows that chunk `g` of the hidden width makes. -/
def part (b : Fin 8) (e : Fin 16) (j : Fin 512) (d : Fin 1024) (g : ℕ) : EReal :=
  ∑ q : Fin 512, if h : 512 * g + q.val < 2048 then hid (aH m c) (aW m c) (aG m c) (aU m c) b e j ⟨512 * g + q.val, h⟩ * aD m c (ix3 e ⟨512 * g + q.val, h⟩ d) else 0

theorem chunk_at (hw : Words m) (b : Fin 8) (e : Fin 16) (f : ℕ) (hf : f < 4) (j : Fin 512) (d : Fin 1024) :
    k0_pay42 (F := Ideal) (kept m c (4 * (16 * b.val + e.val) + f + 1)).X (iblk m c 3 (pt (4 * (16 * b.val + e.val) + f))) (iblk m c 4 (pt (4 * (16 * b.val + e.val) + f)))
      (iblk m c 5 (pt (4 * (16 * b.val + e.val) + f))) (ix2 j d) = part m c b e j d f := by
  have hb := b.isLt
  have he := e.isLt
  have hv := pt_at (4 * (16 * b.val + e.val) + f) (by omega)
  have hv0 := pt_at (4 * (16 * b.val + e.val)) (by omega)
  rw [keptX m c _ (by omega) f hf, pay_at, part]
  refine Finset.sum_congr rfl fun q _ => ?_
  have hq := q.isLt
  have hl : 512 * f + q.val < 2048 := by omega
  rw [dif_pos hl, hid, proj, proj]
  have hd := downw_at m c (pt (4 * (16 * b.val + e.val) + f)) e (by rw [hv]; omega) d q ⟨512 * f + q.val, hl⟩ (by rw [hv]; show 512 * f + q.val = _; omega)
  have hg := fun k => gatew_at m c (pt (4 * (16 * b.val + e.val) + f)) e (by rw [hv]; omega) k q ⟨512 * f + q.val, hl⟩ (by rw [hv]; show 512 * f + q.val = _; omega)
  have hu := fun k => upw_at m c (pt (4 * (16 * b.val + e.val) + f)) e (by rw [hv]; omega) k q ⟨512 * f + q.val, hl⟩ (by rw [hv]; show 512 * f + q.val = _; omega)
  have hx := fun k => gathered_at m c hw (pt (4 * (16 * b.val + e.val))) b e (by rw [hv0]; omega) (by rw [hv0]; omega) j k
  have sg := Finset.sum_congr (s₁ := Finset.univ) rfl fun k (_ : k ∈ Finset.univ) => congrArg₂ (fun x y : EReal => x * y) (hx k) (hg k)
  have su := Finset.sum_congr (s₁ := Finset.univ) rfl fun k (_ : k ∈ Finset.univ) => congrArg₂ (fun x y : EReal => x * y) (hx k) (hu k)
  exact congrArg₂ (fun x y : EReal => x * y) (congrArg₂ (fun x y : EReal => x * y) (congrArg silu sg) su) hd

/-- An expert's rows after its chunks so far. -/
theorem keptY (hw : Words m) (b : Fin 8) (e : Fin 16) (j : Fin 512) (d : Fin 1024) : ∀ f, f < 4 →
    (kept m c (4 * (16 * b.val + e.val) + f + 1)).Y (ix2 j d) = ∑ g ∈ Finset.range (f + 1), part m c b e j d g
  | 0, h => by
    have hb := b.isLt
    have he := e.isLt
    rw [Finset.sum_range_one, ← chunk_at m c hw b e 0 h j d]
    show nextY (grid0.coords (pt (4 * (16 * b.val + e.val)))) _ _ _ _ _ _ = _
    rw [nextY, if_pos ((cond2_iff _).2 (by rw [pt_at _ (by omega)]; omega))]
    rfl
  | f + 1, h => by
    have hb := b.isLt
    have he := e.isLt
    rw [Finset.sum_range_succ, ← keptY hw b e j d f (by omega), ← chunk_at m c hw b e (f + 1) h j d]
    show nextY (grid0.coords (pt (4 * (16 * b.val + e.val) + f + 1))) _ _ _ _ _ _ = _
    rw [nextY, if_neg (fun e => by have := (cond2_iff _).1 e; rw [pt_at _ (by omega)] at this; omega)]
    rfl

theorem rows_done (hw : Words m) (b : Fin 8) (e : Fin 16) (j : Fin 512) (d : Fin 1024) :
    (kept m c (4 * (16 * b.val + e.val) + 3 + 1)).Y (ix2 j d) = down (aH m c) (aW m c) (aG m c) (aU m c) (aD m c) b e j d := by
  rw [keptY m c hw b e j d 3 (by omega), down, four_chunks, Finset.sum_range]
  refine Finset.sum_congr rfl fun g _ => ?_
  rw [part]
  exact Finset.sum_congr rfl fun q _ => dif_pos (by omega)

end Cert.Proof.Experts

end
-- ==== Proof.MoeWhole.lean ====
/- The experts kernel's result array after the whole run. -/
module

public import proofs.«01_k».proof.Proof.MoeValue

@[expose] public section

set_option maxRecDepth 16384

noncomputable section

namespace Cert.Proof.Experts

open Cert.MoeIdeal Cert.MoeIdeal.Gen Cert.Proof.ExpertsRef
open Idealize.ShloMosaic Idealize.ShloMosaic.TcCoe Idealize.SL.Sem
open Idealize.ShloMosaic.Pipeline (Dat)

variable (m : (ℓ : Loc nD τ sig) → Buf (Elt Ideal) ℓ) (c : Dev nD)

/-- What expert `e` gives a position. -/
def share (b : Fin 8) (e : ℕ) (s : ℕ) (d : Fin 1024) : EReal :=
  if h : e < 16 then ∑ j : Fin 512, if tok (aW m c) b ⟨e, h⟩ j = s then down (aH m c) (aW m c) (aG m c) (aU m c) (aD m c) b ⟨e, h⟩ j d * aT m c (ix3 b ⟨e, h⟩ j) else 0 else 0

theorem cellAt_ix (j : Fin 512) (q : Fin 8) (p : Fin 128) (d : Fin 1024) (hd : d.val = 128 * q.val + p.val) : cellAt j.val q p = ix2 j d := by
  funext a; fin_cases a
  · exact Fin.ext (Nat.mod_eq_of_lt j.isLt)
  · exact Fin.ext hd.symm

/-- Adding an expert's rows to the accumulator adds what the expert gives each position. -/
theorem put_at (hw : Words m) (b : Fin 8) (e : Fin 16) (t : Fin cfg0.N) (ht : t.val = 4 * (16 * b.val + e.val) + 3) (Y : FVec Ideal S512x1024 .f32)
    (hY : ∀ j d, Y (ix2 j d) = down (aH m c) (aW m c) (aG m c) (aU m c) (aD m c) b e j d) (A : Vec Ideal S1x32768x128 .f32) (r : Fin 32768) (p : Fin 128)
    (d : Fin 1024) (hd : d.val = 128 * (r.val % 8) + p.val) :
    vput (F := Ideal) (iblk m c 0 t) (iblk m c 1 t) Y A (ix3 0 r p) = A (ix3 0 r p) + share m c b e.val (r.val / 8) d := by
  have hb := b.isLt
  have he := e.isLt
  show folded (F := Ideal) _ _ _ (A (ix3 0 r p)) (r.val / 8) 512 = _
  rw [folded_sum, share, dif_pos he, Finset.sum_range]
  congr 1
  refine Finset.sum_congr rfl fun j _ => ?_
  dsimp only
  rw [word_tok m c t b e (by omega) (by omega) j]
  have key : Y (cellAt j.val ⟨r.val % 8, Nat.mod_lt _ (by decide)⟩ p) * iblk m c 1 t (wordAt j.val)
      = down (aH m c) (aW m c) (aG m c) (aU m c) (aD m c) b e j d * aT m c (ix3 b e j) := by
    rw [cellAt_ix j _ _ d hd, hY, wordAt_ix]
    exact congrArg (fun z : EReal => down (aH m c) (aW m c) (aG m c) (aU m c) (aD m c) b e j d * z) (gate_at m c t b e (by omega) (by omega) j)
  exact congrArg (fun z : EReal => if tok (aW m c) b e j = r.val / 8 then z else 0) key

/-- The accumulator after an expert's chunks but the last is as the expert found it, or zero for the first expert. -/
theorem keptA_mid (b : Fin 8) (e : Fin 16) : ∀ f, f < 3 →
    (kept m c (4 * (16 * b.val + e.val) + f + 1)).A = if e.val = 0 then vzero else (kept m c (4 * (16 * b.val + e.val))).A
  | 0, _ => by
    have hb := b.isLt
    have he := e.isLt
    show nextA (grid0.coords (pt (4 * (16 * b.val + e.val)))) _ _ _ _ = _
    rw [nextA, if_neg (fun e => by have := (cond5_iff _).1 e; rw [pt_at _ (by omega)] at this; omega)]
    by_cases h : e.val = 0
    · rw [if_pos h, if_pos ((cond1_iff _).2 (by rw [pt_at _ (by omega)]; omega))]
    · rw [if_neg h, if_neg (fun e => by have := (cond1_iff _).1 e; rw [pt_at _ (by omega)] at this; omega)]
  | f + 1, h => by
    have hb := b.isLt
    have he := e.isLt
    rw [← keptA_mid b e f (by omega)]
    show nextA (grid0.coords (pt (4 * (16 * b.val + e.val) + f + 1))) _ _ _ _ = _
    rw [nextA, if_neg (fun e => by have := (cond5_iff _).1 e; rw [pt_at _ (by omega)] at this; omega),
      if_neg (fun e => by have := (cond1_iff _).1 e; rw [pt_at _ (by omega)] at this; omega)]
    rfl

/-- The accumulator after the experts so far. -/
theorem keptA (hw : Words m) (b : Fin 8) (r : Fin 32768) (p : Fin 128) (d : Fin 1024) (hd : d.val = 128 * (r.val % 8) + p.val) : ∀ e, e < 16 →
    (kept m c (4 * (16 * b.val + e) + 3 + 1)).A (ix3 0 r p) = ∑ ε ∈ Finset.range (e + 1), share m c b ε (r.val / 8) d := by
  have hb := b.isLt
  have one : ∀ e (he : e < 16), (kept m c (4 * (16 * b.val + e) + 3 + 1)).A (ix3 0 r p)
      = (if e = 0 then vzero (F := Ideal) else (kept m c (4 * (16 * b.val + e))).A) (ix3 0 r p) + share m c b e (r.val / 8) d := fun e he => by
    have hv := pt_at (4 * (16 * b.val + e) + 3) (by omega)
    rw [← keptA_mid m c b ⟨e, he⟩ 2 (by omega)]
    rw [← put_at m c hw b ⟨e, he⟩ (pt (4 * (16 * b.val + e) + 3)) hv (kept m c (4 * (16 * b.val + e) + 3 + 1)).Y (rows_done m c hw b ⟨e, he⟩) _ r p d hd]
    show nextA (grid0.coords (pt (4 * (16 * b.val + e) + 3))) _ _ _ _ _ = _
    rw [nextA, if_pos ((cond5_iff _).2 (by rw [hv]; omega))]
    rfl
  intro e
  induction e with
  | zero =>
    intro he
    rw [one 0 he, if_pos rfl, Finset.sum_range_one]
    have z : vzero (F := Ideal) (ix3 0 r p) = (0 : EReal) := by
      show Ideal.ofBits .f32 0x00000000#32 = 0
      simp
    rw [z, zero_add]
  | succ e ih =>
    intro he
    rw [one (e + 1) he, if_neg (Nat.succ_ne_zero e), Finset.sum_range_succ, ← ih (by omega)]
    rfl

/-- After a batch's last grid point the accumulator is the layer's result for the batch. -/
theorem batch_done (hw : Words m) (t : Fin cfg0.N) (h63 : t.val % 64 = 63) (b : Fin 8) (hb : b.val = t.val / 64) (r : Fin 32768) (p : Fin 128) (d : Fin 1024)
    (hd : d.val = 128 * (r.val % 8) + p.val) :
    (kept m c (t.val + 1)).A (ix3 0 r p) = result (aH m c) (aW m c) (aT m c) (aG m c) (aU m c) (aD m c) b (r.val / 8) d := by
  have e : t.val = 4 * (16 * b.val + 15) + 3 := by omega
  rw [e, keptA m c hw b r p d hd 15 (by omega), result, Finset.sum_range]
  refine Finset.sum_congr rfl fun ε _ => ?_
  rw [share, dif_pos ε.isLt]

/-- The whole result, in the kernel's slabs. -/
def slabs : FVec Ideal S8x32768x128 .f32 := fun y =>
  result (aH m c) (aW m c) (aT m c) (aG m c) (aU m c) (aD m c) (y 0) ((y 1).val / 8)
    ⟨128 * ((y 1).val % 8) + (y 2).val, by have h := (y 2).isLt; change (y 2).val < 128 at h; omega⟩

theorem slabs_at (z : S8x32768x128.Idx) (b : Fin 8) (r : Fin 32768) (p : Fin 128) (h0 : (z 0).val = b.val) (h1 : (z 1).val = r.val) (h2 : (z 2).val = p.val) :
    result (aH m c) (aW m c) (aT m c) (aG m c) (aU m c) (aD m c) b (r.val / 8) ⟨128 * (r.val % 8) + p.val, by omega⟩ = slabs m c z := by
  have e : z = ix3 b r p := by
    funext a; fin_cases a
    · exact Fin.ext h0
    · exact Fin.ext h1
    · exact Fin.ext h2
  subst e; rfl

theorem final (hw : Words m) : (dats m 0 c).arrAt 6 (cfgs 0).N = slabs m c := by
  refine (dats m 0 c).arrAt_eq_of_covers 6 _ (by decide +kernel) fun t hf y => ?_
  blk_simp
  have h63 : t.val % 64 = 63 := (flush0_6 t).1 hf
  have ht := t_lt t
  rw [after6]
  obtain ⟨-, -, -, e6⟩ := idx0 t
  have e0 : ((win0_6.blk t).view.emb y 0).val = win0_6.index t 0 * 1 + 1 * (y 0).val := rfl
  have e1 : ((win0_6.blk t).view.emb y 1).val = win0_6.index t 1 * 32768 + 1 * (y 1).val := rfl
  have e2 : ((win0_6.blk t).view.emb y 2).val = win0_6.index t 2 * 128 + 1 * (y 2).val := rfl
  rw [e6] at e0 e1 e2
  change _ = t.val / 64 * 1 + 1 * (y 0).val at e0
  change _ = 0 * 32768 + 1 * (y 1).val at e1
  change _ = 0 * 128 + 1 * (y 2).val at e2
  idx_vars y
  have h2 : y2.val < 128 := y2.isLt
  rw [show y0 = 0 from Subsingleton.elim _ _] at e0 e1 e2 ⊢
  rw [batch_done m c hw t h63 ⟨t.val / 64, by omega⟩ rfl y1 y2 ⟨128 * (y1.val % 8) + y2.val, by omega⟩ rfl]
  exact slabs_at m c _ _ _ _ (by rw [e0]; show t.val / 64 * 1 + 1 * 0 = t.val / 64; omega) (by rw [e1]; omega) (by rw [e2]; omega)

/-- The layer's result from the slabs. -/
theorem slabs_whole : shapeCast S8x4096x1024 (slabs m c) shapeCasts_S8x32768x128_S8x4096x1024 = whole (aH m c) (aW m c) (aT m c) (aG m c) (aU m c) (aD m c) := by
  funext y
  idx_vars y
  rw [whole_at]
  have h2 := y2.isLt
  refine (shapeCast_apply _ _ _ (ix3 y0 ⟨y1.val * 8 + y2.val / 128, by omega⟩ ⟨y2.val % 128, Nat.mod_lt _ (by decide)⟩) ?_).trans ?_
  · have l : (S8x4096x1024.rowMajor (ix3 y0 y1 y2)).val = (y0.val * 4096 + y1.val) * 1024 + y2.val := Shape.rowMajor_val_three (ix3 y0 y1 y2 : S8x4096x1024.Idx)
    have r : (S8x32768x128.rowMajor (ix3 y0 ⟨y1.val * 8 + y2.val / 128, by omega⟩ ⟨y2.val % 128, Nat.mod_lt _ (by decide)⟩)).val
        = (y0.val * 32768 + (y1.val * 8 + y2.val / 128)) * 128 + y2.val % 128 := Shape.rowMajor_val_three (ix3 y0 _ _ : S8x32768x128.Idx)
    exact r.trans (Eq.trans (by omega) l.symm)
  · rw [← slabs_at m c _ y0 ⟨y1.val * 8 + y2.val / 128, by omega⟩ ⟨y2.val % 128, Nat.mod_lt _ (by decide)⟩ rfl rfl rfl]
    have a : (y1.val * 8 + y2.val / 128) / 8 = y1.val := by omega
    have b : (⟨128 * ((y1.val * 8 + y2.val / 128) % 8) + y2.val % 128, by omega⟩ : Fin 1024) = y2 := Fin.ext (by show 128 * ((y1.val * 8 + y2.val / 128) % 8) + y2.val % 128 = _; omega)
    exact congrArg₂ (result (aH m c) (aW m c) (aT m c) (aG m c) (aU m c) (aD m c) y0) a b

end Cert.Proof.Experts

end
-- ==== Proof.MoeClaims.lean ====
/- The experts layer: the kernel's result array is the plain program's. -/
module

public import proofs.«01_k».proof.Defs
public import proofs.«01_k».proof.Proof.MoeWhole

@[expose] public section

set_option maxRecDepth 16384

noncomputable section

namespace Cert.Proof.Experts

open Cert.MoeIdeal Cert.MoeIdeal.Gen Cert.Proof.ExpertsRef
open Idealize.ShloMosaic Idealize.ShloMosaic.TcCoe Idealize.SL.Sem

variable (m : (ℓ : Loc nD τ sig) → Buf (Elt Ideal) ℓ) (c : Dev nD)

theorem W_main_v7 : Pipeline.afterTail₀ cfgs (dats m) 0 (V0 m) [hostOps1] c main_v7
    = shapeCast S8x4096x1024 ((dats m 0 c).arrAt 6 (cfgs 0).N) shapeCasts_S8x32768x128_S8x4096x1024 := by
  unfold Pipeline.afterTail₀
  simp only [hostOps1, List.flatten_cons, List.flatten_nil, List.append_nil, List.cons_append, List.nil_append, StableHlo.after_cons, StableHlo.after_nil]
  after_results_simp
  have a := Pipeline.withArrays_arr (cfgs 0).spec (by exact (by decide : Function.Injective (Pipeline.arrRef spec0))) c (V0 m c) (fun w => (dats m 0 c).arrAt w (cfgs 0).N) 6
  exact congrArg (fun z => shapeCast S8x4096x1024 z shapeCasts_S8x32768x128_S8x4096x1024) a

theorem frame_ideal : Cert.quiescent_MoeIdeal := fun m ρ h => frame_run m ρ (words_of m h)

theorem frame_ref : Cert.quiescent_MoeRefIdeal := fun m ρ _ =>
  (θ_run Cert.MoeRefIdeal.defs _ _).mono
    (fun r h => ⟨fun c => (h c).2, Idealize.ShloMosaic.sem_eq_zero_of_no_sems (by decide) r.2⟩)
    (Cert.MoeRefIdeal.Value.run (F := Ideal) m ρ)

theorem preserves : Cert.preserves_Moe_MoeIdeal := trivial

theorem result_run (hw : Words m) (ρ : Dev nD → PrngReg) :
    θ_run defs (onTc (τ := τ) (main (F := Ideal))) ⟨m, fun _ => 0, ρ⟩ (fun r => ∀ c : Dev nD,
      r.2.mem ((c.tc : Thread nD τ).loc main_v7) = whole (aH m c) (aW m c) (aT m c) (aG m c) (aU m c) (aD m c)) :=
  (θ_run defs _ _).mono (fun _ h c => ((h.1 c).2 main_v7 (Pipeline.mem_restRefs_of main_v7 (by decide) (by decide))).trans
    ((W_main_v7 m c).trans ((congrArg (fun z => shapeCast S8x4096x1024 z shapeCasts_S8x32768x128_S8x4096x1024) (final m c hw)).trans (slabs_whole m c)))) (run_main m ρ hw)

theorem whole_congr (a0 b0 : FVec Ideal S8x4096x1024 .f32) (a1 b1 : IVec S8x16x512 32) (a2 b2 : FVec Ideal S8x16x512 .f32)
    (a3 b3 a4 b4 : FVec Ideal S16x1024x2048 .f32) (a5 b5 : FVec Ideal S16x2048x1024 .f32)
    (e0 : a0 = b0) (e1 : a1 = b1) (e2 : a2 = b2) (e3 : a3 = b3) (e4 : a4 = b4) (e5 : a5 = b5) :
    whole a0 a1 a2 a3 a4 a5 = whole b0 b1 b2 b3 b4 b5 := by
  rw [e0, e1, e2, e3, e4, e5]

theorem algebraic : Cert.algebraic_MoeIdeal_MoeRefIdeal := by
  intro m g m' g' hp hagree
  refine ⟨fun c => whole (aH m c) (aW m c) (aT m c) (aG m c) (aU m c) (aD m c), ?_, ?_⟩
  · have hw := words_of m hp
    refine θ_run_mono (θ_run_and (result_run m hw g) (frame_run m g hw)) fun r hr c => ?_
    exact ⟨hr.1 c, hr.2.1 c⟩
  · refine θ_run_mono (Cert.MoeRefIdeal.Value.run m' g') fun r hr c => ?_
    obtain ⟨h0, hk⟩ := hr c
    obtain ⟨e0, e1, e2, e3, e4, e5⟩ := hagree c
    exact ⟨h0.trans (whole_congr _ _ _ _ _ _ _ _ _ _ _ _ e0 e1 e2 e3 e4 e5), hk⟩

end Cert.Proof.Experts

end
-- ==== Proof.lean ====
module

public import proofs.«01_k».proof.Defs
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.MixerRefIdeal
public import proofs.«01_k».proof.Proof.Gen.MixerRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.NormValue
public import proofs.«01_k».proof.Proof.MixValue
public import proofs.«01_k».proof.Proof.Gen.Moe
public import proofs.«01_k».proof.Proof.Gen.Moe.Skeleton
public import proofs.«01_k».proof.Proof.Gen.Moe.Loops
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Loops
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeRefIdeal.Run
public import Idealize.ShloMosaic.Adequacy
public import Idealize.ShloMosaic.Init
public import Idealize.ShloMosaic.Lib.Quiescent
public import proofs.«01_k».proof.Proof.MoeSame
public import proofs.«01_k».proof.Proof.MoeClaims

@[expose] public section

noncomputable section

namespace Cert.Proof

open Idealize.ShloMosaic Idealize.SL.Sem Cert.Mixer

theorem frame_mixer : Cert.quiescent_Mixer := fun m ρ _ => Cert.Mixer.Gen.frame m ρ
theorem frame_mixer_ideal : Cert.quiescent_MixerIdeal := fun m ρ _ => Cert.MixerIdeal.Gen.frame m ρ
theorem frame_mixer_ref : Cert.quiescent_MixerRefIdeal := fun m ρ _ =>
  (θ_run Cert.MixerRefIdeal.defs _ _).mono
    (fun r h => ⟨fun c => (h c).2.2, Idealize.ShloMosaic.sem_eq_zero_of_no_sems (by decide) r.2⟩)
    (Cert.MixerRefIdeal.Value.run (F := Ideal) m ρ)
theorem frame_norm : Cert.quiescent_Norm := fun m ρ _ => Cert.Norm.Gen.frame m ρ
theorem frame_norm_ideal : Cert.quiescent_NormIdeal := fun m ρ _ => Cert.NormIdeal.Gen.frame m ρ
theorem frame_norm_ref : Cert.quiescent_NormRefIdeal := fun m ρ _ =>
  (θ_run Cert.NormRefIdeal.defs _ _).mono
    (fun r h => ⟨fun c => (h c).2, Idealize.ShloMosaic.sem_eq_zero_of_no_sems (by decide) r.2⟩)
    (Cert.NormRefIdeal.Value.run (F := Ideal) m ρ)
theorem preserves_mixer : Cert.preserves_Mixer_MixerIdeal := trivial
theorem preserves_norm : Cert.preserves_Norm_NormIdeal := trivial

theorem claim : Cert.Claim :=
  ⟨Cert.Mixer.Gen.facts, Cert.MixerIdeal.Gen.facts, Cert.MixerRefIdeal.Gen.facts,
    Cert.Norm.Gen.facts, Cert.NormIdeal.Gen.facts, Cert.NormRefIdeal.Gen.facts,
    Cert.Moe.Gen.facts, Cert.MoeIdeal.Gen.facts, Cert.MoeRefIdeal.Gen.facts, Experts.preFacts,
    frame_mixer, frame_mixer_ideal, frame_mixer_ref, frame_norm, frame_norm_ideal, frame_norm_ref,
    Experts.frame_moe, Experts.frame_ideal, Experts.frame_ref, fun m ρ _ => Experts.frame_ref m ρ trivial,
    preserves_mixer, MixerClaims.algebraic, preserves_norm, NormClaims.algebraic,
    Experts.preserves, Experts.algebraic⟩

end Cert.Proof

end
